-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_finite [hPre_finite : Cert.Pre_finite.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_finite.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3))) = (fun _ => 1#1)

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_RefPreIdeal (m : (ℓ : Loc Cert.RefPreIdeal.nD Cert.RefPreIdeal.τ Cert.RefPreIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_RefPostIdeal (m : (ℓ : Loc Cert.RefPostIdeal.nD Cert.RefPostIdeal.τ Cert.RefPostIdeal.sig) → Buf (Elt Ideal) ℓ) : Prop :=
  True

def Pre_PostSample (m : (ℓ : Loc Cert.PostSample.nD Cert.PostSample.τ Cert.PostSample.sig) → Buf (Elt Bits) ℓ) : Prop :=
  True

def Pre_PostSampleIdeal (m : (ℓ : Loc Cert.PostSampleIdeal.nD Cert.PostSampleIdeal.τ Cert.PostSampleIdeal.sig) → Buf (Elt Ideal) ℓ) : Prop :=
  True

def Pre_RefPostSampleIdeal (m : (ℓ : Loc Cert.RefPostSampleIdeal.nD Cert.RefPostSampleIdeal.τ Cert.RefPostSampleIdeal.sig) → Buf (Elt Ideal) ℓ) : Prop :=
  True

def Pre_PreSample (m : (ℓ : Loc Cert.PreSample.nD Cert.PreSample.τ Cert.PreSample.sig) → Buf (Elt Bits) ℓ) : Prop :=
  True

def Pre_PreSampleIdeal (m : (ℓ : Loc Cert.PreSampleIdeal.nD Cert.PreSampleIdeal.τ Cert.PreSampleIdeal.sig) → Buf (Elt Ideal) ℓ) : Prop :=
  True

def Pre_RefPreSampleIdeal (m : (ℓ : Loc Cert.RefPreSampleIdeal.nD Cert.RefPreSampleIdeal.τ Cert.RefPreSampleIdeal.sig) → Buf (Elt Ideal) ℓ) : Prop :=
  True

def Pre_AttnSample (m : (ℓ : Loc Cert.AttnSample.nD Cert.AttnSample.τ Cert.AttnSample.sig) → Buf (Elt Bits) ℓ) : Prop :=
  True

def Pre_AttnSampleIdeal (m : (ℓ : Loc Cert.AttnSampleIdeal.nD Cert.AttnSampleIdeal.τ Cert.AttnSampleIdeal.sig) → Buf (Elt Ideal) ℓ) : Prop :=
  True

def Pre_AttnSampleIdeal_finite_sample [hPre_finite_sample : Cert.Pre_finite_sample.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_finite_sample.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3))) = (fun _ => 1#1)

def Pre_RefAttnSampleIdeal (m : (ℓ : Loc Cert.RefAttnSampleIdeal.nD Cert.RefAttnSampleIdeal.τ Cert.RefAttnSampleIdeal.sig) → Buf (Elt Ideal) ℓ) : Prop :=
  True

def Pre_RefAttnSampleIdeal_finite_sample [hPre_finite_sample : Cert.Pre_finite_sample.Facts] (m : (ℓ : Loc Cert.RefAttnSampleIdeal.nD Cert.RefAttnSampleIdeal.τ Cert.RefAttnSampleIdeal.sig) → Buf (Elt Ideal) ℓ) : Prop :=
  ∀ c : Dev Cert.RefAttnSampleIdeal.nD,
    (Cert.Pre_finite_sample.fn (F := Ideal) (m ((c.tc : Thread Cert.RefAttnSampleIdeal.nD Cert.RefAttnSampleIdeal.τ).loc Cert.RefAttnSampleIdeal.main_arg0)) (m ((c.tc : Thread Cert.RefAttnSampleIdeal.nD Cert.RefAttnSampleIdeal.τ).loc Cert.RefAttnSampleIdeal.main_arg1)) (m ((c.tc : Thread Cert.RefAttnSampleIdeal.nD Cert.RefAttnSampleIdeal.τ).loc Cert.RefAttnSampleIdeal.main_arg2)) (m ((c.tc : Thread Cert.RefAttnSampleIdeal.nD Cert.RefAttnSampleIdeal.τ).loc Cert.RefAttnSampleIdeal.main_arg3))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3))
      ∧ r.2.sem = fun _ => 0)

def quiescent_RefAttnIdeal_pre_finite [hRefAttnIdeal : Cert.RefAttnIdeal.Facts] [hPre_finite : Cert.Pre_finite.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_finite m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5))
      ∧ r.2.sem = fun _ => 0)

def quiescent_RefPreIdeal [hRefPreIdeal : Cert.RefPreIdeal.Facts] : Prop :=
  ∀ (m : (ℓ : Loc Cert.RefPreIdeal.nD Cert.RefPreIdeal.τ Cert.RefPreIdeal.sig) → Buf (Elt Ideal) ℓ) (g : Dev Cert.RefPreIdeal.nD → PrngReg), Pre_RefPreIdeal m →
    θ_run (Cert.RefPreIdeal.defs (F := Ideal)) (onTc (τ := Cert.RefPreIdeal.τ) (Cert.RefPreIdeal.main (F := Ideal))) ⟨m, fun _ => 0, g⟩ (fun r => (∀ c : Dev Cert.RefPreIdeal.nD,
      r.2.mem ((c.tc : Thread Cert.RefPreIdeal.nD Cert.RefPreIdeal.τ).loc Cert.RefPreIdeal.main_arg0) = m ((c.tc : Thread Cert.RefPreIdeal.nD Cert.RefPreIdeal.τ).loc Cert.RefPreIdeal.main_arg0)
      ∧ r.2.mem ((c.tc : Thread Cert.RefPreIdeal.nD Cert.RefPreIdeal.τ).loc Cert.RefPreIdeal.main_arg1) = m ((c.tc : Thread Cert.RefPreIdeal.nD Cert.RefPreIdeal.τ).loc Cert.RefPreIdeal.main_arg1)
      ∧ r.2.mem ((c.tc : Thread Cert.RefPreIdeal.nD Cert.RefPreIdeal.τ).loc Cert.RefPreIdeal.main_arg2) = m ((c.tc : Thread Cert.RefPreIdeal.nD Cert.RefPreIdeal.τ).loc Cert.RefPreIdeal.main_arg2)
      ∧ r.2.mem ((c.tc : Thread Cert.RefPreIdeal.nD Cert.RefPreIdeal.τ).loc Cert.RefPreIdeal.main_arg3) = m ((c.tc : Thread Cert.RefPreIdeal.nD Cert.RefPreIdeal.τ).loc Cert.RefPreIdeal.main_arg3)
      ∧ r.2.mem ((c.tc : Thread Cert.RefPreIdeal.nD Cert.RefPreIdeal.τ).loc Cert.RefPreIdeal.main_arg4) = m ((c.tc : Thread Cert.RefPreIdeal.nD Cert.RefPreIdeal.τ).loc Cert.RefPreIdeal.main_arg4)
      ∧ r.2.mem ((c.tc : Thread Cert.RefPreIdeal.nD Cert.RefPreIdeal.τ).loc Cert.RefPreIdeal.main_arg5) = m ((c.tc : Thread Cert.RefPreIdeal.nD Cert.RefPreIdeal.τ).loc Cert.RefPreIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ r.2.sem = fun _ => 0)

def quiescent_RefPostIdeal [hRefPostIdeal : Cert.RefPostIdeal.Facts] : Prop :=
  ∀ (m : (ℓ : Loc Cert.RefPostIdeal.nD Cert.RefPostIdeal.τ Cert.RefPostIdeal.sig) → Buf (Elt Ideal) ℓ) (g : Dev Cert.RefPostIdeal.nD → PrngReg), Pre_RefPostIdeal m →
    θ_run (Cert.RefPostIdeal.defs (F := Ideal)) (onTc (τ := Cert.RefPostIdeal.τ) (Cert.RefPostIdeal.main (F := Ideal))) ⟨m, fun _ => 0, g⟩ (fun r => (∀ c : Dev Cert.RefPostIdeal.nD,
      r.2.mem ((c.tc : Thread Cert.RefPostIdeal.nD Cert.RefPostIdeal.τ).loc Cert.RefPostIdeal.main_arg0) = m ((c.tc : Thread Cert.RefPostIdeal.nD Cert.RefPostIdeal.τ).loc Cert.RefPostIdeal.main_arg0)
      ∧ r.2.mem ((c.tc : Thread Cert.RefPostIdeal.nD Cert.RefPostIdeal.τ).loc Cert.RefPostIdeal.main_arg1) = m ((c.tc : Thread Cert.RefPostIdeal.nD Cert.RefPostIdeal.τ).loc Cert.RefPostIdeal.main_arg1)
      ∧ r.2.mem ((c.tc : Thread Cert.RefPostIdeal.nD Cert.RefPostIdeal.τ).loc Cert.RefPostIdeal.main_arg2) = m ((c.tc : Thread Cert.RefPostIdeal.nD Cert.RefPostIdeal.τ).loc Cert.RefPostIdeal.main_arg2)
      ∧ r.2.mem ((c.tc : Thread Cert.RefPostIdeal.nD Cert.RefPostIdeal.τ).loc Cert.RefPostIdeal.main_arg3) = m ((c.tc : Thread Cert.RefPostIdeal.nD Cert.RefPostIdeal.τ).loc Cert.RefPostIdeal.main_arg3)
      ∧ r.2.mem ((c.tc : Thread Cert.RefPostIdeal.nD Cert.RefPostIdeal.τ).loc Cert.RefPostIdeal.main_arg4) = m ((c.tc : Thread Cert.RefPostIdeal.nD Cert.RefPostIdeal.τ).loc Cert.RefPostIdeal.main_arg4)
      ∧ r.2.mem ((c.tc : Thread Cert.RefPostIdeal.nD Cert.RefPostIdeal.τ).loc Cert.RefPostIdeal.main_arg5) = m ((c.tc : Thread Cert.RefPostIdeal.nD Cert.RefPostIdeal.τ).loc Cert.RefPostIdeal.main_arg5)
      ∧ r.2.mem ((c.tc : Thread Cert.RefPostIdeal.nD Cert.RefPostIdeal.τ).loc Cert.RefPostIdeal.main_arg6) = m ((c.tc : Thread Cert.RefPostIdeal.nD Cert.RefPostIdeal.τ).loc Cert.RefPostIdeal.main_arg6)
      ∧ r.2.mem ((c.tc : Thread Cert.RefPostIdeal.nD Cert.RefPostIdeal.τ).loc Cert.RefPostIdeal.main_arg7) = m ((c.tc : Thread Cert.RefPostIdeal.nD Cert.RefPostIdeal.τ).loc Cert.RefPostIdeal.main_arg7)
      ∧ r.2.mem ((c.tc : Thread Cert.RefPostIdeal.nD Cert.RefPostIdeal.τ).loc Cert.RefPostIdeal.main_arg8) = m ((c.tc : Thread Cert.RefPostIdeal.nD Cert.RefPostIdeal.τ).loc Cert.RefPostIdeal.main_arg8)
      ∧ r.2.mem ((c.tc : Thread Cert.RefPostIdeal.nD Cert.RefPostIdeal.τ).loc Cert.RefPostIdeal.main_arg9) = m ((c.tc : Thread Cert.RefPostIdeal.nD Cert.RefPostIdeal.τ).loc Cert.RefPostIdeal.main_arg9)
      ∧ r.2.mem ((c.tc : Thread Cert.RefPostIdeal.nD Cert.RefPostIdeal.τ).loc Cert.RefPostIdeal.main_arg10) = m ((c.tc : Thread Cert.RefPostIdeal.nD Cert.RefPostIdeal.τ).loc Cert.RefPostIdeal.main_arg10)
      ∧ r.2.mem ((c.tc : Thread Cert.RefPostIdeal.nD Cert.RefPostIdeal.τ).loc Cert.RefPostIdeal.main_arg11) = m ((c.tc : Thread Cert.RefPostIdeal.nD Cert.RefPostIdeal.τ).loc Cert.RefPostIdeal.main_arg11)
      ∧ r.2.mem ((c.tc : Thread Cert.RefPostIdeal.nD Cert.RefPostIdeal.τ).loc Cert.RefPostIdeal.main_arg12) = m ((c.tc : Thread Cert.RefPostIdeal.nD Cert.RefPostIdeal.τ).loc Cert.RefPostIdeal.main_arg12))
      ∧ r.2.sem = fun _ => 0)

def quiescent_PostSample [hPostSample : Cert.PostSample.Facts] : Prop :=
  ∀ (m : (ℓ : Loc Cert.PostSample.nD Cert.PostSample.τ Cert.PostSample.sig) → Buf (Elt Bits) ℓ) (g : Dev Cert.PostSample.nD → PrngReg), Pre_PostSample m →
    θ_run (Cert.PostSample.defs (F := Bits)) (onTc (τ := Cert.PostSample.τ) (Cert.PostSample.main (F := Bits))) ⟨m, fun _ => 0, g⟩ (fun r => (∀ c : Dev Cert.PostSample.nD,
      r.2.mem ((c.tc : Thread Cert.PostSample.nD Cert.PostSample.τ).loc Cert.PostSample.main_arg0) = m ((c.tc : Thread Cert.PostSample.nD Cert.PostSample.τ).loc Cert.PostSample.main_arg0)
      ∧ r.2.mem ((c.tc : Thread Cert.PostSample.nD Cert.PostSample.τ).loc Cert.PostSample.main_arg1) = m ((c.tc : Thread Cert.PostSample.nD Cert.PostSample.τ).loc Cert.PostSample.main_arg1)
      ∧ r.2.mem ((c.tc : Thread Cert.PostSample.nD Cert.PostSample.τ).loc Cert.PostSample.main_arg2) = m ((c.tc : Thread Cert.PostSample.nD Cert.PostSample.τ).loc Cert.PostSample.main_arg2)
      ∧ r.2.mem ((c.tc : Thread Cert.PostSample.nD Cert.PostSample.τ).loc Cert.PostSample.main_arg3) = m ((c.tc : Thread Cert.PostSample.nD Cert.PostSample.τ).loc Cert.PostSample.main_arg3)
      ∧ r.2.mem ((c.tc : Thread Cert.PostSample.nD Cert.PostSample.τ).loc Cert.PostSample.main_arg4) = m ((c.tc : Thread Cert.PostSample.nD Cert.PostSample.τ).loc Cert.PostSample.main_arg4)
      ∧ r.2.mem ((c.tc : Thread Cert.PostSample.nD Cert.PostSample.τ).loc Cert.PostSample.main_arg5) = m ((c.tc : Thread Cert.PostSample.nD Cert.PostSample.τ).loc Cert.PostSample.main_arg5)
      ∧ r.2.mem ((c.tc : Thread Cert.PostSample.nD Cert.PostSample.τ).loc Cert.PostSample.main_arg6) = m ((c.tc : Thread Cert.PostSample.nD Cert.PostSample.τ).loc Cert.PostSample.main_arg6)
      ∧ r.2.mem ((c.tc : Thread Cert.PostSample.nD Cert.PostSample.τ).loc Cert.PostSample.main_arg7) = m ((c.tc : Thread Cert.PostSample.nD Cert.PostSample.τ).loc Cert.PostSample.main_arg7)
      ∧ r.2.mem ((c.tc : Thread Cert.PostSample.nD Cert.PostSample.τ).loc Cert.PostSample.main_arg8) = m ((c.tc : Thread Cert.PostSample.nD Cert.PostSample.τ).loc Cert.PostSample.main_arg8)
      ∧ r.2.mem ((c.tc : Thread Cert.PostSample.nD Cert.PostSample.τ).loc Cert.PostSample.main_arg9) = m ((c.tc : Thread Cert.PostSample.nD Cert.PostSample.τ).loc Cert.PostSample.main_arg9)
      ∧ r.2.mem ((c.tc : Thread Cert.PostSample.nD Cert.PostSample.τ).loc Cert.PostSample.main_arg10) = m ((c.tc : Thread Cert.PostSample.nD Cert.PostSample.τ).loc Cert.PostSample.main_arg10)
      ∧ r.2.mem ((c.tc : Thread Cert.PostSample.nD Cert.PostSample.τ).loc Cert.PostSample.main_arg11) = m ((c.tc : Thread Cert.PostSample.nD Cert.PostSample.τ).loc Cert.PostSample.main_arg11)
      ∧ r.2.mem ((c.tc : Thread Cert.PostSample.nD Cert.PostSample.τ).loc Cert.PostSample.main_arg12) = m ((c.tc : Thread Cert.PostSample.nD Cert.PostSample.τ).loc Cert.PostSample.main_arg12))
      ∧ r.2.sem = fun _ => 0)

def quiescent_PostSampleIdeal [hPostSampleIdeal : Cert.PostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg), Pre_PostSampleIdeal m →
    θ_run (Cert.PostSampleIdeal.defs (F := Ideal)) (onTc (τ := Cert.PostSampleIdeal.τ) (Cert.PostSampleIdeal.main (F := Ideal))) ⟨m, fun _ => 0, g⟩ (fun r => (∀ c : Dev Cert.PostSampleIdeal.nD,
      r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
      ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
      ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
      ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
      ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
      ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
      ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
      ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
      ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
      ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9)
      ∧ r.2.mem ((c.tc : Thread Cert.PostSampleIdeal.nD Cert.PostSampleIdeal.τ).loc Cert.PostSampleIdeal.main_arg10) = m ((c.tc : Thread Cert.PostSampleIdeal.nD Cert.PostSampleIdeal.τ).loc Cert.PostSampleIdeal.main_arg10)
      ∧ r.2.mem ((c.tc : Thread Cert.PostSampleIdeal.nD Cert.PostSampleIdeal.τ).loc Cert.PostSampleIdeal.main_arg11) = m ((c.tc : Thread Cert.PostSampleIdeal.nD Cert.PostSampleIdeal.τ).loc Cert.PostSampleIdeal.main_arg11)
      ∧ r.2.mem ((c.tc : Thread Cert.PostSampleIdeal.nD Cert.PostSampleIdeal.τ).loc Cert.PostSampleIdeal.main_arg12) = m ((c.tc : Thread Cert.PostSampleIdeal.nD Cert.PostSampleIdeal.τ).loc Cert.PostSampleIdeal.main_arg12))
      ∧ r.2.sem = fun _ => 0)

def quiescent_RefPostSampleIdeal [hRefPostSampleIdeal : Cert.RefPostSampleIdeal.Facts] : Prop :=
  ∀ (m : (ℓ : Loc Cert.RefPostSampleIdeal.nD Cert.RefPostSampleIdeal.τ Cert.RefPostSampleIdeal.sig) → Buf (Elt Ideal) ℓ) (g : Dev Cert.RefPostSampleIdeal.nD → PrngReg), Pre_RefPostSampleIdeal m →
    θ_run (Cert.RefPostSampleIdeal.defs (F := Ideal)) (onTc (τ := Cert.RefPostSampleIdeal.τ) (Cert.RefPostSampleIdeal.main (F := Ideal))) ⟨m, fun _ => 0, g⟩ (fun r => (∀ c : Dev Cert.RefPostSampleIdeal.nD,
      r.2.mem ((c.tc : Thread Cert.RefPostSampleIdeal.nD Cert.RefPostSampleIdeal.τ).loc Cert.RefPostSampleIdeal.main_arg0) = m ((c.tc : Thread Cert.RefPostSampleIdeal.nD Cert.RefPostSampleIdeal.τ).loc Cert.RefPostSampleIdeal.main_arg0)
      ∧ r.2.mem ((c.tc : Thread Cert.RefPostSampleIdeal.nD Cert.RefPostSampleIdeal.τ).loc Cert.RefPostSampleIdeal.main_arg1) = m ((c.tc : Thread Cert.RefPostSampleIdeal.nD Cert.RefPostSampleIdeal.τ).loc Cert.RefPostSampleIdeal.main_arg1)
      ∧ r.2.mem ((c.tc : Thread Cert.RefPostSampleIdeal.nD Cert.RefPostSampleIdeal.τ).loc Cert.RefPostSampleIdeal.main_arg2) = m ((c.tc : Thread Cert.RefPostSampleIdeal.nD Cert.RefPostSampleIdeal.τ).loc Cert.RefPostSampleIdeal.main_arg2)
      ∧ r.2.mem ((c.tc : Thread Cert.RefPostSampleIdeal.nD Cert.RefPostSampleIdeal.τ).loc Cert.RefPostSampleIdeal.main_arg3) = m ((c.tc : Thread Cert.RefPostSampleIdeal.nD Cert.RefPostSampleIdeal.τ).loc Cert.RefPostSampleIdeal.main_arg3)
      ∧ r.2.mem ((c.tc : Thread Cert.RefPostSampleIdeal.nD Cert.RefPostSampleIdeal.τ).loc Cert.RefPostSampleIdeal.main_arg4) = m ((c.tc : Thread Cert.RefPostSampleIdeal.nD Cert.RefPostSampleIdeal.τ).loc Cert.RefPostSampleIdeal.main_arg4)
      ∧ r.2.mem ((c.tc : Thread Cert.RefPostSampleIdeal.nD Cert.RefPostSampleIdeal.τ).loc Cert.RefPostSampleIdeal.main_arg5) = m ((c.tc : Thread Cert.RefPostSampleIdeal.nD Cert.RefPostSampleIdeal.τ).loc Cert.RefPostSampleIdeal.main_arg5)
      ∧ r.2.mem ((c.tc : Thread Cert.RefPostSampleIdeal.nD Cert.RefPostSampleIdeal.τ).loc Cert.RefPostSampleIdeal.main_arg6) = m ((c.tc : Thread Cert.RefPostSampleIdeal.nD Cert.RefPostSampleIdeal.τ).loc Cert.RefPostSampleIdeal.main_arg6)
      ∧ r.2.mem ((c.tc : Thread Cert.RefPostSampleIdeal.nD Cert.RefPostSampleIdeal.τ).loc Cert.RefPostSampleIdeal.main_arg7) = m ((c.tc : Thread Cert.RefPostSampleIdeal.nD Cert.RefPostSampleIdeal.τ).loc Cert.RefPostSampleIdeal.main_arg7)
      ∧ r.2.mem ((c.tc : Thread Cert.RefPostSampleIdeal.nD Cert.RefPostSampleIdeal.τ).loc Cert.RefPostSampleIdeal.main_arg8) = m ((c.tc : Thread Cert.RefPostSampleIdeal.nD Cert.RefPostSampleIdeal.τ).loc Cert.RefPostSampleIdeal.main_arg8)
      ∧ r.2.mem ((c.tc : Thread Cert.RefPostSampleIdeal.nD Cert.RefPostSampleIdeal.τ).loc Cert.RefPostSampleIdeal.main_arg9) = m ((c.tc : Thread Cert.RefPostSampleIdeal.nD Cert.RefPostSampleIdeal.τ).loc Cert.RefPostSampleIdeal.main_arg9)
      ∧ r.2.mem ((c.tc : Thread Cert.RefPostSampleIdeal.nD Cert.RefPostSampleIdeal.τ).loc Cert.RefPostSampleIdeal.main_arg10) = m ((c.tc : Thread Cert.RefPostSampleIdeal.nD Cert.RefPostSampleIdeal.τ).loc Cert.RefPostSampleIdeal.main_arg10)
      ∧ r.2.mem ((c.tc : Thread Cert.RefPostSampleIdeal.nD Cert.RefPostSampleIdeal.τ).loc Cert.RefPostSampleIdeal.main_arg11) = m ((c.tc : Thread Cert.RefPostSampleIdeal.nD Cert.RefPostSampleIdeal.τ).loc Cert.RefPostSampleIdeal.main_arg11)
      ∧ r.2.mem ((c.tc : Thread Cert.RefPostSampleIdeal.nD Cert.RefPostSampleIdeal.τ).loc Cert.RefPostSampleIdeal.main_arg12) = m ((c.tc : Thread Cert.RefPostSampleIdeal.nD Cert.RefPostSampleIdeal.τ).loc Cert.RefPostSampleIdeal.main_arg12))
      ∧ r.2.sem = fun _ => 0)

def quiescent_PreSample [hPreSample : Cert.PreSample.Facts] : Prop :=
  ∀ (m : (ℓ : Loc Cert.PreSample.nD Cert.PreSample.τ Cert.PreSample.sig) → Buf (Elt Bits) ℓ) (g : Dev Cert.PreSample.nD → PrngReg), Pre_PreSample m →
    θ_run (Cert.PreSample.defs (F := Bits)) (onTc (τ := Cert.PreSample.τ) (Cert.PreSample.main (F := Bits))) ⟨m, fun _ => 0, g⟩ (fun r => (∀ c : Dev Cert.PreSample.nD,
      r.2.mem ((c.tc : Thread Cert.PreSample.nD Cert.PreSample.τ).loc Cert.PreSample.main_arg0) = m ((c.tc : Thread Cert.PreSample.nD Cert.PreSample.τ).loc Cert.PreSample.main_arg0)
      ∧ r.2.mem ((c.tc : Thread Cert.PreSample.nD Cert.PreSample.τ).loc Cert.PreSample.main_arg1) = m ((c.tc : Thread Cert.PreSample.nD Cert.PreSample.τ).loc Cert.PreSample.main_arg1)
      ∧ r.2.mem ((c.tc : Thread Cert.PreSample.nD Cert.PreSample.τ).loc Cert.PreSample.main_arg2) = m ((c.tc : Thread Cert.PreSample.nD Cert.PreSample.τ).loc Cert.PreSample.main_arg2)
      ∧ r.2.mem ((c.tc : Thread Cert.PreSample.nD Cert.PreSample.τ).loc Cert.PreSample.main_arg3) = m ((c.tc : Thread Cert.PreSample.nD Cert.PreSample.τ).loc Cert.PreSample.main_arg3)
      ∧ r.2.mem ((c.tc : Thread Cert.PreSample.nD Cert.PreSample.τ).loc Cert.PreSample.main_arg4) = m ((c.tc : Thread Cert.PreSample.nD Cert.PreSample.τ).loc Cert.PreSample.main_arg4)
      ∧ r.2.mem ((c.tc : Thread Cert.PreSample.nD Cert.PreSample.τ).loc Cert.PreSample.main_arg5) = m ((c.tc : Thread Cert.PreSample.nD Cert.PreSample.τ).loc Cert.PreSample.main_arg5))
      ∧ r.2.sem = fun _ => 0)

def quiescent_PreSampleIdeal [hPreSampleIdeal : Cert.PreSampleIdeal.Facts] : Prop :=
  ∀ (m : (ℓ : Loc Cert.PreSampleIdeal.nD Cert.PreSampleIdeal.τ Cert.PreSampleIdeal.sig) → Buf (Elt Ideal) ℓ) (g : Dev Cert.PreSampleIdeal.nD → PrngReg), Pre_PreSampleIdeal m →
    θ_run (Cert.PreSampleIdeal.defs (F := Ideal)) (onTc (τ := Cert.PreSampleIdeal.τ) (Cert.PreSampleIdeal.main (F := Ideal))) ⟨m, fun _ => 0, g⟩ (fun r => (∀ c : Dev Cert.PreSampleIdeal.nD,
      r.2.mem ((c.tc : Thread Cert.PreSampleIdeal.nD Cert.PreSampleIdeal.τ).loc Cert.PreSampleIdeal.main_arg0) = m ((c.tc : Thread Cert.PreSampleIdeal.nD Cert.PreSampleIdeal.τ).loc Cert.PreSampleIdeal.main_arg0)
      ∧ r.2.mem ((c.tc : Thread Cert.PreSampleIdeal.nD Cert.PreSampleIdeal.τ).loc Cert.PreSampleIdeal.main_arg1) = m ((c.tc : Thread Cert.PreSampleIdeal.nD Cert.PreSampleIdeal.τ).loc Cert.PreSampleIdeal.main_arg1)
      ∧ r.2.mem ((c.tc : Thread Cert.PreSampleIdeal.nD Cert.PreSampleIdeal.τ).loc Cert.PreSampleIdeal.main_arg2) = m ((c.tc : Thread Cert.PreSampleIdeal.nD Cert.PreSampleIdeal.τ).loc Cert.PreSampleIdeal.main_arg2)
      ∧ r.2.mem ((c.tc : Thread Cert.PreSampleIdeal.nD Cert.PreSampleIdeal.τ).loc Cert.PreSampleIdeal.main_arg3) = m ((c.tc : Thread Cert.PreSampleIdeal.nD Cert.PreSampleIdeal.τ).loc Cert.PreSampleIdeal.main_arg3)
      ∧ r.2.mem ((c.tc : Thread Cert.PreSampleIdeal.nD Cert.PreSampleIdeal.τ).loc Cert.PreSampleIdeal.main_arg4) = m ((c.tc : Thread Cert.PreSampleIdeal.nD Cert.PreSampleIdeal.τ).loc Cert.PreSampleIdeal.main_arg4)
      ∧ r.2.mem ((c.tc : Thread Cert.PreSampleIdeal.nD Cert.PreSampleIdeal.τ).loc Cert.PreSampleIdeal.main_arg5) = m ((c.tc : Thread Cert.PreSampleIdeal.nD Cert.PreSampleIdeal.τ).loc Cert.PreSampleIdeal.main_arg5))
      ∧ r.2.sem = fun _ => 0)

def quiescent_RefPreSampleIdeal [hRefPreSampleIdeal : Cert.RefPreSampleIdeal.Facts] : Prop :=
  ∀ (m : (ℓ : Loc Cert.RefPreSampleIdeal.nD Cert.RefPreSampleIdeal.τ Cert.RefPreSampleIdeal.sig) → Buf (Elt Ideal) ℓ) (g : Dev Cert.RefPreSampleIdeal.nD → PrngReg), Pre_RefPreSampleIdeal m →
    θ_run (Cert.RefPreSampleIdeal.defs (F := Ideal)) (onTc (τ := Cert.RefPreSampleIdeal.τ) (Cert.RefPreSampleIdeal.main (F := Ideal))) ⟨m, fun _ => 0, g⟩ (fun r => (∀ c : Dev Cert.RefPreSampleIdeal.nD,
      r.2.mem ((c.tc : Thread Cert.RefPreSampleIdeal.nD Cert.RefPreSampleIdeal.τ).loc Cert.RefPreSampleIdeal.main_arg0) = m ((c.tc : Thread Cert.RefPreSampleIdeal.nD Cert.RefPreSampleIdeal.τ).loc Cert.RefPreSampleIdeal.main_arg0)
      ∧ r.2.mem ((c.tc : Thread Cert.RefPreSampleIdeal.nD Cert.RefPreSampleIdeal.τ).loc Cert.RefPreSampleIdeal.main_arg1) = m ((c.tc : Thread Cert.RefPreSampleIdeal.nD Cert.RefPreSampleIdeal.τ).loc Cert.RefPreSampleIdeal.main_arg1)
      ∧ r.2.mem ((c.tc : Thread Cert.RefPreSampleIdeal.nD Cert.RefPreSampleIdeal.τ).loc Cert.RefPreSampleIdeal.main_arg2) = m ((c.tc : Thread Cert.RefPreSampleIdeal.nD Cert.RefPreSampleIdeal.τ).loc Cert.RefPreSampleIdeal.main_arg2)
      ∧ r.2.mem ((c.tc : Thread Cert.RefPreSampleIdeal.nD Cert.RefPreSampleIdeal.τ).loc Cert.RefPreSampleIdeal.main_arg3) = m ((c.tc : Thread Cert.RefPreSampleIdeal.nD Cert.RefPreSampleIdeal.τ).loc Cert.RefPreSampleIdeal.main_arg3)
      ∧ r.2.mem ((c.tc : Thread Cert.RefPreSampleIdeal.nD Cert.RefPreSampleIdeal.τ).loc Cert.RefPreSampleIdeal.main_arg4) = m ((c.tc : Thread Cert.RefPreSampleIdeal.nD Cert.RefPreSampleIdeal.τ).loc Cert.RefPreSampleIdeal.main_arg4)
      ∧ r.2.mem ((c.tc : Thread Cert.RefPreSampleIdeal.nD Cert.RefPreSampleIdeal.τ).loc Cert.RefPreSampleIdeal.main_arg5) = m ((c.tc : Thread Cert.RefPreSampleIdeal.nD Cert.RefPreSampleIdeal.τ).loc Cert.RefPreSampleIdeal.main_arg5))
      ∧ r.2.sem = fun _ => 0)

def quiescent_AttnSample [hAttnSample : Cert.AttnSample.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3))
      ∧ r.2.sem = fun _ => 0)

def quiescent_AttnSampleIdeal [hAttnSampleIdeal : Cert.AttnSampleIdeal.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ r.2.sem = fun _ => 0)

def quiescent_AttnSampleIdeal_pre_finite_sample [hAttnSampleIdeal : Cert.AttnSampleIdeal.Facts] [hPre_finite_sample : Cert.Pre_finite_sample.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal_finite_sample m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ r.2.sem = fun _ => 0)

def quiescent_RefAttnSampleIdeal [hRefAttnSampleIdeal : Cert.RefAttnSampleIdeal.Facts] : Prop :=
  ∀ (m : (ℓ : Loc Cert.RefAttnSampleIdeal.nD Cert.RefAttnSampleIdeal.τ Cert.RefAttnSampleIdeal.sig) → Buf (Elt Ideal) ℓ) (g : Dev Cert.RefAttnSampleIdeal.nD → PrngReg), Pre_RefAttnSampleIdeal m →
    θ_run (Cert.RefAttnSampleIdeal.defs (F := Ideal)) (onTc (τ := Cert.RefAttnSampleIdeal.τ) (Cert.RefAttnSampleIdeal.main (F := Ideal))) ⟨m, fun _ => 0, g⟩ (fun r => (∀ c : Dev Cert.RefAttnSampleIdeal.nD,
      r.2.mem ((c.tc : Thread Cert.RefAttnSampleIdeal.nD Cert.RefAttnSampleIdeal.τ).loc Cert.RefAttnSampleIdeal.main_arg0) = m ((c.tc : Thread Cert.RefAttnSampleIdeal.nD Cert.RefAttnSampleIdeal.τ).loc Cert.RefAttnSampleIdeal.main_arg0)
      ∧ r.2.mem ((c.tc : Thread Cert.RefAttnSampleIdeal.nD Cert.RefAttnSampleIdeal.τ).loc Cert.RefAttnSampleIdeal.main_arg1) = m ((c.tc : Thread Cert.RefAttnSampleIdeal.nD Cert.RefAttnSampleIdeal.τ).loc Cert.RefAttnSampleIdeal.main_arg1)
      ∧ r.2.mem ((c.tc : Thread Cert.RefAttnSampleIdeal.nD Cert.RefAttnSampleIdeal.τ).loc Cert.RefAttnSampleIdeal.main_arg2) = m ((c.tc : Thread Cert.RefAttnSampleIdeal.nD Cert.RefAttnSampleIdeal.τ).loc Cert.RefAttnSampleIdeal.main_arg2)
      ∧ r.2.mem ((c.tc : Thread Cert.RefAttnSampleIdeal.nD Cert.RefAttnSampleIdeal.τ).loc Cert.RefAttnSampleIdeal.main_arg3) = m ((c.tc : Thread Cert.RefAttnSampleIdeal.nD Cert.RefAttnSampleIdeal.τ).loc Cert.RefAttnSampleIdeal.main_arg3))
      ∧ r.2.sem = fun _ => 0)

def quiescent_RefAttnSampleIdeal_pre_finite_sample [hRefAttnSampleIdeal : Cert.RefAttnSampleIdeal.Facts] [hPre_finite_sample : Cert.Pre_finite_sample.Facts] : Prop :=
  ∀ (m : (ℓ : Loc Cert.RefAttnSampleIdeal.nD Cert.RefAttnSampleIdeal.τ Cert.RefAttnSampleIdeal.sig) → Buf (Elt Ideal) ℓ) (g : Dev Cert.RefAttnSampleIdeal.nD → PrngReg), Pre_RefAttnSampleIdeal_finite_sample m →
    θ_run (Cert.RefAttnSampleIdeal.defs (F := Ideal)) (onTc (τ := Cert.RefAttnSampleIdeal.τ) (Cert.RefAttnSampleIdeal.main (F := Ideal))) ⟨m, fun _ => 0, g⟩ (fun r => (∀ c : Dev Cert.RefAttnSampleIdeal.nD,
      r.2.mem ((c.tc : Thread Cert.RefAttnSampleIdeal.nD Cert.RefAttnSampleIdeal.τ).loc Cert.RefAttnSampleIdeal.main_arg0) = m ((c.tc : Thread Cert.RefAttnSampleIdeal.nD Cert.RefAttnSampleIdeal.τ).loc Cert.RefAttnSampleIdeal.main_arg0)
      ∧ r.2.mem ((c.tc : Thread Cert.RefAttnSampleIdeal.nD Cert.RefAttnSampleIdeal.τ).loc Cert.RefAttnSampleIdeal.main_arg1) = m ((c.tc : Thread Cert.RefAttnSampleIdeal.nD Cert.RefAttnSampleIdeal.τ).loc Cert.RefAttnSampleIdeal.main_arg1)
      ∧ r.2.mem ((c.tc : Thread Cert.RefAttnSampleIdeal.nD Cert.RefAttnSampleIdeal.τ).loc Cert.RefAttnSampleIdeal.main_arg2) = m ((c.tc : Thread Cert.RefAttnSampleIdeal.nD Cert.RefAttnSampleIdeal.τ).loc Cert.RefAttnSampleIdeal.main_arg2)
      ∧ r.2.mem ((c.tc : Thread Cert.RefAttnSampleIdeal.nD Cert.RefAttnSampleIdeal.τ).loc Cert.RefAttnSampleIdeal.main_arg3) = m ((c.tc : Thread Cert.RefAttnSampleIdeal.nD Cert.RefAttnSampleIdeal.τ).loc Cert.RefAttnSampleIdeal.main_arg3))
      ∧ r.2.sem = fun _ => 0)

def preserves_Attn_AttnIdeal : Prop :=
  IdealRules.named_const.Statement Cert.AttnIdeal.κ "neg" .f32 0xF149F2CA#32 ⊥

def algebraic_AttnIdeal_RefAttnIdeal_pre_finite [hAttnIdeal : Cert.AttnIdeal.Facts] [hRefAttnIdeal : Cert.RefAttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_finite m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)
      ∧ m' ((c.tc : Thread Cert.RefAttnIdeal.nD Cert.RefAttnIdeal.τ).loc Cert.RefAttnIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v65) = v0 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2)
          ∧ r.2.mem ((c.tc : Thread Cert.RefAttnIdeal.nD Cert.RefAttnIdeal.τ).loc Cert.RefAttnIdeal.main_arg3) = m' ((c.tc : Thread Cert.RefAttnIdeal.nD Cert.RefAttnIdeal.τ).loc Cert.RefAttnIdeal.main_arg3))

def preserves_Pre_PreIdeal : Prop :=
  True

def algebraic_PreIdeal_RefPreIdeal [hPreIdeal : Cert.PreIdeal.Facts] [hRefPreIdeal : Cert.RefPreIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.RefPreIdeal.nD Cert.RefPreIdeal.τ Cert.RefPreIdeal.sig) → Buf (Elt Ideal) ℓ) (g' : Dev Cert.RefPreIdeal.nD → PrngReg), Pre_PreIdeal m →
    (∀ c : Dev Cert.PreIdeal.nD,
      m' ((c.tc : Thread Cert.RefPreIdeal.nD Cert.RefPreIdeal.τ).loc Cert.RefPreIdeal.main_arg0) = m ((c.tc : Thread Cert.PreIdeal.nD Cert.PreIdeal.τ).loc Cert.PreIdeal.main_arg0)
      ∧ m' ((c.tc : Thread Cert.RefPreIdeal.nD Cert.RefPreIdeal.τ).loc Cert.RefPreIdeal.main_arg1) = m ((c.tc : Thread Cert.PreIdeal.nD Cert.PreIdeal.τ).loc Cert.PreIdeal.main_arg1)
      ∧ m' ((c.tc : Thread Cert.RefPreIdeal.nD Cert.RefPreIdeal.τ).loc Cert.RefPreIdeal.main_arg2) = m ((c.tc : Thread Cert.PreIdeal.nD Cert.PreIdeal.τ).loc Cert.PreIdeal.main_arg2)
      ∧ m' ((c.tc : Thread Cert.RefPreIdeal.nD Cert.RefPreIdeal.τ).loc Cert.RefPreIdeal.main_arg3) = m ((c.tc : Thread Cert.PreIdeal.nD Cert.PreIdeal.τ).loc Cert.PreIdeal.main_arg3)
      ∧ m' ((c.tc : Thread Cert.RefPreIdeal.nD Cert.RefPreIdeal.τ).loc Cert.RefPreIdeal.main_arg4) = m ((c.tc : Thread Cert.PreIdeal.nD Cert.PreIdeal.τ).loc Cert.PreIdeal.main_arg4)
      ∧ m' ((c.tc : Thread Cert.RefPreIdeal.nD Cert.RefPreIdeal.τ).loc Cert.RefPreIdeal.main_arg5) = m ((c.tc : Thread Cert.PreIdeal.nD Cert.PreIdeal.τ).loc Cert.PreIdeal.main_arg5)) →
    ∃ (v0 : (c : Dev Cert.PreIdeal.nD) → Buf (Elt Ideal) ((c.tc : Thread Cert.PreIdeal.nD Cert.PreIdeal.τ).loc Cert.PreIdeal.main_v0_0)) (v1 : (c : Dev Cert.PreIdeal.nD) → Buf (Elt Ideal) ((c.tc : Thread Cert.PreIdeal.nD Cert.PreIdeal.τ).loc Cert.PreIdeal.main_v0_1)) (v2 : (c : Dev Cert.PreIdeal.nD) → Buf (Elt Ideal) ((c.tc : Thread Cert.PreIdeal.nD Cert.PreIdeal.τ).loc Cert.PreIdeal.main_v0_2)) (v3 : (c : Dev Cert.PreIdeal.nD) → Buf (Elt Ideal) ((c.tc : Thread Cert.PreIdeal.nD Cert.PreIdeal.τ).loc Cert.PreIdeal.main_v0_3)) (v4 : (c : Dev Cert.PreIdeal.nD) → Buf (Elt Ideal) ((c.tc : Thread Cert.PreIdeal.nD Cert.PreIdeal.τ).loc Cert.PreIdeal.main_v0_4)) (v5 : (c : Dev Cert.PreIdeal.nD) → Buf (Elt Ideal) ((c.tc : Thread Cert.PreIdeal.nD Cert.PreIdeal.τ).loc Cert.PreIdeal.main_v0_5)) (v6 : (c : Dev Cert.PreIdeal.nD) → Buf (Elt Ideal) ((c.tc : Thread Cert.PreIdeal.nD Cert.PreIdeal.τ).loc Cert.PreIdeal.main_v0_6)) (v7 : (c : Dev Cert.PreIdeal.nD) → Buf (Elt Ideal) ((c.tc : Thread Cert.PreIdeal.nD Cert.PreIdeal.τ).loc Cert.PreIdeal.main_v0_7)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v0_0) = v0 c
          ∧ r.2.mem ((c.tc : Thread Cert.PreIdeal.nD Cert.PreIdeal.τ).loc Cert.PreIdeal.main_v0_1) = v1 c
          ∧ r.2.mem ((c.tc : Thread Cert.PreIdeal.nD Cert.PreIdeal.τ).loc Cert.PreIdeal.main_v0_2) = v2 c
          ∧ r.2.mem ((c.tc : Thread Cert.PreIdeal.nD Cert.PreIdeal.τ).loc Cert.PreIdeal.main_v0_3) = v3 c
          ∧ r.2.mem ((c.tc : Thread Cert.PreIdeal.nD Cert.PreIdeal.τ).loc Cert.PreIdeal.main_v0_4) = v4 c
          ∧ r.2.mem ((c.tc : Thread Cert.PreIdeal.nD Cert.PreIdeal.τ).loc Cert.PreIdeal.main_v0_5) = v5 c
          ∧ r.2.mem ((c.tc : Thread Cert.PreIdeal.nD Cert.PreIdeal.τ).loc Cert.PreIdeal.main_v0_6) = v6 c
          ∧ r.2.mem ((c.tc : Thread Cert.PreIdeal.nD Cert.PreIdeal.τ).loc Cert.PreIdeal.main_v0_7) = v7 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5))
      ∧ θ_run (Cert.RefPreIdeal.defs (F := Ideal)) (onTc (τ := Cert.RefPreIdeal.τ) (Cert.RefPreIdeal.main (F := Ideal))) ⟨m', fun _ => 0, g'⟩ (fun r => ∀ c : Dev Cert.RefPreIdeal.nD,
          r.2.mem ((c.tc : Thread Cert.RefPreIdeal.nD Cert.RefPreIdeal.τ).loc Cert.RefPreIdeal.main_v35) = v0 c
          ∧ r.2.mem ((c.tc : Thread Cert.RefPreIdeal.nD Cert.RefPreIdeal.τ).loc Cert.RefPreIdeal.main_v38) = v1 c
          ∧ r.2.mem ((c.tc : Thread Cert.RefPreIdeal.nD Cert.RefPreIdeal.τ).loc Cert.RefPreIdeal.main_v40) = v2 c
          ∧ r.2.mem ((c.tc : Thread Cert.RefPreIdeal.nD Cert.RefPreIdeal.τ).loc Cert.RefPreIdeal.main_v42) = v3 c
          ∧ r.2.mem ((c.tc : Thread Cert.RefPreIdeal.nD Cert.RefPreIdeal.τ).loc Cert.RefPreIdeal.main_v44) = v4 c
          ∧ r.2.mem ((c.tc : Thread Cert.RefPreIdeal.nD Cert.RefPreIdeal.τ).loc Cert.RefPreIdeal.main_v46) = v5 c
          ∧ r.2.mem ((c.tc : Thread Cert.RefPreIdeal.nD Cert.RefPreIdeal.τ).loc Cert.RefPreIdeal.main_v47) = v6 c
          ∧ r.2.mem ((c.tc : Thread Cert.RefPreIdeal.nD Cert.RefPreIdeal.τ).loc Cert.RefPreIdeal.main_v48) = v7 c
          ∧ r.2.mem ((c.tc : Thread Cert.RefPreIdeal.nD Cert.RefPreIdeal.τ).loc Cert.RefPreIdeal.main_arg0) = m' ((c.tc : Thread Cert.RefPreIdeal.nD Cert.RefPreIdeal.τ).loc Cert.RefPreIdeal.main_arg0)
          ∧ r.2.mem ((c.tc : Thread Cert.RefPreIdeal.nD Cert.RefPreIdeal.τ).loc Cert.RefPreIdeal.main_arg1) = m' ((c.tc : Thread Cert.RefPreIdeal.nD Cert.RefPreIdeal.τ).loc Cert.RefPreIdeal.main_arg1)
          ∧ r.2.mem ((c.tc : Thread Cert.RefPreIdeal.nD Cert.RefPreIdeal.τ).loc Cert.RefPreIdeal.main_arg2) = m' ((c.tc : Thread Cert.RefPreIdeal.nD Cert.RefPreIdeal.τ).loc Cert.RefPreIdeal.main_arg2)
          ∧ r.2.mem ((c.tc : Thread Cert.RefPreIdeal.nD Cert.RefPreIdeal.τ).loc Cert.RefPreIdeal.main_arg3) = m' ((c.tc : Thread Cert.RefPreIdeal.nD Cert.RefPreIdeal.τ).loc Cert.RefPreIdeal.main_arg3)
          ∧ r.2.mem ((c.tc : Thread Cert.RefPreIdeal.nD Cert.RefPreIdeal.τ).loc Cert.RefPreIdeal.main_arg4) = m' ((c.tc : Thread Cert.RefPreIdeal.nD Cert.RefPreIdeal.τ).loc Cert.RefPreIdeal.main_arg4)
          ∧ r.2.mem ((c.tc : Thread Cert.RefPreIdeal.nD Cert.RefPreIdeal.τ).loc Cert.RefPreIdeal.main_arg5) = m' ((c.tc : Thread Cert.RefPreIdeal.nD Cert.RefPreIdeal.τ).loc Cert.RefPreIdeal.main_arg5))

def preserves_Post_PostIdeal : Prop :=
  True

def algebraic_PostIdeal_RefPostIdeal [hPostIdeal : Cert.PostIdeal.Facts] [hRefPostIdeal : Cert.RefPostIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.RefPostIdeal.nD Cert.RefPostIdeal.τ Cert.RefPostIdeal.sig) → Buf (Elt Ideal) ℓ) (g' : Dev Cert.RefPostIdeal.nD → PrngReg), Pre_PostIdeal m →
    (∀ c : Dev Cert.PostIdeal.nD,
      m' ((c.tc : Thread Cert.RefPostIdeal.nD Cert.RefPostIdeal.τ).loc Cert.RefPostIdeal.main_arg0) = m ((c.tc : Thread Cert.PostIdeal.nD Cert.PostIdeal.τ).loc Cert.PostIdeal.main_arg0)
      ∧ m' ((c.tc : Thread Cert.RefPostIdeal.nD Cert.RefPostIdeal.τ).loc Cert.RefPostIdeal.main_arg1) = m ((c.tc : Thread Cert.PostIdeal.nD Cert.PostIdeal.τ).loc Cert.PostIdeal.main_arg1)
      ∧ m' ((c.tc : Thread Cert.RefPostIdeal.nD Cert.RefPostIdeal.τ).loc Cert.RefPostIdeal.main_arg2) = m ((c.tc : Thread Cert.PostIdeal.nD Cert.PostIdeal.τ).loc Cert.PostIdeal.main_arg2)
      ∧ m' ((c.tc : Thread Cert.RefPostIdeal.nD Cert.RefPostIdeal.τ).loc Cert.RefPostIdeal.main_arg3) = m ((c.tc : Thread Cert.PostIdeal.nD Cert.PostIdeal.τ).loc Cert.PostIdeal.main_arg3)
      ∧ m' ((c.tc : Thread Cert.RefPostIdeal.nD Cert.RefPostIdeal.τ).loc Cert.RefPostIdeal.main_arg4) = m ((c.tc : Thread Cert.PostIdeal.nD Cert.PostIdeal.τ).loc Cert.PostIdeal.main_arg4)
      ∧ m' ((c.tc : Thread Cert.RefPostIdeal.nD Cert.RefPostIdeal.τ).loc Cert.RefPostIdeal.main_arg5) = m ((c.tc : Thread Cert.PostIdeal.nD Cert.PostIdeal.τ).loc Cert.PostIdeal.main_arg5)
      ∧ m' ((c.tc : Thread Cert.RefPostIdeal.nD Cert.RefPostIdeal.τ).loc Cert.RefPostIdeal.main_arg6) = m ((c.tc : Thread Cert.PostIdeal.nD Cert.PostIdeal.τ).loc Cert.PostIdeal.main_arg6)
      ∧ m' ((c.tc : Thread Cert.RefPostIdeal.nD Cert.RefPostIdeal.τ).loc Cert.RefPostIdeal.main_arg7) = m ((c.tc : Thread Cert.PostIdeal.nD Cert.PostIdeal.τ).loc Cert.PostIdeal.main_arg7)
      ∧ m' ((c.tc : Thread Cert.RefPostIdeal.nD Cert.RefPostIdeal.τ).loc Cert.RefPostIdeal.main_arg8) = m ((c.tc : Thread Cert.PostIdeal.nD Cert.PostIdeal.τ).loc Cert.PostIdeal.main_arg8)
      ∧ m' ((c.tc : Thread Cert.RefPostIdeal.nD Cert.RefPostIdeal.τ).loc Cert.RefPostIdeal.main_arg9) = m ((c.tc : Thread Cert.PostIdeal.nD Cert.PostIdeal.τ).loc Cert.PostIdeal.main_arg9)
      ∧ m' ((c.tc : Thread Cert.RefPostIdeal.nD Cert.RefPostIdeal.τ).loc Cert.RefPostIdeal.main_arg10) = m ((c.tc : Thread Cert.PostIdeal.nD Cert.PostIdeal.τ).loc Cert.PostIdeal.main_arg10)
      ∧ m' ((c.tc : Thread Cert.RefPostIdeal.nD Cert.RefPostIdeal.τ).loc Cert.RefPostIdeal.main_arg11) = m ((c.tc : Thread Cert.PostIdeal.nD Cert.PostIdeal.τ).loc Cert.PostIdeal.main_arg11)
      ∧ m' ((c.tc : Thread Cert.RefPostIdeal.nD Cert.RefPostIdeal.τ).loc Cert.RefPostIdeal.main_arg12) = m ((c.tc : Thread Cert.PostIdeal.nD Cert.PostIdeal.τ).loc Cert.PostIdeal.main_arg12)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12))
      ∧ θ_run (Cert.RefPostIdeal.defs (F := Ideal)) (onTc (τ := Cert.RefPostIdeal.τ) (Cert.RefPostIdeal.main (F := Ideal))) ⟨m', fun _ => 0, g'⟩ (fun r => ∀ c : Dev Cert.RefPostIdeal.nD,
          r.2.mem ((c.tc : Thread Cert.RefPostIdeal.nD Cert.RefPostIdeal.τ).loc Cert.RefPostIdeal.main_v81) = v0 c
          ∧ r.2.mem ((c.tc : Thread Cert.RefPostIdeal.nD Cert.RefPostIdeal.τ).loc Cert.RefPostIdeal.main_arg0) = m' ((c.tc : Thread Cert.RefPostIdeal.nD Cert.RefPostIdeal.τ).loc Cert.RefPostIdeal.main_arg0)
          ∧ r.2.mem ((c.tc : Thread Cert.RefPostIdeal.nD Cert.RefPostIdeal.τ).loc Cert.RefPostIdeal.main_arg1) = m' ((c.tc : Thread Cert.RefPostIdeal.nD Cert.RefPostIdeal.τ).loc Cert.RefPostIdeal.main_arg1)
          ∧ r.2.mem ((c.tc : Thread Cert.RefPostIdeal.nD Cert.RefPostIdeal.τ).loc Cert.RefPostIdeal.main_arg2) = m' ((c.tc : Thread Cert.RefPostIdeal.nD Cert.RefPostIdeal.τ).loc Cert.RefPostIdeal.main_arg2)
          ∧ r.2.mem ((c.tc : Thread Cert.RefPostIdeal.nD Cert.RefPostIdeal.τ).loc Cert.RefPostIdeal.main_arg3) = m' ((c.tc : Thread Cert.RefPostIdeal.nD Cert.RefPostIdeal.τ).loc Cert.RefPostIdeal.main_arg3)
          ∧ r.2.mem ((c.tc : Thread Cert.RefPostIdeal.nD Cert.RefPostIdeal.τ).loc Cert.RefPostIdeal.main_arg4) = m' ((c.tc : Thread Cert.RefPostIdeal.nD Cert.RefPostIdeal.τ).loc Cert.RefPostIdeal.main_arg4)
          ∧ r.2.mem ((c.tc : Thread Cert.RefPostIdeal.nD Cert.RefPostIdeal.τ).loc Cert.RefPostIdeal.main_arg5) = m' ((c.tc : Thread Cert.RefPostIdeal.nD Cert.RefPostIdeal.τ).loc Cert.RefPostIdeal.main_arg5)
          ∧ r.2.mem ((c.tc : Thread Cert.RefPostIdeal.nD Cert.RefPostIdeal.τ).loc Cert.RefPostIdeal.main_arg6) = m' ((c.tc : Thread Cert.RefPostIdeal.nD Cert.RefPostIdeal.τ).loc Cert.RefPostIdeal.main_arg6)
          ∧ r.2.mem ((c.tc : Thread Cert.RefPostIdeal.nD Cert.RefPostIdeal.τ).loc Cert.RefPostIdeal.main_arg7) = m' ((c.tc : Thread Cert.RefPostIdeal.nD Cert.RefPostIdeal.τ).loc Cert.RefPostIdeal.main_arg7)
          ∧ r.2.mem ((c.tc : Thread Cert.RefPostIdeal.nD Cert.RefPostIdeal.τ).loc Cert.RefPostIdeal.main_arg8) = m' ((c.tc : Thread Cert.RefPostIdeal.nD Cert.RefPostIdeal.τ).loc Cert.RefPostIdeal.main_arg8)
          ∧ r.2.mem ((c.tc : Thread Cert.RefPostIdeal.nD Cert.RefPostIdeal.τ).loc Cert.RefPostIdeal.main_arg9) = m' ((c.tc : Thread Cert.RefPostIdeal.nD Cert.RefPostIdeal.τ).loc Cert.RefPostIdeal.main_arg9)
          ∧ r.2.mem ((c.tc : Thread Cert.RefPostIdeal.nD Cert.RefPostIdeal.τ).loc Cert.RefPostIdeal.main_arg10) = m' ((c.tc : Thread Cert.RefPostIdeal.nD Cert.RefPostIdeal.τ).loc Cert.RefPostIdeal.main_arg10)
          ∧ r.2.mem ((c.tc : Thread Cert.RefPostIdeal.nD Cert.RefPostIdeal.τ).loc Cert.RefPostIdeal.main_arg11) = m' ((c.tc : Thread Cert.RefPostIdeal.nD Cert.RefPostIdeal.τ).loc Cert.RefPostIdeal.main_arg11)
          ∧ r.2.mem ((c.tc : Thread Cert.RefPostIdeal.nD Cert.RefPostIdeal.τ).loc Cert.RefPostIdeal.main_arg12) = m' ((c.tc : Thread Cert.RefPostIdeal.nD Cert.RefPostIdeal.τ).loc Cert.RefPostIdeal.main_arg12))

def preserves_PostSample_PostSampleIdeal : Prop :=
  True

def algebraic_PostSampleIdeal_RefPostSampleIdeal [hPostSampleIdeal : Cert.PostSampleIdeal.Facts] [hRefPostSampleIdeal : Cert.RefPostSampleIdeal.Facts] : Prop :=
  ∀ (m : (ℓ : Loc Cert.PostSampleIdeal.nD Cert.PostSampleIdeal.τ Cert.PostSampleIdeal.sig) → Buf (Elt Ideal) ℓ) (g : Dev Cert.PostSampleIdeal.nD → PrngReg)
    (m' : (ℓ : Loc Cert.RefPostSampleIdeal.nD Cert.RefPostSampleIdeal.τ Cert.RefPostSampleIdeal.sig) → Buf (Elt Ideal) ℓ) (g' : Dev Cert.RefPostSampleIdeal.nD → PrngReg), Pre_PostSampleIdeal m →
    (∀ c : Dev Cert.PostSampleIdeal.nD,
      m' ((c.tc : Thread Cert.RefPostSampleIdeal.nD Cert.RefPostSampleIdeal.τ).loc Cert.RefPostSampleIdeal.main_arg0) = m ((c.tc : Thread Cert.PostSampleIdeal.nD Cert.PostSampleIdeal.τ).loc Cert.PostSampleIdeal.main_arg0)
      ∧ m' ((c.tc : Thread Cert.RefPostSampleIdeal.nD Cert.RefPostSampleIdeal.τ).loc Cert.RefPostSampleIdeal.main_arg1) = m ((c.tc : Thread Cert.PostSampleIdeal.nD Cert.PostSampleIdeal.τ).loc Cert.PostSampleIdeal.main_arg1)
      ∧ m' ((c.tc : Thread Cert.RefPostSampleIdeal.nD Cert.RefPostSampleIdeal.τ).loc Cert.RefPostSampleIdeal.main_arg2) = m ((c.tc : Thread Cert.PostSampleIdeal.nD Cert.PostSampleIdeal.τ).loc Cert.PostSampleIdeal.main_arg2)
      ∧ m' ((c.tc : Thread Cert.RefPostSampleIdeal.nD Cert.RefPostSampleIdeal.τ).loc Cert.RefPostSampleIdeal.main_arg3) = m ((c.tc : Thread Cert.PostSampleIdeal.nD Cert.PostSampleIdeal.τ).loc Cert.PostSampleIdeal.main_arg3)
      ∧ m' ((c.tc : Thread Cert.RefPostSampleIdeal.nD Cert.RefPostSampleIdeal.τ).loc Cert.RefPostSampleIdeal.main_arg4) = m ((c.tc : Thread Cert.PostSampleIdeal.nD Cert.PostSampleIdeal.τ).loc Cert.PostSampleIdeal.main_arg4)
      ∧ m' ((c.tc : Thread Cert.RefPostSampleIdeal.nD Cert.RefPostSampleIdeal.τ).loc Cert.RefPostSampleIdeal.main_arg5) = m ((c.tc : Thread Cert.PostSampleIdeal.nD Cert.PostSampleIdeal.τ).loc Cert.PostSampleIdeal.main_arg5)
      ∧ m' ((c.tc : Thread Cert.RefPostSampleIdeal.nD Cert.RefPostSampleIdeal.τ).loc Cert.RefPostSampleIdeal.main_arg6) = m ((c.tc : Thread Cert.PostSampleIdeal.nD Cert.PostSampleIdeal.τ).loc Cert.PostSampleIdeal.main_arg6)
      ∧ m' ((c.tc : Thread Cert.RefPostSampleIdeal.nD Cert.RefPostSampleIdeal.τ).loc Cert.RefPostSampleIdeal.main_arg7) = m ((c.tc : Thread Cert.PostSampleIdeal.nD Cert.PostSampleIdeal.τ).loc Cert.PostSampleIdeal.main_arg7)
      ∧ m' ((c.tc : Thread Cert.RefPostSampleIdeal.nD Cert.RefPostSampleIdeal.τ).loc Cert.RefPostSampleIdeal.main_arg8) = m ((c.tc : Thread Cert.PostSampleIdeal.nD Cert.PostSampleIdeal.τ).loc Cert.PostSampleIdeal.main_arg8)
      ∧ m' ((c.tc : Thread Cert.RefPostSampleIdeal.nD Cert.RefPostSampleIdeal.τ).loc Cert.RefPostSampleIdeal.main_arg9) = m ((c.tc : Thread Cert.PostSampleIdeal.nD Cert.PostSampleIdeal.τ).loc Cert.PostSampleIdeal.main_arg9)
      ∧ m' ((c.tc : Thread Cert.RefPostSampleIdeal.nD Cert.RefPostSampleIdeal.τ).loc Cert.RefPostSampleIdeal.main_arg10) = m ((c.tc : Thread Cert.PostSampleIdeal.nD Cert.PostSampleIdeal.τ).loc Cert.PostSampleIdeal.main_arg10)
      ∧ m' ((c.tc : Thread Cert.RefPostSampleIdeal.nD Cert.RefPostSampleIdeal.τ).loc Cert.RefPostSampleIdeal.main_arg11) = m ((c.tc : Thread Cert.PostSampleIdeal.nD Cert.PostSampleIdeal.τ).loc Cert.PostSampleIdeal.main_arg11)
      ∧ m' ((c.tc : Thread Cert.RefPostSampleIdeal.nD Cert.RefPostSampleIdeal.τ).loc Cert.RefPostSampleIdeal.main_arg12) = m ((c.tc : Thread Cert.PostSampleIdeal.nD Cert.PostSampleIdeal.τ).loc Cert.PostSampleIdeal.main_arg12)) →
    ∃ (v0 : (c : Dev Cert.PostSampleIdeal.nD) → Buf (Elt Ideal) ((c.tc : Thread Cert.PostSampleIdeal.nD Cert.PostSampleIdeal.τ).loc Cert.PostSampleIdeal.main_v0)),
      θ_run (Cert.PostSampleIdeal.defs (F := Ideal)) (onTc (τ := Cert.PostSampleIdeal.τ) (Cert.PostSampleIdeal.main (F := Ideal))) ⟨m, fun _ => 0, g⟩ (fun r => ∀ c : Dev Cert.PostSampleIdeal.nD,
          r.2.mem ((c.tc : Thread Cert.PostSampleIdeal.nD Cert.PostSampleIdeal.τ).loc Cert.PostSampleIdeal.main_v0) = v0 c
          ∧ r.2.mem ((c.tc : Thread Cert.PostSampleIdeal.nD Cert.PostSampleIdeal.τ).loc Cert.PostSampleIdeal.main_arg0) = m ((c.tc : Thread Cert.PostSampleIdeal.nD Cert.PostSampleIdeal.τ).loc Cert.PostSampleIdeal.main_arg0)
          ∧ r.2.mem ((c.tc : Thread Cert.PostSampleIdeal.nD Cert.PostSampleIdeal.τ).loc Cert.PostSampleIdeal.main_arg1) = m ((c.tc : Thread Cert.PostSampleIdeal.nD Cert.PostSampleIdeal.τ).loc Cert.PostSampleIdeal.main_arg1)
          ∧ r.2.mem ((c.tc : Thread Cert.PostSampleIdeal.nD Cert.PostSampleIdeal.τ).loc Cert.PostSampleIdeal.main_arg2) = m ((c.tc : Thread Cert.PostSampleIdeal.nD Cert.PostSampleIdeal.τ).loc Cert.PostSampleIdeal.main_arg2)
          ∧ r.2.mem ((c.tc : Thread Cert.PostSampleIdeal.nD Cert.PostSampleIdeal.τ).loc Cert.PostSampleIdeal.main_arg3) = m ((c.tc : Thread Cert.PostSampleIdeal.nD Cert.PostSampleIdeal.τ).loc Cert.PostSampleIdeal.main_arg3)
          ∧ r.2.mem ((c.tc : Thread Cert.PostSampleIdeal.nD Cert.PostSampleIdeal.τ).loc Cert.PostSampleIdeal.main_arg4) = m ((c.tc : Thread Cert.PostSampleIdeal.nD Cert.PostSampleIdeal.τ).loc Cert.PostSampleIdeal.main_arg4)
          ∧ r.2.mem ((c.tc : Thread Cert.PostSampleIdeal.nD Cert.PostSampleIdeal.τ).loc Cert.PostSampleIdeal.main_arg5) = m ((c.tc : Thread Cert.PostSampleIdeal.nD Cert.PostSampleIdeal.τ).loc Cert.PostSampleIdeal.main_arg5)
          ∧ r.2.mem ((c.tc : Thread Cert.PostSampleIdeal.nD Cert.PostSampleIdeal.τ).loc Cert.PostSampleIdeal.main_arg6) = m ((c.tc : Thread Cert.PostSampleIdeal.nD Cert.PostSampleIdeal.τ).loc Cert.PostSampleIdeal.main_arg6)
          ∧ r.2.mem ((c.tc : Thread Cert.PostSampleIdeal.nD Cert.PostSampleIdeal.τ).loc Cert.PostSampleIdeal.main_arg7) = m ((c.tc : Thread Cert.PostSampleIdeal.nD Cert.PostSampleIdeal.τ).loc Cert.PostSampleIdeal.main_arg7)
          ∧ r.2.mem ((c.tc : Thread Cert.PostSampleIdeal.nD Cert.PostSampleIdeal.τ).loc Cert.PostSampleIdeal.main_arg8) = m ((c.tc : Thread Cert.PostSampleIdeal.nD Cert.PostSampleIdeal.τ).loc Cert.PostSampleIdeal.main_arg8)
          ∧ r.2.mem ((c.tc : Thread Cert.PostSampleIdeal.nD Cert.PostSampleIdeal.τ).loc Cert.PostSampleIdeal.main_arg9) = m ((c.tc : Thread Cert.PostSampleIdeal.nD Cert.PostSampleIdeal.τ).loc Cert.PostSampleIdeal.main_arg9)
          ∧ r.2.mem ((c.tc : Thread Cert.PostSampleIdeal.nD Cert.PostSampleIdeal.τ).loc Cert.PostSampleIdeal.main_arg10) = m ((c.tc : Thread Cert.PostSampleIdeal.nD Cert.PostSampleIdeal.τ).loc Cert.PostSampleIdeal.main_arg10)
          ∧ r.2.mem ((c.tc : Thread Cert.PostSampleIdeal.nD Cert.PostSampleIdeal.τ).loc Cert.PostSampleIdeal.main_arg11) = m ((c.tc : Thread Cert.PostSampleIdeal.nD Cert.PostSampleIdeal.τ).loc Cert.PostSampleIdeal.main_arg11)
          ∧ r.2.mem ((c.tc : Thread Cert.PostSampleIdeal.nD Cert.PostSampleIdeal.τ).loc Cert.PostSampleIdeal.main_arg12) = m ((c.tc : Thread Cert.PostSampleIdeal.nD Cert.PostSampleIdeal.τ).loc Cert.PostSampleIdeal.main_arg12))
      ∧ θ_run (Cert.RefPostSampleIdeal.defs (F := Ideal)) (onTc (τ := Cert.RefPostSampleIdeal.τ) (Cert.RefPostSampleIdeal.main (F := Ideal))) ⟨m', fun _ => 0, g'⟩ (fun r => ∀ c : Dev Cert.RefPostSampleIdeal.nD,
          r.2.mem ((c.tc : Thread Cert.RefPostSampleIdeal.nD Cert.RefPostSampleIdeal.τ).loc Cert.RefPostSampleIdeal.main_v81) = v0 c
          ∧ r.2.mem ((c.tc : Thread Cert.RefPostSampleIdeal.nD Cert.RefPostSampleIdeal.τ).loc Cert.RefPostSampleIdeal.main_arg0) = m' ((c.tc : Thread Cert.RefPostSampleIdeal.nD Cert.RefPostSampleIdeal.τ).loc Cert.RefPostSampleIdeal.main_arg0)
          ∧ r.2.mem ((c.tc : Thread Cert.RefPostSampleIdeal.nD Cert.RefPostSampleIdeal.τ).loc Cert.RefPostSampleIdeal.main_arg1) = m' ((c.tc : Thread Cert.RefPostSampleIdeal.nD Cert.RefPostSampleIdeal.τ).loc Cert.RefPostSampleIdeal.main_arg1)
          ∧ r.2.mem ((c.tc : Thread Cert.RefPostSampleIdeal.nD Cert.RefPostSampleIdeal.τ).loc Cert.RefPostSampleIdeal.main_arg2) = m' ((c.tc : Thread Cert.RefPostSampleIdeal.nD Cert.RefPostSampleIdeal.τ).loc Cert.RefPostSampleIdeal.main_arg2)
          ∧ r.2.mem ((c.tc : Thread Cert.RefPostSampleIdeal.nD Cert.RefPostSampleIdeal.τ).loc Cert.RefPostSampleIdeal.main_arg3) = m' ((c.tc : Thread Cert.RefPostSampleIdeal.nD Cert.RefPostSampleIdeal.τ).loc Cert.RefPostSampleIdeal.main_arg3)
          ∧ r.2.mem ((c.tc : Thread Cert.RefPostSampleIdeal.nD Cert.RefPostSampleIdeal.τ).loc Cert.RefPostSampleIdeal.main_arg4) = m' ((c.tc : Thread Cert.RefPostSampleIdeal.nD Cert.RefPostSampleIdeal.τ).loc Cert.RefPostSampleIdeal.main_arg4)
          ∧ r.2.mem ((c.tc : Thread Cert.RefPostSampleIdeal.nD Cert.RefPostSampleIdeal.τ).loc Cert.RefPostSampleIdeal.main_arg5) = m' ((c.tc : Thread Cert.RefPostSampleIdeal.nD Cert.RefPostSampleIdeal.τ).loc Cert.RefPostSampleIdeal.main_arg5)
          ∧ r.2.mem ((c.tc : Thread Cert.RefPostSampleIdeal.nD Cert.RefPostSampleIdeal.τ).loc Cert.RefPostSampleIdeal.main_arg6) = m' ((c.tc : Thread Cert.RefPostSampleIdeal.nD Cert.RefPostSampleIdeal.τ).loc Cert.RefPostSampleIdeal.main_arg6)
          ∧ r.2.mem ((c.tc : Thread Cert.RefPostSampleIdeal.nD Cert.RefPostSampleIdeal.τ).loc Cert.RefPostSampleIdeal.main_arg7) = m' ((c.tc : Thread Cert.RefPostSampleIdeal.nD Cert.RefPostSampleIdeal.τ).loc Cert.RefPostSampleIdeal.main_arg7)
          ∧ r.2.mem ((c.tc : Thread Cert.RefPostSampleIdeal.nD Cert.RefPostSampleIdeal.τ).loc Cert.RefPostSampleIdeal.main_arg8) = m' ((c.tc : Thread Cert.RefPostSampleIdeal.nD Cert.RefPostSampleIdeal.τ).loc Cert.RefPostSampleIdeal.main_arg8)
          ∧ r.2.mem ((c.tc : Thread Cert.RefPostSampleIdeal.nD Cert.RefPostSampleIdeal.τ).loc Cert.RefPostSampleIdeal.main_arg9) = m' ((c.tc : Thread Cert.RefPostSampleIdeal.nD Cert.RefPostSampleIdeal.τ).loc Cert.RefPostSampleIdeal.main_arg9)
          ∧ r.2.mem ((c.tc : Thread Cert.RefPostSampleIdeal.nD Cert.RefPostSampleIdeal.τ).loc Cert.RefPostSampleIdeal.main_arg10) = m' ((c.tc : Thread Cert.RefPostSampleIdeal.nD Cert.RefPostSampleIdeal.τ).loc Cert.RefPostSampleIdeal.main_arg10)
          ∧ r.2.mem ((c.tc : Thread Cert.RefPostSampleIdeal.nD Cert.RefPostSampleIdeal.τ).loc Cert.RefPostSampleIdeal.main_arg11) = m' ((c.tc : Thread Cert.RefPostSampleIdeal.nD Cert.RefPostSampleIdeal.τ).loc Cert.RefPostSampleIdeal.main_arg11)
          ∧ r.2.mem ((c.tc : Thread Cert.RefPostSampleIdeal.nD Cert.RefPostSampleIdeal.τ).loc Cert.RefPostSampleIdeal.main_arg12) = m' ((c.tc : Thread Cert.RefPostSampleIdeal.nD Cert.RefPostSampleIdeal.τ).loc Cert.RefPostSampleIdeal.main_arg12))

def preserves_PreSample_PreSampleIdeal : Prop :=
  True

def algebraic_PreSampleIdeal_RefPreSampleIdeal [hPreSampleIdeal : Cert.PreSampleIdeal.Facts] [hRefPreSampleIdeal : Cert.RefPreSampleIdeal.Facts] : Prop :=
  ∀ (m : (ℓ : Loc Cert.PreSampleIdeal.nD Cert.PreSampleIdeal.τ Cert.PreSampleIdeal.sig) → Buf (Elt Ideal) ℓ) (g : Dev Cert.PreSampleIdeal.nD → PrngReg)
    (m' : (ℓ : Loc Cert.RefPreSampleIdeal.nD Cert.RefPreSampleIdeal.τ Cert.RefPreSampleIdeal.sig) → Buf (Elt Ideal) ℓ) (g' : Dev Cert.RefPreSampleIdeal.nD → PrngReg), Pre_PreSampleIdeal m →
    (∀ c : Dev Cert.PreSampleIdeal.nD,
      m' ((c.tc : Thread Cert.RefPreSampleIdeal.nD Cert.RefPreSampleIdeal.τ).loc Cert.RefPreSampleIdeal.main_arg0) = m ((c.tc : Thread Cert.PreSampleIdeal.nD Cert.PreSampleIdeal.τ).loc Cert.PreSampleIdeal.main_arg0)
      ∧ m' ((c.tc : Thread Cert.RefPreSampleIdeal.nD Cert.RefPreSampleIdeal.τ).loc Cert.RefPreSampleIdeal.main_arg1) = m ((c.tc : Thread Cert.PreSampleIdeal.nD Cert.PreSampleIdeal.τ).loc Cert.PreSampleIdeal.main_arg1)
      ∧ m' ((c.tc : Thread Cert.RefPreSampleIdeal.nD Cert.RefPreSampleIdeal.τ).loc Cert.RefPreSampleIdeal.main_arg2) = m ((c.tc : Thread Cert.PreSampleIdeal.nD Cert.PreSampleIdeal.τ).loc Cert.PreSampleIdeal.main_arg2)
      ∧ m' ((c.tc : Thread Cert.RefPreSampleIdeal.nD Cert.RefPreSampleIdeal.τ).loc Cert.RefPreSampleIdeal.main_arg3) = m ((c.tc : Thread Cert.PreSampleIdeal.nD Cert.PreSampleIdeal.τ).loc Cert.PreSampleIdeal.main_arg3)
      ∧ m' ((c.tc : Thread Cert.RefPreSampleIdeal.nD Cert.RefPreSampleIdeal.τ).loc Cert.RefPreSampleIdeal.main_arg4) = m ((c.tc : Thread Cert.PreSampleIdeal.nD Cert.PreSampleIdeal.τ).loc Cert.PreSampleIdeal.main_arg4)
      ∧ m' ((c.tc : Thread Cert.RefPreSampleIdeal.nD Cert.RefPreSampleIdeal.τ).loc Cert.RefPreSampleIdeal.main_arg5) = m ((c.tc : Thread Cert.PreSampleIdeal.nD Cert.PreSampleIdeal.τ).loc Cert.PreSampleIdeal.main_arg5)) →
    ∃ (v0 : (c : Dev Cert.PreSampleIdeal.nD) → Buf (Elt Ideal) ((c.tc : Thread Cert.PreSampleIdeal.nD Cert.PreSampleIdeal.τ).loc Cert.PreSampleIdeal.main_v0_0)) (v1 : (c : Dev Cert.PreSampleIdeal.nD) → Buf (Elt Ideal) ((c.tc : Thread Cert.PreSampleIdeal.nD Cert.PreSampleIdeal.τ).loc Cert.PreSampleIdeal.main_v0_1)) (v2 : (c : Dev Cert.PreSampleIdeal.nD) → Buf (Elt Ideal) ((c.tc : Thread Cert.PreSampleIdeal.nD Cert.PreSampleIdeal.τ).loc Cert.PreSampleIdeal.main_v0_2)) (v3 : (c : Dev Cert.PreSampleIdeal.nD) → Buf (Elt Ideal) ((c.tc : Thread Cert.PreSampleIdeal.nD Cert.PreSampleIdeal.τ).loc Cert.PreSampleIdeal.main_v0_3)) (v4 : (c : Dev Cert.PreSampleIdeal.nD) → Buf (Elt Ideal) ((c.tc : Thread Cert.PreSampleIdeal.nD Cert.PreSampleIdeal.τ).loc Cert.PreSampleIdeal.main_v0_4)) (v5 : (c : Dev Cert.PreSampleIdeal.nD) → Buf (Elt Ideal) ((c.tc : Thread Cert.PreSampleIdeal.nD Cert.PreSampleIdeal.τ).loc Cert.PreSampleIdeal.main_v0_5)) (v6 : (c : Dev Cert.PreSampleIdeal.nD) → Buf (Elt Ideal) ((c.tc : Thread Cert.PreSampleIdeal.nD Cert.PreSampleIdeal.τ).loc Cert.PreSampleIdeal.main_v0_6)) (v7 : (c : Dev Cert.PreSampleIdeal.nD) → Buf (Elt Ideal) ((c.tc : Thread Cert.PreSampleIdeal.nD Cert.PreSampleIdeal.τ).loc Cert.PreSampleIdeal.main_v0_7)),
      θ_run (Cert.PreSampleIdeal.defs (F := Ideal)) (onTc (τ := Cert.PreSampleIdeal.τ) (Cert.PreSampleIdeal.main (F := Ideal))) ⟨m, fun _ => 0, g⟩ (fun r => ∀ c : Dev Cert.PreSampleIdeal.nD,
          r.2.mem ((c.tc : Thread Cert.PreSampleIdeal.nD Cert.PreSampleIdeal.τ).loc Cert.PreSampleIdeal.main_v0_0) = v0 c
          ∧ r.2.mem ((c.tc : Thread Cert.PreSampleIdeal.nD Cert.PreSampleIdeal.τ).loc Cert.PreSampleIdeal.main_v0_1) = v1 c
          ∧ r.2.mem ((c.tc : Thread Cert.PreSampleIdeal.nD Cert.PreSampleIdeal.τ).loc Cert.PreSampleIdeal.main_v0_2) = v2 c
          ∧ r.2.mem ((c.tc : Thread Cert.PreSampleIdeal.nD Cert.PreSampleIdeal.τ).loc Cert.PreSampleIdeal.main_v0_3) = v3 c
          ∧ r.2.mem ((c.tc : Thread Cert.PreSampleIdeal.nD Cert.PreSampleIdeal.τ).loc Cert.PreSampleIdeal.main_v0_4) = v4 c
          ∧ r.2.mem ((c.tc : Thread Cert.PreSampleIdeal.nD Cert.PreSampleIdeal.τ).loc Cert.PreSampleIdeal.main_v0_5) = v5 c
          ∧ r.2.mem ((c.tc : Thread Cert.PreSampleIdeal.nD Cert.PreSampleIdeal.τ).loc Cert.PreSampleIdeal.main_v0_6) = v6 c
          ∧ r.2.mem ((c.tc : Thread Cert.PreSampleIdeal.nD Cert.PreSampleIdeal.τ).loc Cert.PreSampleIdeal.main_v0_7) = v7 c
          ∧ r.2.mem ((c.tc : Thread Cert.PreSampleIdeal.nD Cert.PreSampleIdeal.τ).loc Cert.PreSampleIdeal.main_arg0) = m ((c.tc : Thread Cert.PreSampleIdeal.nD Cert.PreSampleIdeal.τ).loc Cert.PreSampleIdeal.main_arg0)
          ∧ r.2.mem ((c.tc : Thread Cert.PreSampleIdeal.nD Cert.PreSampleIdeal.τ).loc Cert.PreSampleIdeal.main_arg1) = m ((c.tc : Thread Cert.PreSampleIdeal.nD Cert.PreSampleIdeal.τ).loc Cert.PreSampleIdeal.main_arg1)
          ∧ r.2.mem ((c.tc : Thread Cert.PreSampleIdeal.nD Cert.PreSampleIdeal.τ).loc Cert.PreSampleIdeal.main_arg2) = m ((c.tc : Thread Cert.PreSampleIdeal.nD Cert.PreSampleIdeal.τ).loc Cert.PreSampleIdeal.main_arg2)
          ∧ r.2.mem ((c.tc : Thread Cert.PreSampleIdeal.nD Cert.PreSampleIdeal.τ).loc Cert.PreSampleIdeal.main_arg3) = m ((c.tc : Thread Cert.PreSampleIdeal.nD Cert.PreSampleIdeal.τ).loc Cert.PreSampleIdeal.main_arg3)
          ∧ r.2.mem ((c.tc : Thread Cert.PreSampleIdeal.nD Cert.PreSampleIdeal.τ).loc Cert.PreSampleIdeal.main_arg4) = m ((c.tc : Thread Cert.PreSampleIdeal.nD Cert.PreSampleIdeal.τ).loc Cert.PreSampleIdeal.main_arg4)
          ∧ r.2.mem ((c.tc : Thread Cert.PreSampleIdeal.nD Cert.PreSampleIdeal.τ).loc Cert.PreSampleIdeal.main_arg5) = m ((c.tc : Thread Cert.PreSampleIdeal.nD Cert.PreSampleIdeal.τ).loc Cert.PreSampleIdeal.main_arg5))
      ∧ θ_run (Cert.RefPreSampleIdeal.defs (F := Ideal)) (onTc (τ := Cert.RefPreSampleIdeal.τ) (Cert.RefPreSampleIdeal.main (F := Ideal))) ⟨m', fun _ => 0, g'⟩ (fun r => ∀ c : Dev Cert.RefPreSampleIdeal.nD,
          r.2.mem ((c.tc : Thread Cert.RefPreSampleIdeal.nD Cert.RefPreSampleIdeal.τ).loc Cert.RefPreSampleIdeal.main_v35) = v0 c
          ∧ r.2.mem ((c.tc : Thread Cert.RefPreSampleIdeal.nD Cert.RefPreSampleIdeal.τ).loc Cert.RefPreSampleIdeal.main_v38) = v1 c
          ∧ r.2.mem ((c.tc : Thread Cert.RefPreSampleIdeal.nD Cert.RefPreSampleIdeal.τ).loc Cert.RefPreSampleIdeal.main_v40) = v2 c
          ∧ r.2.mem ((c.tc : Thread Cert.RefPreSampleIdeal.nD Cert.RefPreSampleIdeal.τ).loc Cert.RefPreSampleIdeal.main_v42) = v3 c
          ∧ r.2.mem ((c.tc : Thread Cert.RefPreSampleIdeal.nD Cert.RefPreSampleIdeal.τ).loc Cert.RefPreSampleIdeal.main_v44) = v4 c
          ∧ r.2.mem ((c.tc : Thread Cert.RefPreSampleIdeal.nD Cert.RefPreSampleIdeal.τ).loc Cert.RefPreSampleIdeal.main_v46) = v5 c
          ∧ r.2.mem ((c.tc : Thread Cert.RefPreSampleIdeal.nD Cert.RefPreSampleIdeal.τ).loc Cert.RefPreSampleIdeal.main_v47) = v6 c
          ∧ r.2.mem ((c.tc : Thread Cert.RefPreSampleIdeal.nD Cert.RefPreSampleIdeal.τ).loc Cert.RefPreSampleIdeal.main_v48) = v7 c
          ∧ r.2.mem ((c.tc : Thread Cert.RefPreSampleIdeal.nD Cert.RefPreSampleIdeal.τ).loc Cert.RefPreSampleIdeal.main_arg0) = m' ((c.tc : Thread Cert.RefPreSampleIdeal.nD Cert.RefPreSampleIdeal.τ).loc Cert.RefPreSampleIdeal.main_arg0)
          ∧ r.2.mem ((c.tc : Thread Cert.RefPreSampleIdeal.nD Cert.RefPreSampleIdeal.τ).loc Cert.RefPreSampleIdeal.main_arg1) = m' ((c.tc : Thread Cert.RefPreSampleIdeal.nD Cert.RefPreSampleIdeal.τ).loc Cert.RefPreSampleIdeal.main_arg1)
          ∧ r.2.mem ((c.tc : Thread Cert.RefPreSampleIdeal.nD Cert.RefPreSampleIdeal.τ).loc Cert.RefPreSampleIdeal.main_arg2) = m' ((c.tc : Thread Cert.RefPreSampleIdeal.nD Cert.RefPreSampleIdeal.τ).loc Cert.RefPreSampleIdeal.main_arg2)
          ∧ r.2.mem ((c.tc : Thread Cert.RefPreSampleIdeal.nD Cert.RefPreSampleIdeal.τ).loc Cert.RefPreSampleIdeal.main_arg3) = m' ((c.tc : Thread Cert.RefPreSampleIdeal.nD Cert.RefPreSampleIdeal.τ).loc Cert.RefPreSampleIdeal.main_arg3)
          ∧ r.2.mem ((c.tc : Thread Cert.RefPreSampleIdeal.nD Cert.RefPreSampleIdeal.τ).loc Cert.RefPreSampleIdeal.main_arg4) = m' ((c.tc : Thread Cert.RefPreSampleIdeal.nD Cert.RefPreSampleIdeal.τ).loc Cert.RefPreSampleIdeal.main_arg4)
          ∧ r.2.mem ((c.tc : Thread Cert.RefPreSampleIdeal.nD Cert.RefPreSampleIdeal.τ).loc Cert.RefPreSampleIdeal.main_arg5) = m' ((c.tc : Thread Cert.RefPreSampleIdeal.nD Cert.RefPreSampleIdeal.τ).loc Cert.RefPreSampleIdeal.main_arg5))

def preserves_AttnSample_AttnSampleIdeal : Prop :=
  IdealRules.named_const.Statement Cert.AttnSampleIdeal.κ "neg" .f32 0xF149F2CA#32 ⊥

def algebraic_AttnSampleIdeal_RefAttnSampleIdeal_pre_finite_sample [hAttnSampleIdeal : Cert.AttnSampleIdeal.Facts] [hRefAttnSampleIdeal : Cert.RefAttnSampleIdeal.Facts] [hPre_finite_sample : Cert.Pre_finite_sample.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg)
    (m' : (ℓ : Loc Cert.RefAttnSampleIdeal.nD Cert.RefAttnSampleIdeal.τ Cert.RefAttnSampleIdeal.sig) → Buf (Elt Ideal) ℓ) (g' : Dev Cert.RefAttnSampleIdeal.nD → PrngReg), Pre_AttnSampleIdeal_finite_sample m →
    (∀ c : Dev Cert.AttnSampleIdeal.nD,
      m' ((c.tc : Thread Cert.RefAttnSampleIdeal.nD Cert.RefAttnSampleIdeal.τ).loc Cert.RefAttnSampleIdeal.main_arg0) = m ((c.tc : Thread Cert.AttnSampleIdeal.nD Cert.AttnSampleIdeal.τ).loc Cert.AttnSampleIdeal.main_arg0)
      ∧ m' ((c.tc : Thread Cert.RefAttnSampleIdeal.nD Cert.RefAttnSampleIdeal.τ).loc Cert.RefAttnSampleIdeal.main_arg1) = m ((c.tc : Thread Cert.AttnSampleIdeal.nD Cert.AttnSampleIdeal.τ).loc Cert.AttnSampleIdeal.main_arg1)
      ∧ m' ((c.tc : Thread Cert.RefAttnSampleIdeal.nD Cert.RefAttnSampleIdeal.τ).loc Cert.RefAttnSampleIdeal.main_arg2) = m ((c.tc : Thread Cert.AttnSampleIdeal.nD Cert.AttnSampleIdeal.τ).loc Cert.AttnSampleIdeal.main_arg2)
      ∧ m' ((c.tc : Thread Cert.RefAttnSampleIdeal.nD Cert.RefAttnSampleIdeal.τ).loc Cert.RefAttnSampleIdeal.main_arg3) = m ((c.tc : Thread Cert.AttnSampleIdeal.nD Cert.AttnSampleIdeal.τ).loc Cert.AttnSampleIdeal.main_arg3)) →
    ∃ (v0 : (c : Dev Cert.AttnSampleIdeal.nD) → Buf (Elt Ideal) ((c.tc : Thread Cert.AttnSampleIdeal.nD Cert.AttnSampleIdeal.τ).loc Cert.AttnSampleIdeal.main_v0)),
      θ_run (Cert.AttnSampleIdeal.defs (F := Ideal)) (onTc (τ := Cert.AttnSampleIdeal.τ) (Cert.AttnSampleIdeal.main (F := Ideal))) ⟨m, fun _ => 0, g⟩ (fun r => ∀ c : Dev Cert.AttnSampleIdeal.nD,
          r.2.mem ((c.tc : Thread Cert.AttnSampleIdeal.nD Cert.AttnSampleIdeal.τ).loc Cert.AttnSampleIdeal.main_v0) = v0 c
          ∧ r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
          ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
          ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
          ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3))
      ∧ θ_run (Cert.RefAttnSampleIdeal.defs (F := Ideal)) (onTc (τ := Cert.RefAttnSampleIdeal.τ) (Cert.RefAttnSampleIdeal.main (F := Ideal))) ⟨m', fun _ => 0, g'⟩ (fun r => ∀ c : Dev Cert.RefAttnSampleIdeal.nD,
          r.2.mem ((c.tc : Thread Cert.RefAttnSampleIdeal.nD Cert.RefAttnSampleIdeal.τ).loc Cert.RefAttnSampleIdeal.main_v65) = v0 c
          ∧ r.2.mem ((c.tc : Thread Cert.RefAttnSampleIdeal.nD Cert.RefAttnSampleIdeal.τ).loc Cert.RefAttnSampleIdeal.main_arg0) = m' ((c.tc : Thread Cert.RefAttnSampleIdeal.nD Cert.RefAttnSampleIdeal.τ).loc Cert.RefAttnSampleIdeal.main_arg0)
          ∧ r.2.mem ((c.tc : Thread Cert.RefAttnSampleIdeal.nD Cert.RefAttnSampleIdeal.τ).loc Cert.RefAttnSampleIdeal.main_arg1) = m' ((c.tc : Thread Cert.RefAttnSampleIdeal.nD Cert.RefAttnSampleIdeal.τ).loc Cert.RefAttnSampleIdeal.main_arg1)
          ∧ r.2.mem ((c.tc : Thread Cert.RefAttnSampleIdeal.nD Cert.RefAttnSampleIdeal.τ).loc Cert.RefAttnSampleIdeal.main_arg2) = m' ((c.tc : Thread Cert.RefAttnSampleIdeal.nD Cert.RefAttnSampleIdeal.τ).loc Cert.RefAttnSampleIdeal.main_arg2)
          ∧ r.2.mem ((c.tc : Thread Cert.RefAttnSampleIdeal.nD Cert.RefAttnSampleIdeal.τ).loc Cert.RefAttnSampleIdeal.main_arg3) = m' ((c.tc : Thread Cert.RefAttnSampleIdeal.nD Cert.RefAttnSampleIdeal.τ).loc Cert.RefAttnSampleIdeal.main_arg3))

def Claim : Prop :=
  ∃ (hAttn : Cert.Attn.Facts) (hAttnIdeal : Cert.AttnIdeal.Facts) (hRefAttnIdeal : Cert.RefAttnIdeal.Facts) (hPre : Cert.Pre.Facts) (hPreIdeal : Cert.PreIdeal.Facts) (hRefPreIdeal : Cert.RefPreIdeal.Facts) (hPost : Cert.Post.Facts) (hPostIdeal : Cert.PostIdeal.Facts) (hRefPostIdeal : Cert.RefPostIdeal.Facts) (hPostSample : Cert.PostSample.Facts) (hPostSampleIdeal : Cert.PostSampleIdeal.Facts) (hRefPostSampleIdeal : Cert.RefPostSampleIdeal.Facts) (hPreSample : Cert.PreSample.Facts) (hPreSampleIdeal : Cert.PreSampleIdeal.Facts) (hRefPreSampleIdeal : Cert.RefPreSampleIdeal.Facts) (hAttnSample : Cert.AttnSample.Facts) (hAttnSampleIdeal : Cert.AttnSampleIdeal.Facts) (hRefAttnSampleIdeal : Cert.RefAttnSampleIdeal.Facts) (hPre_finite : Cert.Pre_finite.Facts) (hPre_finite_sample : Cert.Pre_finite_sample.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_RefAttnIdeal (hRefAttnIdeal := hRefAttnIdeal)
    ∧ quiescent_RefAttnIdeal_pre_finite (hRefAttnIdeal := hRefAttnIdeal) (hPre_finite := hPre_finite)
    ∧ quiescent_Pre (hPre := hPre)
    ∧ quiescent_PreIdeal (hPreIdeal := hPreIdeal)
    ∧ quiescent_RefPreIdeal (hRefPreIdeal := hRefPreIdeal)
    ∧ quiescent_Post (hPost := hPost)
    ∧ quiescent_PostIdeal (hPostIdeal := hPostIdeal)
    ∧ quiescent_RefPostIdeal (hRefPostIdeal := hRefPostIdeal)
    ∧ quiescent_PostSample (hPostSample := hPostSample)
    ∧ quiescent_PostSampleIdeal (hPostSampleIdeal := hPostSampleIdeal)
    ∧ quiescent_RefPostSampleIdeal (hRefPostSampleIdeal := hRefPostSampleIdeal)
    ∧ quiescent_PreSample (hPreSample := hPreSample)
    ∧ quiescent_PreSampleIdeal (hPreSampleIdeal := hPreSampleIdeal)
    ∧ quiescent_RefPreSampleIdeal (hRefPreSampleIdeal := hRefPreSampleIdeal)
    ∧ quiescent_AttnSample (hAttnSample := hAttnSample)
    ∧ quiescent_AttnSampleIdeal (hAttnSampleIdeal := hAttnSampleIdeal)
    ∧ quiescent_AttnSampleIdeal_pre_finite_sample (hAttnSampleIdeal := hAttnSampleIdeal) (hPre_finite_sample := hPre_finite_sample)
    ∧ quiescent_RefAttnSampleIdeal (hRefAttnSampleIdeal := hRefAttnSampleIdeal)
    ∧ quiescent_RefAttnSampleIdeal_pre_finite_sample (hRefAttnSampleIdeal := hRefAttnSampleIdeal) (hPre_finite_sample := hPre_finite_sample)
    ∧ preserves_Attn_AttnIdeal
    ∧ algebraic_AttnIdeal_RefAttnIdeal_pre_finite (hAttnIdeal := hAttnIdeal) (hRefAttnIdeal := hRefAttnIdeal) (hPre_finite := hPre_finite)
    ∧ preserves_Pre_PreIdeal
    ∧ algebraic_PreIdeal_RefPreIdeal (hPreIdeal := hPreIdeal) (hRefPreIdeal := hRefPreIdeal)
    ∧ preserves_Post_PostIdeal
    ∧ algebraic_PostIdeal_RefPostIdeal (hPostIdeal := hPostIdeal) (hRefPostIdeal := hRefPostIdeal)
    ∧ preserves_PostSample_PostSampleIdeal
    ∧ algebraic_PostSampleIdeal_RefPostSampleIdeal (hPostSampleIdeal := hPostSampleIdeal) (hRefPostSampleIdeal := hRefPostSampleIdeal)
    ∧ preserves_PreSample_PreSampleIdeal
    ∧ algebraic_PreSampleIdeal_RefPreSampleIdeal (hPreSampleIdeal := hPreSampleIdeal) (hRefPreSampleIdeal := hRefPreSampleIdeal)
    ∧ preserves_AttnSample_AttnSampleIdeal
    ∧ algebraic_AttnSampleIdeal_RefAttnSampleIdeal_pre_finite_sample (hAttnSampleIdeal := hAttnSampleIdeal) (hRefAttnSampleIdeal := hRefAttnSampleIdeal) (hPre_finite_sample := hPre_finite_sample)
-- ==== Pre_finite.lean ====
abbrev S8 : Shape := ⟨1, ![8]⟩
abbrev S8x2048x512 : Shape := ⟨3, ![8, 2048, 512]⟩
abbrev S8x2048x256 : Shape := ⟨3, ![8, 2048, 256]⟩
abbrev S1x512 : Shape := ⟨2, ![1, 512]⟩
abbrev S_ : Shape := ⟨0, ![]⟩
abbrev S8x2048x128 : Shape := ⟨3, ![8, 2048, 128]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  slices_S8x2048x256_S8x2048x128_0_0_0 : S8x2048x256.Slices ![0, 0, 0] S8x2048x128
  bcast_S_S8x2048x128 : S_.BroadcastsInDim S8x2048x128 (![] : Fin 0 → Fin S8x2048x128.rank)
  reducesTo_S8x2048x128_S_d0_1_2 : S8x2048x128.ReducesTo [0, 1, 2] S_

variable [Facts]

def fn {F : FTy → Type} [FloatOps F] (main_arg0 : FVec F S8 .f32) (main_arg1 : FVec F S8x2048x512 .bf16) (main_arg2 : FVec F S8x2048x256 .bf16) (main_arg3 : FVec F S1x512 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S8x2048x512 .f32 := (extf .f32 · bitsLt_bf16_f32) main_arg1
  let main_v5 : FVec F S8x2048x512 .f32 := Host.absf main_v4
  let main_cst_0 : FVec F S_ .f32 := constant S_ .f32 0x7F800000#32
  let main_v6 : FVec F S8x2048x512 .f32 := broadcastInDim S8x2048x512 ![] bcast_S_S8x2048x512 main_cst_0
  let main_v7 : IVec S8x2048x512 1 := cmpf .olt main_v5 main_v6
  let main_c_1 : IVec S_ 1 := constantI S_ 1 1#1
  let main_v8 : IVec S_ 1 := (fun x v => Host.reduce IntOp.andi x v reducesTo_S8x2048x512_S_d0_1_2 h_S_) main_v7 main_c_1
  let main_v9 : IVec S_ 1 := andi main_v3 main_v8
  let main_v10 : FVec F S8x2048x128 .bf16 := (extractStridedSlice S8x2048x128 ![0, 0, 0] · slices_S8x2048x256_S8x2048x128_0_0_0) main_arg2
  let main_v11 : FVec F S8x2048x128 .f32 := (extf .f32 · bitsLt_bf16_f32) main_v10
  let main_v12 : FVec F S8x2048x128 .f32 := Host.absf main_v11
  let main_cst_2 : FVec F S_ .f32 := constant S_ .f32 0x7F800000#32
  let main_v13 : FVec F S8x2048x128 .f32 := broadcastInDim S8x2048x128 ![] bcast_S_S8x2048x128 main_cst_2
  let main_v14 : IVec S8x2048x128 1 := cmpf .olt main_v12 main_v13
  let main_c_3 : IVec S_ 1 := constantI S_ 1 1#1
  let main_v15 : IVec S_ 1 := (fun x v => Host.reduce IntOp.andi x v reducesTo_S8x2048x128_S_d0_1_2 h_S_) main_v14 main_c_3
  let main_v16 : IVec S_ 1 := andi main_v9 main_v15
  main_v16
-- ==== Pre_finite_sample.lean ====
abbrev S8 : Shape := ⟨1, ![8]⟩
abbrev S16x4096x512 : Shape := ⟨3, ![16, 4096, 512]⟩
abbrev S16x4096x256 : Shape := ⟨3, ![16, 4096, 256]⟩
abbrev S1x512 : Shape := ⟨2, ![1, 512]⟩
abbrev S_ : Shape := ⟨0, ![]⟩
abbrev S16x4096x128 : Shape := ⟨3, ![16, 4096, 128]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S16x4096x512 : S_.BroadcastsInDim S16x4096x512 (![] : Fin 0 → Fin S16x4096x512.rank)
  reducesTo_S16x4096x512_S_d0_1_2 : S16x4096x512.ReducesTo [0, 1, 2] S_
  slices_S16x4096x256_S16x4096x128_0_0_0 : S16x4096x256.Slices ![0, 0, 0] S16x4096x128
  bcast_S_S16x4096x128 : S_.BroadcastsInDim S16x4096x128 (![] : Fin 0 → Fin S16x4096x128.rank)
  reducesTo_S16x4096x128_S_d0_1_2 : S16x4096x128.ReducesTo [0, 1, 2] S_

variable [Facts]

def fn {F : FTy → Type} [FloatOps F] (main_arg0 : FVec F S8 .f32) (main_arg1 : FVec F S16x4096x512 .bf16) (main_arg2 : FVec F S16x4096x256 .bf16) (main_arg3 : FVec F S1x512 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S16x4096x512 .f32 := (extf .f32 · bitsLt_bf16_f32) main_arg1
  let main_v5 : FVec F S16x4096x512 .f32 := Host.absf main_v4
  let main_cst_0 : FVec F S_ .f32 := constant S_ .f32 0x7F800000#32
  let main_v6 : FVec F S16x4096x512 .f32 := broadcastInDim S16x4096x512 ![] bcast_S_S16x4096x512 main_cst_0
  let main_v7 : IVec S16x4096x512 1 := cmpf .olt main_v5 main_v6
  let main_c_1 : IVec S_ 1 := constantI S_ 1 1#1
  let main_v8 : IVec S_ 1 := (fun x v => Host.reduce IntOp.andi x v reducesTo_S16x4096x512_S_d0_1_2 h_S_) main_v7 main_c_1
  let main_v9 : IVec S_ 1 := andi main_v3 main_v8
  let main_v10 : FVec F S16x4096x128 .bf16 := (extractStridedSlice S16x4096x128 ![0, 0, 0] · slices_S16x4096x256_S16x4096x128_0_0_0) main_arg2
  let main_v11 : FVec F S16x4096x128 .f32 := (extf .f32 · bitsLt_bf16_f32) main_v10
  let main_v12 : FVec F S16x4096x128 .f32 := Host.absf main_v11
  let main_cst_2 : FVec F S_ .f32 := constant S_ .f32 0x7F800000#32
  let main_v13 : FVec F S16x4096x128 .f32 := broadcastInDim S16x4096x128 ![] bcast_S_S16x4096x128 main_cst_2
  let main_v14 : IVec S16x4096x128 1 := cmpf .olt main_v12 main_v13
  let main_c_3 : IVec S_ 1 := constantI S_ 1 1#1
  let main_v15 : IVec S_ 1 := (fun x v => Host.reduce IntOp.andi x v reducesTo_S16x4096x128_S_d0_1_2 h_S_) main_v14 main_c_3
  let main_v16 : IVec S_ 1 := andi main_v9 main_v15
  main_v16
-- ==== Attn.lean ====
abbrev S8 : Shape := ⟨1, ![8]⟩
abbrev S8x2048x512 : Shape := ⟨3, ![8, 2048, 512]⟩
abbrev S8x2048x256 : Shape := ⟨3, ![8, 2048, 256]⟩
abbrev S1x512 : Shape := ⟨2, ![1, 512]⟩
abbrev S1x512x512 : Shape := ⟨3, ![1, 512, 512]⟩
abbrev S1x128x256 : Shape := ⟨3, ![1, 128, 256]⟩
abbrev S1x512x256 : Shape := ⟨3, ![1, 512, 256]⟩
abbrev S4x768x128 : Shape := ⟨3, ![4, 768, 128]⟩
abbrev S8x128x384 : Shape := ⟨3, ![8, 128, 384]⟩
abbrev S128x384 : Shape := ⟨2, ![128, 384]⟩
abbrev S1x128x384 : Shape := ⟨3, ![1, 128, 384]⟩
abbrev S128x256 : Shape := ⟨2, ![128, 256]⟩
abbrev S128x128 : Shape := ⟨2, ![128, 128]⟩
abbrev S128x64 : Shape := ⟨2, ![128, 64]⟩
abbrev S1x128x128 : Shape := ⟨3, ![1, 128, 128]⟩
abbrev S512x256 : Shape := ⟨2, ![512, 256]⟩
abbrev S512x128 : Shape := ⟨2, ![512, 128]⟩
abbrev S512x64 : Shape := ⟨2, ![512, 64]⟩
abbrev S1x512x128 : Shape := ⟨3, ![1, 512, 128]⟩
abbrev S256x128 : Shape := ⟨2, ![256, 128]⟩
abbrev S1x384x128 : Shape := ⟨3, ![1, 384, 128]⟩
abbrev S384x128 : Shape := ⟨2, ![384, 128]⟩
abbrev S256x384 : Shape := ⟨2, ![256, 384]⟩
abbrev S1 : Shape := ⟨1, ![1]⟩
abbrev S128 : Shape := ⟨1, ![128]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 5
  | .vmem => 14
  | .smem => 1
  | _ => 0

abbrev bufTy : (tb : Table) → Fin (tcTables nBuf tb) → BufTy
  | .hbm, ⟨0, _⟩ => ⟨S8, .f32⟩
  | .hbm, ⟨1, _⟩ => ⟨S8x2048x512, .bf16⟩
  | .hbm, ⟨2, _⟩ => ⟨S8x2048x256, .bf16⟩
  | .hbm, ⟨3, _⟩ => ⟨S1x512, .f32⟩
  | .hbm, ⟨4, _⟩ => ⟨S8x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x512, .f32⟩
  | .local _ .vmem, ⟨9, _⟩ => ⟨S1x512x512, .bf16⟩
  | .local _ .vmem, ⟨10, _⟩ => ⟨S1x512x512, .bf16⟩
  | .local _ .vmem, ⟨11, _⟩ => ⟨S4x768x128, .bf16⟩
  | .local _ .vmem, ⟨12, _⟩ => ⟨S4x768x128, .bf16⟩
  | .local _ .vmem, ⟨13, _⟩ => ⟨S8x128x384, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
abbrev S8 : Shape := ⟨1, ![8]⟩
abbrev S8x2048x512 : Shape := ⟨3, ![8, 2048, 512]⟩
abbrev S8x2048x256 : Shape := ⟨3, ![8, 2048, 256]⟩
abbrev S1x512 : Shape := ⟨2, ![1, 512]⟩
abbrev S1x512x512 : Shape := ⟨3, ![1, 512, 512]⟩
abbrev S1x128x256 : Shape := ⟨3, ![1, 128, 256]⟩
abbrev S1x512x256 : Shape := ⟨3, ![1, 512, 256]⟩
abbrev S4x768x128 : Shape := ⟨3, ![4, 768, 128]⟩
abbrev S8x128x384 : Shape := ⟨3, ![8, 128, 384]⟩
abbrev S128x384 : Shape := ⟨2, ![128, 384]⟩
abbrev S1x128x384 : Shape := ⟨3, ![1, 128, 384]⟩
abbrev S128x256 : Shape := ⟨2, ![128, 256]⟩
abbrev S128x128 : Shape := ⟨2, ![128, 128]⟩
abbrev S128x64 : Shape := ⟨2, ![128, 64]⟩
abbrev S1x128x128 : Shape := ⟨3, ![1, 128, 128]⟩
abbrev S512x256 : Shape := ⟨2, ![512, 256]⟩
abbrev S512x128 : Shape := ⟨2, ![512, 128]⟩
abbrev S512x64 : Shape := ⟨2, ![512, 64]⟩
abbrev S1x512x128 : Shape := ⟨3, ![1, 512, 128]⟩
abbrev S256x128 : Shape := ⟨2, ![256, 128]⟩
abbrev S1x384x128 : Shape := ⟨3, ![1, 384, 128]⟩
abbrev S384x128 : Shape := ⟨2, ![384, 128]⟩
abbrev S256x384 : Shape := ⟨2, ![256, 384]⟩
abbrev S1 : Shape := ⟨1, ![1]⟩
abbrev S128 : Shape := ⟨1, ![128]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 5
  | .vmem => 14
  | .smem => 1
  | _ => 0

abbrev bufTy : (tb : Table) → Fin (tcTables nBuf tb) → BufTy
  | .hbm, ⟨0, _⟩ => ⟨S8, .f32⟩
  | .hbm, ⟨1, _⟩ => ⟨S8x2048x512, .bf16⟩
  | .hbm, ⟨2, _⟩ => ⟨S8x2048x256, .bf16⟩
  | .hbm, ⟨3, _⟩ => ⟨S1x512, .f32⟩
  | .hbm, ⟨4, _⟩ => ⟨S8x2048x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x512, .f32⟩
  | .local _ .vmem, ⟨9, _⟩ => ⟨S1x512x512, .bf16⟩
  | .local _ .vmem, ⟨10, _⟩ => ⟨S1x512x512, .bf16⟩
  | .local _ .vmem, ⟨11, _⟩ => ⟨S4x768x128, .bf16⟩
  | .local _ .vmem, ⟨12, _⟩ => ⟨S4x768x128, .bf16⟩
  | .local _ .vmem, ⟨13, _⟩ => ⟨S8x128x384, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F] [Named F]

def κ : String → Option EReal := fun
  | "neg" => some ⊥
  | _ => none

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c15_i32 : BitVec 32 := 15#32
  let v2 : BitVec 32 := Scalar.minsi v1 c15_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefAttnIdeal.lean ====
abbrev S8 : Shape := ⟨1, ![8]⟩
abbrev S8x2048x512 : Shape := ⟨3, ![8, 2048, 512]⟩
abbrev S8x2048x256 : Shape := ⟨3, ![8, 2048, 256]⟩
abbrev S1x512 : Shape := ⟨2, ![1, 512]⟩
abbrev S8x2048x2x4x64 : Shape := ⟨5, ![8, 2048, 2, 4, 64]⟩
abbrev S8x2048x128 : Shape := ⟨3, ![8, 2048, 128]⟩
abbrev S8x2048x2x64 : Shape := ⟨4, ![8, 2048, 2, 64]⟩
abbrev S_ : Shape := ⟨0, ![]⟩
abbrev S1x2x4x1x1 : Shape := ⟨5, ![1, 2, 4, 1, 1]⟩
abbrev S2048x2048 : Shape := ⟨2, ![2048, 2048]⟩
abbrev S8x2x2048x2048x4 : Shape := ⟨5, ![8, 2, 2048, 2048, 4]⟩
abbrev S8x2x4x2048x2048 : Shape := ⟨5, ![8, 2, 4, 2048, 2048]⟩
abbrev S1x1x1x2048x2048 : Shape := ⟨5, ![1, 1, 1, 2048, 2048]⟩
abbrev S1x2x4x2048x2048 : Shape := ⟨5, ![1, 2, 4, 2048, 2048]⟩
abbrev S8x2x4x2048x1 : Shape := ⟨5, ![8, 2, 4, 2048, 1]⟩
abbrev S8x2x4x2048x2049 : Shape := ⟨5, ![8, 2, 4, 2048, 2049]⟩
abbrev S8x2x4x2048 : Shape := ⟨4, ![8, 2, 4, 2048]⟩
abbrev S8x2x64x4x2048 : Shape := ⟨5, ![8, 2, 64, 4, 2048]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 85
  | .vmem => 0
  | .smem => 0
  | _ => 0

abbrev bufTy : (tb : Table) → Fin (tcTables nBuf tb) → BufTy
  | .hbm, ⟨0, _⟩ => ⟨S8, .f32⟩
  | .hbm, ⟨1, _⟩ => ⟨S8x2048x512, .bf16⟩
  | .hbm, ⟨2, _⟩ => ⟨S8x2048x256, .bf16⟩
  | .hbm, ⟨3, _⟩ => ⟨S1x512, .f32⟩
  | .hbm, ⟨4, _⟩ => ⟨S8x2048x512, .f32⟩
  | .hbm, ⟨5, _⟩ => ⟨S8x2048x2x4x64, .f32⟩
  | .hbm, ⟨6, _⟩ => ⟨S8x2048x128, .bf16⟩
  | .hbm, ⟨7, _⟩ => ⟨S8x2048x128, .f32⟩
  | .hbm, ⟨8, _⟩ => ⟨S8x2048x2x64, .f32⟩
  | .hbm, ⟨9, _⟩ => ⟨S8x2048x128, .bf16⟩
  | .hbm, ⟨10, _⟩ => ⟨S8x2048x128, .f32⟩
  | .hbm, ⟨11, _⟩ => ⟨S8x2048x2x64, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S1x2x4x1x1, .f32⟩
  | .hbm, ⟨26, _⟩ => ⟨S2048x2048, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S8x2x2048x2048x4, .f32⟩
  | .hbm, ⟨31, _⟩ => ⟨S8x2x4x2048x2048, .f32⟩
  | .hbm, ⟨32, _⟩ => ⟨S2048x2048, .f32⟩
  | .hbm, ⟨33, _⟩ => ⟨S1x1x1x2048x2048, .f32⟩
  | .hbm, ⟨34, _⟩ => ⟨S1x2x4x2048x2048, .f32⟩
  | .hbm, ⟨35, _⟩ => ⟨S1x2x4x2048x2048, .f32⟩
  | .hbm, ⟨36, _⟩ => ⟨S1x2x4x2048x2048, .f32⟩
  | .hbm, ⟨37, _⟩ => ⟨S8x2x4x2048x2048, .f32⟩
  | .hbm, ⟨38, _⟩ => ⟨S8x2x4x2048x2048, .f32⟩
  | .hbm, ⟨39, _⟩ => ⟨S_, .i32⟩
  | .hbm, ⟨40, _⟩ => ⟨S2048x2048, .i32⟩
  | .hbm, ⟨41, _⟩ => ⟨S2048x2048, .i1⟩
  | .hbm, ⟨42, _⟩ => ⟨S_, .f32⟩
  | .hbm, ⟨43, _⟩ => ⟨S_, .f32⟩
  | .hbm, ⟨44, _⟩ => ⟨S8x2x4x2048x2048, .i1⟩
  | .hbm, ⟨45, _⟩ => ⟨S8x2x4x2048x2048, .f32⟩
  | .hbm, ⟨46, _⟩ => ⟨S8x2x4x2048x2048, .f32⟩
  | .hbm, ⟨47, _⟩ => ⟨S1x2x4x1x1, .f32⟩
  | .hbm, ⟨48, _⟩ => ⟨S8x2x4x2048x1, .f32⟩
  | .hbm, ⟨49, _⟩ => ⟨S8x2x4x2048x2049, .f32⟩
  | .hbm, ⟨50, _⟩ => ⟨S_, .f32⟩
  | .hbm, ⟨51, _⟩ => ⟨S8x2x4x2048, .f32⟩
  | .hbm, ⟨52, _⟩ => ⟨S_, .f32⟩
  | .hbm, ⟨53, _⟩ => ⟨S8x2x4x2048, .f32⟩
  | .hbm, ⟨54, _⟩ => ⟨S8x2x4x2048, .f32⟩
  | .hbm, ⟨55, _⟩ => ⟨S8x2x4x2048x1, .f32⟩
  | .hbm, ⟨56, _⟩ => ⟨S8x2x4x2048x2049, .f32⟩
  | .hbm, ⟨57, _⟩ => ⟨S8x2x4x2048x2049, .f32⟩
  | .hbm, ⟨58, _⟩ => ⟨S8x2x4x2048x2049, .f32⟩
  | .hbm, ⟨59, _⟩ => ⟨S_, .f32⟩
  | .hbm, ⟨60, _⟩ => ⟨S8x2x4x2048, .f32⟩
  | .hbm, ⟨61, _⟩ => ⟨S8x2x4x2048x1, .f32⟩
  | .hbm, ⟨62, _⟩ => ⟨S8x2x4x2048x2049, .f32⟩
  | .hbm, ⟨63, _⟩ => ⟨S8x2x4x2048x2049, .f32⟩
  | .hbm, ⟨64, _⟩ => ⟨S8x2x4x2048x2048, .f32⟩
  | .hbm, ⟨65, _⟩ => ⟨S8x2x64x4x2048, .f32⟩
  | .hbm, ⟨66, _⟩ => ⟨S8x2048x2x4x64, .f32⟩
  | .hbm, ⟨67, _⟩ => ⟨S8x2048x512, .f32⟩
  | .hbm, ⟨68, _⟩ => ⟨S8x2048x512, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S_, .f32⟩
  | .hbm, ⟨76, _⟩ => ⟨S8x2048x1, .f32⟩
  | .hbm, ⟨77, _⟩ => ⟨S8x2048x1, .f32⟩
  | .hbm, ⟨78, _⟩ => ⟨S8x2048x1, .f32⟩
  | .hbm, ⟨79, _⟩ => ⟨S8x2048x512, .f32⟩
  | .hbm, ⟨80, _⟩ => ⟨S8x2048x512, .f32⟩
  | .hbm, ⟨81, _⟩ => ⟨S1x1x512, .f32⟩
  | .hbm, ⟨82, _⟩ => ⟨S8x2048x512, .f32⟩
  | .hbm, ⟨83, _⟩ => ⟨S8x2048x512, .f32⟩
  | .hbm, ⟨84, _⟩ => ⟨S8x2048x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Pre.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S1024x3328 : Shape := ⟨2, ![1024, 3328]⟩
abbrev S16384x512 : Shape := ⟨2, ![16384, 512]⟩
abbrev S16384x256 : Shape := ⟨2, ![16384, 256]⟩
abbrev S256x1024 : Shape := ⟨2, ![256, 1024]⟩
abbrev S256x512 : Shape := ⟨2, ![256, 512]⟩
abbrev S256x256 : Shape := ⟨2, ![256, 256]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S256x3328 : Shape := ⟨2, ![256, 3328]⟩

abbrev nBuf : Space → Nat
  | .hbm => 14
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1024x3328, .bf16⟩
  | .hbm, ⟨6, _⟩ => ⟨S16384x1024, .f32⟩
  | .hbm, ⟨7, _⟩ => ⟨S16384x512, .bf16⟩
  | .hbm, ⟨8, _⟩ => ⟨S16384x256, .bf16⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .f32⟩
  | .hbm, ⟨13, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x3328, .bf16⟩
  | .local _ .vmem, ⟨7, _⟩ => ⟨S256x1024, .f32⟩
  | .local _ .vmem, ⟨8, _⟩ => ⟨S256x1024, .f32⟩
  | .local _ .vmem, ⟨9, _⟩ => ⟨S256x512, .bf16⟩
  | .local _ .vmem, ⟨10, _⟩ => ⟨S256x512, .bf16⟩
  | .local _ .vmem, ⟨11, _⟩ => ⟨S256x256, .bf16⟩
  | .local _ .vmem, ⟨12, _⟩ => ⟨S256x256, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3328 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PreIdeal.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S1024x3328 : Shape := ⟨2, ![1024, 3328]⟩
abbrev S16384x512 : Shape := ⟨2, ![16384, 512]⟩
abbrev S16384x256 : Shape := ⟨2, ![16384, 256]⟩
abbrev S256x1024 : Shape := ⟨2, ![256, 1024]⟩
abbrev S256x512 : Shape := ⟨2, ![256, 512]⟩
abbrev S256x256 : Shape := ⟨2, ![256, 256]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S256x3328 : Shape := ⟨2, ![256, 3328]⟩

abbrev nBuf : Space → Nat
  | .hbm => 14
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1024x3328, .bf16⟩
  | .hbm, ⟨6, _⟩ => ⟨S16384x1024, .f32⟩
  | .hbm, ⟨7, _⟩ => ⟨S16384x512, .bf16⟩
  | .hbm, ⟨8, _⟩ => ⟨S16384x256, .bf16⟩
  | .hbm, ⟨9, _⟩ => ⟨S16384x512, .bf16⟩
  | .hbm, ⟨10, _⟩ => ⟨S16384x512, .bf16⟩
  | .hbm, ⟨11, _⟩ => ⟨S16384x512, .bf16⟩
  | .hbm, ⟨12, _⟩ => ⟨S16384x512, .f32⟩
  | .hbm, ⟨13, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x3328, .bf16⟩
  | .local _ .vmem, ⟨7, _⟩ => ⟨S256x1024, .f32⟩
  | .local _ .vmem, ⟨8, _⟩ => ⟨S256x1024, .f32⟩
  | .local _ .vmem, ⟨9, _⟩ => ⟨S256x512, .bf16⟩
  | .local _ .vmem, ⟨10, _⟩ => ⟨S256x512, .bf16⟩
  | .local _ .vmem, ⟨11, _⟩ => ⟨S256x256, .bf16⟩
  | .local _ .vmem, ⟨12, _⟩ => ⟨S256x256, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3328 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefPreIdeal.lean ====
abbrev S16384x1024 : Shape := ⟨2, ![16384, 1024]⟩
abbrev S1024x5632 : Shape := ⟨2, ![1024, 5632]⟩
abbrev S2816x1024 : Shape := ⟨2, ![2816, 1024]⟩
abbrev S1x1024 : Shape := ⟨2, ![1, 1024]⟩
abbrev S1024x3328 : Shape := ⟨2, ![1024, 3328]⟩
abbrev S_ : Shape := ⟨0, ![]⟩
abbrev S16384x5632 : Shape := ⟨2, ![16384, 5632]⟩
abbrev S16384x2816 : Shape := ⟨2, ![16384, 2816]⟩
abbrev S16384 : Shape := ⟨1, ![16384]⟩
abbrev S16384x1 : Shape := ⟨2, ![16384, 1]⟩
abbrev S16384x3328 : Shape := ⟨2, ![16384, 3328]⟩
abbrev S16384x512 : Shape := ⟨2, ![16384, 512]⟩
abbrev S16384x256 : Shape := ⟨2, ![16384, 256]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1024x3328, .bf16⟩
  | .hbm, ⟨6, _⟩ => ⟨S1024x5632, .f32⟩
  | .hbm, ⟨7, _⟩ => ⟨S2816x1024, .f32⟩
  | .hbm, ⟨8, _⟩ => ⟨S1024x3328, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x5632, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S_, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x3328, .f32⟩
  | .hbm, ⟨58, _⟩ => ⟨S16384x512, .f32⟩
  | .hbm, ⟨59, _⟩ => ⟨S16384x512, .bf16⟩
  | .hbm, ⟨60, _⟩ => ⟨S16384x256, .f32⟩
  | .hbm, ⟨61, _⟩ => ⟨S16384x256, .bf16⟩
  | .hbm, ⟨62, _⟩ => ⟨S16384x512, .f32⟩
  | .hbm, ⟨63, _⟩ => ⟨S16384x512, .bf16⟩
  | .hbm, ⟨64, _⟩ => ⟨S16384x512, .f32⟩
  | .hbm, ⟨65, _⟩ => ⟨S16384x512, .bf16⟩
  | .hbm, ⟨66, _⟩ => ⟨S16384x512, .f32⟩
  | .hbm, ⟨67, _⟩ => ⟨S16384x512, .bf16⟩
  | .hbm, ⟨68, _⟩ => ⟨S16384x512, .f32⟩
  | .hbm, ⟨69, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Post.lean ====
abbrev S16384x1024 : Shape := ⟨2, ![16384, 1024]⟩
abbrev S16384x512 : Shape := ⟨2, ![16384, 512]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S256x5632 : Shape := ⟨2, ![256, 5632]⟩
abbrev S256x2816 : Shape := ⟨2, ![256, 2816]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x512, .bf16⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S1x512, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PostIdeal.lean ====
abbrev S16384x1024 : Shape := ⟨2, ![16384, 1024]⟩
abbrev S16384x512 : Shape := ⟨2, ![16384, 512]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S256x5632 : Shape := ⟨2, ![256, 5632]⟩
abbrev S256x2816 : Shape := ⟨2, ![256, 2816]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x512, .bf16⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S1x512, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefPostIdeal.lean ====
abbrev S16384x1024 : Shape := ⟨2, ![16384, 1024]⟩
abbrev S16384x512 : Shape := ⟨2, ![16384, 512]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩

abbrev nBuf : Space → Nat
  | .hbm => 127
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S16384x512, .bf16⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S1024x5632, .f32⟩
  | .hbm, ⟨14, _⟩ => ⟨S2816x1024, .f32⟩
  | .hbm, ⟨15, _⟩ => ⟨S1024x1024, .f32⟩
  | .hbm, ⟨16, _⟩ => ⟨S16384x512, .f32⟩
  | .hbm, ⟨17, _⟩ => ⟨S16384x4x128, .f32⟩
  | .hbm, ⟨18, _⟩ => ⟨S16384x4x128, .f32⟩
  | .hbm, ⟨19, _⟩ => ⟨S_, .f32⟩
  | .hbm, ⟨20, _⟩ => ⟨S16384x4, .f32⟩
  | .hbm, ⟨21, _⟩ => ⟨S16384x4x1, .f32⟩
  | .hbm, ⟨22, _⟩ => ⟨S_, .f32⟩
  | .hbm, ⟨23, _⟩ => ⟨S16384x4x1, .f32⟩
  | .hbm, ⟨24, _⟩ => ⟨S16384x4x1, .f32⟩
  | .hbm, ⟨25, _⟩ => ⟨S_, .f32⟩
  | .hbm, ⟨26, _⟩ => ⟨S16384x4x1, .f32⟩
  | .hbm, ⟨27, _⟩ => ⟨S16384x4x1, .f32⟩
  | .hbm, ⟨28, _⟩ => ⟨S16384x4x1, .f32⟩
  | .hbm, ⟨29, _⟩ => ⟨S16384x4x128, .f32⟩
  | .hbm, ⟨30, _⟩ => ⟨S16384x4x128, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S_, .f32⟩
  | .hbm, ⟨80, _⟩ => ⟨S16384x1024, .f32⟩
  | .hbm, ⟨81, _⟩ => ⟨S16384x1024, .f32⟩
  | .hbm, ⟨82, _⟩ => ⟨S16384x5632, .f32⟩
  | .hbm, ⟨83, _⟩ => ⟨S16384x2816, .f32⟩
  | .hbm, ⟨84, _⟩ => ⟨S16384x2816, .f32⟩
  | .hbm, ⟨85, _⟩ => ⟨S16384x2816, .f32⟩
  | .hbm, ⟨86, _⟩ => ⟨S16384x2816, .f32⟩
  | .hbm, ⟨87, _⟩ => ⟨S_, .f32⟩
  | .hbm, ⟨88, _⟩ => ⟨S16384x2816, .f32⟩
  | .hbm, ⟨89, _⟩ => ⟨S16384x2816, .f32⟩
  | .hbm, ⟨90, _⟩ => ⟨S_, .f32⟩
  | .hbm, ⟨91, _⟩ => ⟨S16384x2816, .f32⟩
  | .hbm, ⟨92, _⟩ => ⟨S16384x2816, .f32⟩
  | .hbm, ⟨93, _⟩ => ⟨S16384x2816, .f32⟩
  | .hbm, ⟨94, _⟩ => ⟨S16384x2816, .f32⟩
  | .hbm, ⟨95, _⟩ => ⟨S16384x1024, .f32⟩
  | .hbm, ⟨96, _⟩ => ⟨S_, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S_, .f32⟩
  | .hbm, ⟨101, _⟩ => ⟨S16384, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S16384x1024, .f32⟩
  | .hbm, ⟨107, _⟩ => ⟨S16384x1024, .f32⟩
  | .hbm, ⟨108, _⟩ => ⟨S16384x1024, .f32⟩
  | .hbm, ⟨109, _⟩ => ⟨S_, .f32⟩
  | .hbm, ⟨110, _⟩ => ⟨S16384, .f32⟩
  | .hbm, ⟨111, _⟩ => ⟨S16384x1, .f32⟩
  | .hbm, ⟨112, _⟩ => ⟨S_, .f32⟩
  | .hbm, ⟨113, _⟩ => ⟨S16384x1, .f32⟩
  | .hbm, ⟨114, _⟩ => ⟨S16384x1, .f32⟩
  | .hbm, ⟨115, _⟩ => ⟨S16384x1024, .f32⟩
  | .hbm, ⟨116, _⟩ => ⟨S16384x1024, .f32⟩
  | .hbm, ⟨117, _⟩ => ⟨S_, .f32⟩
  | .hbm, ⟨118, _⟩ => ⟨S16384x1, .f32⟩
  | .hbm, ⟨119, _⟩ => ⟨S16384x1, .f32⟩
  | .hbm, ⟨120, _⟩ => ⟨S16384x1, .f32⟩
  | .hbm, ⟨121, _⟩ => ⟨S16384x1024, .f32⟩
  | .hbm, ⟨122, _⟩ => ⟨S16384x1024, .f32⟩
  | .hbm, ⟨123, _⟩ => ⟨S16384x1024, .f32⟩
  | .hbm, ⟨124, _⟩ => ⟨S16384x1024, .f32⟩
  | .hbm, ⟨125, _⟩ => ⟨S16384x1024, .f32⟩
  | .hbm, ⟨126, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_10 : Ref sig .tc := ⟨.hbm, 100, rfl⟩
abbrev main_v60 : Ref sig .tc := ⟨.hbm, 101, rfl⟩
abbrev main_v61 : Ref sig .tc := ⟨.hbm, 102, rfl⟩
abbrev main_cst_11 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_cst_13 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_14 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]
-- ==== PostSample.lean ====
abbrev S65536x1024 : Shape := ⟨2, ![65536, 1024]⟩
abbrev S65536x512 : Shape := ⟨2, ![65536, 512]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S256x5632 : Shape := ⟨2, ![256, 5632]⟩
abbrev S256x2816 : Shape := ⟨2, ![256, 2816]⟩

abbrev nBuf : Space → Nat
  | .hbm => 14
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .f32⟩
  | .hbm, ⟨3, _⟩ => ⟨S65536x512, .f32⟩
  | .hbm, ⟨4, _⟩ => ⟨S65536x512, .bf16⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .bf16⟩
  | .local _ .vmem, ⟨9, _⟩ => ⟨S256x512, .bf16⟩
  | .local _ .vmem, ⟨10, _⟩ => ⟨S1x512, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefPostSampleIdeal.lean ====
abbrev S65536x1024 : Shape := ⟨2, ![65536, 1024]⟩
abbrev S65536x512 : Shape := ⟨2, ![65536, 512]⟩
abbrev S1x512 : Shape := ⟨2, ![1, 512]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S65536x4x128 : Shape := ⟨3, ![65536, 4, 128]⟩
abbrev S_ : Shape := ⟨0, ![]⟩
abbrev S65536x4 : Shape := ⟨2, ![65536, 4]⟩
abbrev S65536x4x1 : Shape := ⟨3, ![65536, 4, 1]⟩
abbrev S65536 : Shape := ⟨1, ![65536]⟩
abbrev S65536x1 : Shape := ⟨2, ![65536, 1]⟩
abbrev S65536x5632 : Shape := ⟨2, ![65536, 5632]⟩
abbrev S65536x2816 : Shape := ⟨2, ![65536, 2816]⟩

abbrev nBuf : Space → Nat
  | .hbm => 127
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .f32⟩
  | .hbm, ⟨3, _⟩ => ⟨S65536x512, .f32⟩
  | .hbm, ⟨4, _⟩ => ⟨S65536x512, .bf16⟩
  | .hbm, ⟨5, _⟩ => ⟨S1x512, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S1024x5632, .f32⟩
  | .hbm, ⟨14, _⟩ => ⟨S2816x1024, .f32⟩
  | .hbm, ⟨15, _⟩ => ⟨S1024x1024, .f32⟩
  | .hbm, ⟨16, _⟩ => ⟨S65536x512, .f32⟩
  | .hbm, ⟨17, _⟩ => ⟨S65536x4x128, .f32⟩
  | .hbm, ⟨18, _⟩ => ⟨S65536x4x128, .f32⟩
  | .hbm, ⟨19, _⟩ => ⟨S_, .f32⟩
  | .hbm, ⟨20, _⟩ => ⟨S65536x4, .f32⟩
  | .hbm, ⟨21, _⟩ => ⟨S65536x4x1, .f32⟩
  | .hbm, ⟨22, _⟩ => ⟨S_, .f32⟩
  | .hbm, ⟨23, _⟩ => ⟨S65536x4x1, .f32⟩
  | .hbm, ⟨24, _⟩ => ⟨S65536x4x1, .f32⟩
  | .hbm, ⟨25, _⟩ => ⟨S_, .f32⟩
  | .hbm, ⟨26, _⟩ => ⟨S65536x4x1, .f32⟩
  | .hbm, ⟨27, _⟩ => ⟨S65536x4x1, .f32⟩
  | .hbm, ⟨28, _⟩ => ⟨S65536x4x1, .f32⟩
  | .hbm, ⟨29, _⟩ => ⟨S65536x4x128, .f32⟩
  | .hbm, ⟨30, _⟩ => ⟨S65536x4x128, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S_, .f32⟩
  | .hbm, ⟨38, _⟩ => ⟨S65536x512, .f32⟩
  | .hbm, ⟨39, _⟩ => ⟨S65536x512, .f32⟩
  | .hbm, ⟨40, _⟩ => ⟨S_, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1024, .f32⟩
  | .hbm, ⟨59, _⟩ => ⟨S65536x1024, .f32⟩
  | .hbm, ⟨60, _⟩ => ⟨S65536x1024, .f32⟩
  | .hbm, ⟨61, _⟩ => ⟨S_, .f32⟩
  | .hbm, ⟨62, _⟩ => ⟨S65536, .f32⟩
  | .hbm, ⟨63, _⟩ => ⟨S65536x1, .f32⟩
  | .hbm, ⟨64, _⟩ => ⟨S_, .f32⟩
  | .hbm, ⟨65, _⟩ => ⟨S65536x1, .f32⟩
  | .hbm, ⟨66, _⟩ => ⟨S65536x1, .f32⟩
  | .hbm, ⟨67, _⟩ => ⟨S65536x1024, .f32⟩
  | .hbm, ⟨68, _⟩ => ⟨S65536x1024, .f32⟩
  | .hbm, ⟨69, _⟩ => ⟨S_, .f32⟩
  | .hbm, ⟨70, _⟩ => ⟨S65536x1, .f32⟩
  | .hbm, ⟨71, _⟩ => ⟨S65536x1, .f32⟩
  | .hbm, ⟨72, _⟩ => ⟨S65536x1, .f32⟩
  | .hbm, ⟨73, _⟩ => ⟨S65536x1024, .f32⟩
  | .hbm, ⟨74, _⟩ => ⟨S65536x1024, .f32⟩
  | .hbm, ⟨75, _⟩ => ⟨S65536x1024, .f32⟩
  | .hbm, ⟨76, _⟩ => ⟨S65536x1024, .f32⟩
  | .hbm, ⟨77, _⟩ => ⟨S65536x1024, .f32⟩
  | .hbm, ⟨78, _⟩ => ⟨S65536x1024, .f32⟩
  | .hbm, ⟨79, _⟩ => ⟨S_, .f32⟩
  | .hbm, ⟨80, _⟩ => ⟨S65536x1024, .f32⟩
  | .hbm, ⟨81, _⟩ => ⟨S65536x1024, .f32⟩
  | .hbm, ⟨82, _⟩ => ⟨S65536x5632, .f32⟩
  | .hbm, ⟨83, _⟩ => ⟨S65536x2816, .f32⟩
  | .hbm, ⟨84, _⟩ => ⟨S65536x2816, .f32⟩
  | .hbm, ⟨85, _⟩ => ⟨S65536x2816, .f32⟩
  | .hbm, ⟨86, _⟩ => ⟨S65536x2816, .f32⟩
  | .hbm, ⟨87, _⟩ => ⟨S_, .f32⟩
  | .hbm, ⟨88, _⟩ => ⟨S65536x2816, .f32⟩
  | .hbm, ⟨89, _⟩ => ⟨S65536x2816, .f32⟩
  | .hbm, ⟨90, _⟩ => ⟨S_, .f32⟩
  | .hbm, ⟨91, _⟩ => ⟨S65536x2816, .f32⟩
  | .hbm, ⟨92, _⟩ => ⟨S65536x2816, .f32⟩
  | .hbm, ⟨93, _⟩ => ⟨S65536x2816, .f32⟩
  | .hbm, ⟨94, _⟩ => ⟨S65536x2816, .f32⟩
  | .hbm, ⟨95, _⟩ => ⟨S65536x1024, .f32⟩
  | .hbm, ⟨96, _⟩ => ⟨S_, .f32⟩
  | .hbm, ⟨97, _⟩ => ⟨S65536x1024, .f32⟩
  | .hbm, ⟨98, _⟩ => ⟨S65536x1024, .f32⟩
  | .hbm, ⟨99, _⟩ => ⟨S65536x1024, .f32⟩
  | .hbm, ⟨100, _⟩ => ⟨S_, .f32⟩
  | .hbm, ⟨101, _⟩ => ⟨S65536, .f32⟩
  | .hbm, ⟨102, _⟩ => ⟨S65536x1, .f32⟩
  | .hbm, ⟨103, _⟩ => ⟨S_, .f32⟩
  | .hbm, ⟨104, _⟩ => ⟨S65536x1, .f32⟩
  | .hbm, ⟨105, _⟩ => ⟨S65536x1, .f32⟩
  | .hbm, ⟨106, _⟩ => ⟨S65536x1024, .f32⟩
  | .hbm, ⟨107, _⟩ => ⟨S65536x1024, .f32⟩
  | .hbm, ⟨108, _⟩ => ⟨S65536x1024, .f32⟩
  | .hbm, ⟨109, _⟩ => ⟨S_, .f32⟩
  | .hbm, ⟨110, _⟩ => ⟨S65536, .f32⟩
  | .hbm, ⟨111, _⟩ => ⟨S65536x1, .f32⟩
  | .hbm, ⟨112, _⟩ => ⟨S_, .f32⟩
  | .hbm, ⟨113, _⟩ => ⟨S65536x1, .f32⟩
  | .hbm, ⟨114, _⟩ => ⟨S65536x1, .f32⟩
  | .hbm, ⟨115, _⟩ => ⟨S65536x1024, .f32⟩
  | .hbm, ⟨116, _⟩ => ⟨S65536x1024, .f32⟩
  | .hbm, ⟨117, _⟩ => ⟨S_, .f32⟩
  | .hbm, ⟨118, _⟩ => ⟨S65536x1, .f32⟩
  | .hbm, ⟨119, _⟩ => ⟨S65536x1, .f32⟩
  | .hbm, ⟨120, _⟩ => ⟨S65536x1, .f32⟩
  | .hbm, ⟨121, _⟩ => ⟨S65536x1024, .f32⟩
  | .hbm, ⟨122, _⟩ => ⟨S65536x1024, .f32⟩
  | .hbm, ⟨123, _⟩ => ⟨S65536x1024, .f32⟩
  | .hbm, ⟨124, _⟩ => ⟨S65536x1024, .f32⟩
  | .hbm, ⟨125, _⟩ => ⟨S65536x1024, .f32⟩
  | .hbm, ⟨126, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call1_v0 : Ref sig .tc := ⟨.hbm, 85, rfl⟩
abbrev main_call1_v1 : Ref sig .tc := ⟨.hbm, 86, rfl⟩
abbrev main_call1_cst : Ref sig .tc := ⟨.hbm, 87, rfl⟩
abbrev main_call1_v2 : Ref sig .tc := ⟨.hbm, 88, rfl⟩
abbrev main_call1_v3 : Ref sig .tc := ⟨.hbm, 89, rfl⟩
abbrev main_call1_cst_0 : Ref sig .tc := ⟨.hbm, 90, rfl⟩
abbrev main_call1_v4 : Ref sig .tc := ⟨.hbm, 91, rfl⟩
abbrev main_call1_v5 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_9 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_10 : Ref sig .tc := ⟨.hbm, 100, rfl⟩
abbrev main_v60 : Ref sig .tc := ⟨.hbm, 101, rfl⟩
abbrev main_v61 : Ref sig .tc := ⟨.hbm, 102, rfl⟩
abbrev main_cst_11 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_12 : Ref sig .tc := ⟨.hbm, 109, rfl⟩
abbrev main_v67 : Ref sig .tc := ⟨.hbm, 110, rfl⟩
abbrev main_v68 : Ref sig .tc := ⟨.hbm, 111, rfl⟩
abbrev main_cst_13 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_14 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩

abbrev nD : Nat := 1
abbrev τ : Topo := Topo.v7x

variable {F : FTy → Type} [FloatOps F]
-- ==== PreSample.lean ====
abbrev S65536x1024 : Shape := ⟨2, ![65536, 1024]⟩
abbrev S1024x5632 : Shape := ⟨2, ![1024, 5632]⟩
abbrev S2816x1024 : Shape := ⟨2, ![2816, 1024]⟩
abbrev S1x1024 : Shape := ⟨2, ![1, 1024]⟩
abbrev S1024x3328 : Shape := ⟨2, ![1024, 3328]⟩
abbrev S65536x512 : Shape := ⟨2, ![65536, 512]⟩
abbrev S65536x256 : Shape := ⟨2, ![65536, 256]⟩
abbrev S256x1024 : Shape := ⟨2, ![256, 1024]⟩
abbrev S256x512 : Shape := ⟨2, ![256, 512]⟩
abbrev S256x256 : Shape := ⟨2, ![256, 256]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S256x3328 : Shape := ⟨2, ![256, 3328]⟩

abbrev nBuf : Space → Nat
  | .hbm => 14
  | .vmem => 23
  | .smem => 0
  | _ => 0

abbrev bufTy : (tb : Table) → Fin (tcTables nBuf tb) → BufTy
  | .hbm, ⟨0, _⟩ => ⟨S65536x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1024x3328, .bf16⟩
  | .hbm, ⟨6, _⟩ => ⟨S65536x1024, .f32⟩
  | .hbm, ⟨7, _⟩ => ⟨S65536x512, .bf16⟩
  | .hbm, ⟨8, _⟩ => ⟨S65536x256, .bf16⟩
  | .hbm, ⟨9, _⟩ => ⟨S65536x512, .bf16⟩
  | .hbm, ⟨10, _⟩ => ⟨S65536x512, .bf16⟩
  | .hbm, ⟨11, _⟩ => ⟨S65536x512, .bf16⟩
  | .hbm, ⟨12, _⟩ => ⟨S65536x512, .f32⟩
  | .hbm, ⟨13, _⟩ => ⟨S65536x512, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S1024x3328, .bf16⟩
  | .local _ .vmem, ⟨7, _⟩ => ⟨S256x1024, .f32⟩
  | .local _ .vmem, ⟨8, _⟩ => ⟨S256x1024, .f32⟩
  | .local _ .vmem, ⟨9, _⟩ => ⟨S256x512, .bf16⟩
  | .local _ .vmem, ⟨10, _⟩ => ⟨S256x512, .bf16⟩
  | .local _ .vmem, ⟨11, _⟩ => ⟨S256x256, .bf16⟩
  | .local _ .vmem, ⟨12, _⟩ => ⟨S256x256, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3328 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefPreSampleIdeal.lean ====
abbrev S65536x1024 : Shape := ⟨2, ![65536, 1024]⟩
abbrev S1024x5632 : Shape := ⟨2, ![1024, 5632]⟩
abbrev S2816x1024 : Shape := ⟨2, ![2816, 1024]⟩
abbrev S1x1024 : Shape := ⟨2, ![1, 1024]⟩
abbrev S1024x3328 : Shape := ⟨2, ![1024, 3328]⟩
abbrev S_ : Shape := ⟨0, ![]⟩
abbrev S65536x5632 : Shape := ⟨2, ![65536, 5632]⟩
abbrev S65536x2816 : Shape := ⟨2, ![65536, 2816]⟩
abbrev S65536 : Shape := ⟨1, ![65536]⟩
abbrev S65536x1 : Shape := ⟨2, ![65536, 1]⟩
abbrev S65536x3328 : Shape := ⟨2, ![65536, 3328]⟩
abbrev S65536x512 : Shape := ⟨2, ![65536, 512]⟩
abbrev S65536x256 : Shape := ⟨2, ![65536, 256]⟩

abbrev nBuf : Space → Nat
  | .hbm => 70
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x5632, .bf16⟩
  | .hbm, ⟨2, _⟩ => ⟨S2816x1024, .bf16⟩
  | .hbm, ⟨3, _⟩ => ⟨S1x1024, .f32⟩
  | .hbm, ⟨4, _⟩ => ⟨S1x1024, .f32⟩
  | .hbm, ⟨5, _⟩ => ⟨S1024x3328, .bf16⟩
  | .hbm, ⟨6, _⟩ => ⟨S1024x5632, .f32⟩
  | .hbm, ⟨7, _⟩ => ⟨S2816x1024, .f32⟩
  | .hbm, ⟨8, _⟩ => ⟨S1024x3328, .f32⟩
  | .hbm, ⟨9, _⟩ => ⟨S_, .f32⟩
  | .hbm, ⟨10, _⟩ => ⟨S65536x1024, .f32⟩
  | .hbm, ⟨11, _⟩ => ⟨S65536x1024, .f32⟩
  | .hbm, ⟨12, _⟩ => ⟨S65536x5632, .f32⟩
  | .hbm, ⟨13, _⟩ => ⟨S65536x2816, .f32⟩
  | .hbm, ⟨14, _⟩ => ⟨S65536x2816, .f32⟩
  | .hbm, ⟨15, _⟩ => ⟨S65536x2816, .f32⟩
  | .hbm, ⟨16, _⟩ => ⟨S65536x2816, .f32⟩
  | .hbm, ⟨17, _⟩ => ⟨S_, .f32⟩
  | .hbm, ⟨18, _⟩ => ⟨S65536x2816, .f32⟩
  | .hbm, ⟨19, _⟩ => ⟨S65536x2816, .f32⟩
  | .hbm, ⟨20, _⟩ => ⟨S_, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x1024, .f32⟩
  | .hbm, ⟨26, _⟩ => ⟨S_, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1024, .f32⟩
  | .hbm, ⟨46, _⟩ => ⟨S65536x1024, .f32⟩
  | .hbm, ⟨47, _⟩ => ⟨S_, .f32⟩
  | .hbm, ⟨48, _⟩ => ⟨S65536x1, .f32⟩
  | .hbm, ⟨49, _⟩ => ⟨S65536x1, .f32⟩
  | .hbm, ⟨50, _⟩ => ⟨S65536x1, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S65536x1024, .f32⟩
  | .hbm, ⟨57, _⟩ => ⟨S65536x3328, .f32⟩
  | .hbm, ⟨58, _⟩ => ⟨S65536x512, .f32⟩
  | .hbm, ⟨59, _⟩ => ⟨S65536x512, .bf16⟩
  | .hbm, ⟨60, _⟩ => ⟨S65536x256, .f32⟩
  | .hbm, ⟨61, _⟩ => ⟨S65536x256, .bf16⟩
  | .hbm, ⟨62, _⟩ => ⟨S65536x512, .f32⟩
  | .hbm, ⟨63, _⟩ => ⟨S65536x512, .bf16⟩
  | .hbm, ⟨64, _⟩ => ⟨S65536x512, .f32⟩
  | .hbm, ⟨65, _⟩ => ⟨S65536x512, .bf16⟩
  | .hbm, ⟨66, _⟩ => ⟨S65536x512, .f32⟩
  | .hbm, ⟨67, _⟩ => ⟨S65536x512, .bf16⟩
  | .hbm, ⟨68, _⟩ => ⟨S65536x512, .f32⟩
  | .hbm, ⟨69, _⟩ => ⟨S65536x512, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== AttnSample.lean ====
abbrev S8 : Shape := ⟨1, ![8]⟩
abbrev S16x4096x512 : Shape := ⟨3, ![16, 4096, 512]⟩
abbrev S16x4096x256 : Shape := ⟨3, ![16, 4096, 256]⟩
abbrev S1x512 : Shape := ⟨2, ![1, 512]⟩
abbrev S1x512x512 : Shape := ⟨3, ![1, 512, 512]⟩
abbrev S1x128x256 : Shape := ⟨3, ![1, 128, 256]⟩
abbrev S1x512x256 : Shape := ⟨3, ![1, 512, 256]⟩
abbrev S4x768x128 : Shape := ⟨3, ![4, 768, 128]⟩
abbrev S8x128x384 : Shape := ⟨3, ![8, 128, 384]⟩
abbrev S128x384 : Shape := ⟨2, ![128, 384]⟩
abbrev S1x128x384 : Shape := ⟨3, ![1, 128, 384]⟩
abbrev S128x256 : Shape := ⟨2, ![128, 256]⟩
abbrev S128x128 : Shape := ⟨2, ![128, 128]⟩
abbrev S128x64 : Shape := ⟨2, ![128, 64]⟩
abbrev S1x128x128 : Shape := ⟨3, ![1, 128, 128]⟩
abbrev S512x256 : Shape := ⟨2, ![512, 256]⟩
abbrev S512x128 : Shape := ⟨2, ![512, 128]⟩
abbrev S512x64 : Shape := ⟨2, ![512, 64]⟩
abbrev S1x512x128 : Shape := ⟨3, ![1, 512, 128]⟩
abbrev S256x128 : Shape := ⟨2, ![256, 128]⟩
abbrev S1x384x128 : Shape := ⟨3, ![1, 384, 128]⟩
abbrev S384x128 : Shape := ⟨2, ![384, 128]⟩
abbrev S256x384 : Shape := ⟨2, ![256, 384]⟩
abbrev S1 : Shape := ⟨1, ![1]⟩
abbrev S128 : Shape := ⟨1, ![128]⟩
abbrev S128x1 : Shape := ⟨2, ![128, 1]⟩
abbrev S128x512 : Shape := ⟨2, ![128, 512]⟩
abbrev S1x128x512 : Shape := ⟨3, ![1, 128, 512]⟩

abbrev nBuf : Space → Nat
  | .hbm => 5
  | .vmem => 14
  | .smem => 1
  | _ => 0

abbrev bufTy : (tb : Table) → Fin (tcTables nBuf tb) → BufTy
  | .hbm, ⟨0, _⟩ => ⟨S8, .f32⟩
  | .hbm, ⟨1, _⟩ => ⟨S16x4096x512, .bf16⟩
  | .hbm, ⟨2, _⟩ => ⟨S16x4096x256, .bf16⟩
  | .hbm, ⟨3, _⟩ => ⟨S1x512, .f32⟩
  | .hbm, ⟨4, _⟩ => ⟨S16x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x512, .f32⟩
  | .local _ .vmem, ⟨9, _⟩ => ⟨S1x512x512, .bf16⟩
  | .local _ .vmem, ⟨10, _⟩ => ⟨S1x512x512, .bf16⟩
  | .local _ .vmem, ⟨11, _⟩ => ⟨S4x768x128, .bf16⟩
  | .local _ .vmem, ⟨12, _⟩ => ⟨S4x768x128, .bf16⟩
  | .local _ .vmem, ⟨13, _⟩ => ⟨S8x128x384, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli v0 c4_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnSampleIdeal.lean ====
variable {F : FTy → Type} [FloatOps F] [Named F]
def κ : String → Option EReal := fun
  | "neg" => some ⊥
  | _ => none
-- ==== RefAttnSampleIdeal.lean ====
abbrev S8 : Shape := ⟨1, ![8]⟩
abbrev S16x4096x512 : Shape := ⟨3, ![16, 4096, 512]⟩
abbrev S16x4096x256 : Shape := ⟨3, ![16, 4096, 256]⟩
abbrev S1x512 : Shape := ⟨2, ![1, 512]⟩
abbrev S16x4096x2x4x64 : Shape := ⟨5, ![16, 4096, 2, 4, 64]⟩
abbrev S16x4096x128 : Shape := ⟨3, ![16, 4096, 128]⟩
abbrev S16x4096x2x64 : Shape := ⟨4, ![16, 4096, 2, 64]⟩
abbrev S_ : Shape := ⟨0, ![]⟩
abbrev S1x2x4x1x1 : Shape := ⟨5, ![1, 2, 4, 1, 1]⟩
abbrev S4096x4096 : Shape := ⟨2, ![4096, 4096]⟩
abbrev S16x2x4096x4096x4 : Shape := ⟨5, ![16, 2, 4096, 4096, 4]⟩
abbrev S16x2x4x4096x4096 : Shape := ⟨5, ![16, 2, 4, 4096, 4096]⟩
abbrev S1x1x1x4096x4096 : Shape := ⟨5, ![1, 1, 1, 4096, 4096]⟩
abbrev S1x2x4x4096x4096 : Shape := ⟨5, ![1, 2, 4, 4096, 4096]⟩
abbrev S16x2x4x4096x1 : Shape := ⟨5, ![16, 2, 4, 4096, 1]⟩
abbrev S16x2x4x4096x4097 : Shape := ⟨5, ![16, 2, 4, 4096, 4097]⟩
abbrev S16x2x4x4096 : Shape := ⟨4, ![16, 2, 4, 4096]⟩
abbrev S16x2x64x4x4096 : Shape := ⟨5, ![16, 2, 64, 4, 4096]⟩
abbrev S16x4096 : Shape := ⟨2, ![16, 4096]⟩
abbrev S16x4096x1 : Shape := ⟨3, ![16, 4096, 1]⟩
abbrev S1x1x512 : Shape := ⟨3, ![1, 1, 512]⟩

abbrev nBuf : Space → Nat
  | .hbm => 85
  | .vmem => 0
  | .smem => 0
  | _ => 0

abbrev bufTy : (tb : Table) → Fin (tcTables nBuf tb) → BufTy
  | .hbm, ⟨0, _⟩ => ⟨S8, .f32⟩
  | .hbm, ⟨1, _⟩ => ⟨S16x4096x512, .bf16⟩
  | .hbm, ⟨2, _⟩ => ⟨S16x4096x256, .bf16⟩
  | .hbm, ⟨3, _⟩ => ⟨S1x512, .f32⟩
  | .hbm, ⟨4, _⟩ => ⟨S16x4096x512, .f32⟩
  | .hbm, ⟨5, _⟩ => ⟨S16x4096x2x4x64, .f32⟩
  | .hbm, ⟨6, _⟩ => ⟨S16x4096x128, .bf16⟩
  | .hbm, ⟨7, _⟩ => ⟨S16x4096x128, .f32⟩
  | .hbm, ⟨8, _⟩ => ⟨S16x4096x2x64, .f32⟩
  | .hbm, ⟨9, _⟩ => ⟨S16x4096x128, .bf16⟩
  | .hbm, ⟨10, _⟩ => ⟨S16x4096x128, .f32⟩
  | .hbm, ⟨11, _⟩ => ⟨S16x4096x2x64, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S1x2x4x1x1, .f32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S4096x4096, .i32⟩
  | .hbm, ⟨30, _⟩ => ⟨S16x2x4096x4096x4, .f32⟩
  | .hbm, ⟨31, _⟩ => ⟨S16x2x4x4096x4096, .f32⟩
  | .hbm, ⟨32, _⟩ => ⟨S4096x4096, .f32⟩
  | .hbm, ⟨33, _⟩ => ⟨S1x1x1x4096x4096, .f32⟩
  | .hbm, ⟨34, _⟩ => ⟨S1x2x4x4096x4096, .f32⟩
  | .hbm, ⟨35, _⟩ => ⟨S1x2x4x4096x4096, .f32⟩
  | .hbm, ⟨36, _⟩ => ⟨S1x2x4x4096x4096, .f32⟩
  | .hbm, ⟨37, _⟩ => ⟨S16x2x4x4096x4096, .f32⟩
  | .hbm, ⟨38, _⟩ => ⟨S16x2x4x4096x4096, .f32⟩
  | .hbm, ⟨39, _⟩ => ⟨S_, .i32⟩
  | .hbm, ⟨40, _⟩ => ⟨S4096x4096, .i32⟩
  | .hbm, ⟨41, _⟩ => ⟨S4096x4096, .i1⟩
  | .hbm, ⟨42, _⟩ => ⟨S_, .f32⟩
  | .hbm, ⟨43, _⟩ => ⟨S_, .f32⟩
  | .hbm, ⟨44, _⟩ => ⟨S16x2x4x4096x4096, .i1⟩
  | .hbm, ⟨45, _⟩ => ⟨S16x2x4x4096x4096, .f32⟩
  | .hbm, ⟨46, _⟩ => ⟨S16x2x4x4096x4096, .f32⟩
  | .hbm, ⟨47, _⟩ => ⟨S1x2x4x1x1, .f32⟩
  | .hbm, ⟨48, _⟩ => ⟨S16x2x4x4096x1, .f32⟩
  | .hbm, ⟨49, _⟩ => ⟨S16x2x4x4096x4097, .f32⟩
  | .hbm, ⟨50, _⟩ => ⟨S_, .f32⟩
  | .hbm, ⟨51, _⟩ => ⟨S16x2x4x4096, .f32⟩
  | .hbm, ⟨52, _⟩ => ⟨S_, .f32⟩
  | .hbm, ⟨53, _⟩ => ⟨S16x2x4x4096, .f32⟩
  | .hbm, ⟨54, _⟩ => ⟨S16x2x4x4096, .f32⟩
  | .hbm, ⟨55, _⟩ => ⟨S16x2x4x4096x1, .f32⟩
  | .hbm, ⟨56, _⟩ => ⟨S16x2x4x4096x4097, .f32⟩
  | .hbm, ⟨57, _⟩ => ⟨S16x2x4x4096x4097, .f32⟩
  | .hbm, ⟨58, _⟩ => ⟨S16x2x4x4096x4097, .f32⟩
  | .hbm, ⟨59, _⟩ => ⟨S_, .f32⟩
  | .hbm, ⟨60, _⟩ => ⟨S16x2x4x4096, .f32⟩
  | .hbm, ⟨61, _⟩ => ⟨S16x2x4x4096x1, .f32⟩
  | .hbm, ⟨62, _⟩ => ⟨S16x2x4x4096x4097, .f32⟩
  | .hbm, ⟨63, _⟩ => ⟨S16x2x4x4096x4097, .f32⟩
  | .hbm, ⟨64, _⟩ => ⟨S16x2x4x4096x4096, .f32⟩
  | .hbm, ⟨65, _⟩ => ⟨S16x2x64x4x4096, .f32⟩
  | .hbm, ⟨66, _⟩ => ⟨S16x4096x2x4x64, .f32⟩
  | .hbm, ⟨67, _⟩ => ⟨S16x4096x512, .f32⟩
  | .hbm, ⟨68, _⟩ => ⟨S16x4096x512, .f32⟩
  | .hbm, ⟨69, _⟩ => ⟨S_, .f32⟩
  | .hbm, ⟨70, _⟩ => ⟨S16x4096, .f32⟩
  | .hbm, ⟨71, _⟩ => ⟨S16x4096x1, .f32⟩
  | .hbm, ⟨72, _⟩ => ⟨S_, .f32⟩
  | .hbm, ⟨73, _⟩ => ⟨S16x4096x1, .f32⟩
  | .hbm, ⟨74, _⟩ => ⟨S16x4096x1, .f32⟩
  | .hbm, ⟨75, _⟩ => ⟨S_, .f32⟩
  | .hbm, ⟨76, _⟩ => ⟨S16x4096x1, .f32⟩
  | .hbm, ⟨77, _⟩ => ⟨S16x4096x1, .f32⟩
  | .hbm, ⟨78, _⟩ => ⟨S16x4096x1, .f32⟩
  | .hbm, ⟨79, _⟩ => ⟨S16x4096x512, .f32⟩
  | .hbm, ⟨80, _⟩ => ⟨S16x4096x512, .f32⟩
  | .hbm, ⟨81, _⟩ => ⟨S1x1x512, .f32⟩
  | .hbm, ⟨82, _⟩ => ⟨S16x4096x512, .f32⟩
  | .hbm, ⟨83, _⟩ => ⟨S16x4096x512, .f32⟩
  | .hbm, ⟨84, _⟩ => ⟨S16x4096x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_v54 : Ref sig .tc := ⟨.hbm, 71, rfl⟩
abbrev main_cst_8 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.RefFrames.lean ====
/-
  The reference programs run to the end and leave their arguments and every semaphore counter as the claims say.
-/
module
public import proofs.«01_k».proof.Defs
public import proofs.«01_k».proof.Proof.Gen.RefPreIdeal.Run
public import proofs.«01_k».proof.Proof.Gen.RefPostIdeal.Run
public import proofs.«01_k».proof.Proof.Gen.RefAttnIdeal.Run
public import proofs.«01_k».proof.Proof.Gen.RefAttnSampleIdeal.Run
public import proofs.«01_k».proof.Proof.Gen.RefPostSampleIdeal.Run
public import proofs.«01_k».proof.Proof.Gen.RefPreSampleIdeal.Run
public import Idealize.ShloMosaic.Adequacy
public import Idealize.ShloMosaic.Lib.Claim
@[expose] public section
set_option maxRecDepth 16384
open Idealize.ShloMosaic Idealize.SL.Sem
noncomputable section
namespace Cert.RefFrames

/-- The first call's reference. -/
theorem pre : Cert.quiescent_RefPreIdeal := by
  intro m g _
  exact (θ_run _ _ _).mono (fun r h => ⟨fun c => (h c).2.2.2.2.2.2.2.2, sem_eq_zero_of_no_sems (by decide) r.2⟩)
    (Cert.RefPreIdeal.Value.run m g)

/-- The last call's reference. -/
theorem post : Cert.quiescent_RefPostIdeal := by
  intro m g _
  exact (θ_run _ _ _).mono (fun r h => ⟨fun c => (h c).2, sem_eq_zero_of_no_sems (by decide) r.2⟩)
    (Cert.RefPostIdeal.Value.run m g)

/-- The last call's reference, at the second batch's size. -/
theorem postSample : Cert.quiescent_RefPostSampleIdeal := by
  intro m g _
  exact (θ_run _ _ _).mono (fun r h => ⟨fun c => (h c).2, sem_eq_zero_of_no_sems (by decide) r.2⟩)
    (Cert.RefPostSampleIdeal.Value.run m g)

/-- The first call's reference, at the second batch's size. -/
theorem preSample : Cert.quiescent_RefPreSampleIdeal := by
  intro m g _
  exact (θ_run _ _ _).mono (fun r h => ⟨fun c => (h c).2.2.2.2.2.2.2.2, sem_eq_zero_of_no_sems (by decide) r.2⟩)
    (Cert.RefPreSampleIdeal.Value.run m g)

/-- The attention's reference. -/
theorem attn : Cert.quiescent_RefAttnIdeal := by
  intro m g _
  exact (θ_run _ _ _).mono (fun r h => ⟨fun c => (h c).2, sem_eq_zero_of_no_sems (by decide) r.2⟩)
    (Cert.RefAttnIdeal.Value.run m g)

/-- The attention's reference, at the second batch's size. -/
theorem attnSample : Cert.quiescent_RefAttnSampleIdeal := by
  intro m g _
  exact (θ_run _ _ _).mono (fun r h => ⟨fun c => (h c).2, sem_eq_zero_of_no_sems (by decide) r.2⟩)
    (Cert.RefAttnSampleIdeal.Value.run m g)

end Cert.RefFrames
-- ==== Proof.Rows.lean ====
/-
  The row functions of the layer over the extended reals: what each token's row becomes under a dense map, a SwiGLU
  feed-forward block, the scaled residual sum and a layer normalisation. Both the kernels and the references are shown to
  compute these, row by row.
-/
module
public import Idealize.ShloMosaic.Lib.Pointwise
@[expose] public section
open Idealize.ShloMosaic
noncomputable section
namespace Cert.Rows

/-- One row times a matrix. -/
def dense {n k : ℕ} (x : Fin n → EReal) (w : Fin n → Fin k → EReal) : Fin k → EReal := fun j => ∑ i, x i * w i j

/-- `silu(gate) · up` of a row, gate and up the two halves of the row's product with `w13`. -/
def gated (x : Fin 1024 → EReal) (w13 : Fin 1024 → Fin 5632 → EReal) : Fin 2816 → EReal := fun k =>
  dense x w13 ⟨k.val, by omega⟩ * Ideal.logistic (dense x w13 ⟨k.val, by omega⟩) * dense x w13 ⟨2816 + k.val, by omega⟩

/-- The SwiGLU feed-forward block of a row. -/
def swiglu (x : Fin 1024 → EReal) (w13 : Fin 1024 → Fin 5632 → EReal) (w2 : Fin 2816 → Fin 1024 → EReal) :
    Fin 1024 → EReal := dense (gated x w13) w2

/-- The residual `α · x + ½ · f` around a feed-forward block. -/
def half (x f : Fin 1024 → EReal) : Fin 1024 → EReal := fun j =>
  Ideal.ofBits .f32 0x3F9837F0#32 * x j + Ideal.ofBits .f32 0x3F000000#32 * f j

/-- The residual `α · x + f` around the token mixing. -/
def whole (x f : Fin 1024 → EReal) : Fin 1024 → EReal := fun j => Ideal.ofBits .f32 0x3F9837F0#32 * x j + f j

/-- The mean of a row of 1024. -/
def mean (y : Fin 1024 → EReal) : EReal := Ideal.div (∑ k, y k) (Ideal.ofBits .f32 0x44800000#32)

/-- The layer normalisation of a row, with its gain and its offset. -/
def layerNorm (y g b : Fin 1024 → EReal) : Fin 1024 → EReal := fun j =>
  (y j - mean y) * Ideal.rsqrt (mean (fun k => (y k - mean y) * (y k - mean y)) + Ideal.ofBits .f32 0x3727C5AC#32) * g j + b j

/-- Each group of 128 entries of a row of 512 divided by its root mean square. -/
def groupRms (o : Fin 512 → EReal) : Fin 512 → EReal := fun j =>
  o j * Ideal.rsqrt (Ideal.div (∑ l : Fin 128, o ⟨j.val / 128 * 128 + l.val, by omega⟩ * o ⟨j.val / 128 * 128 + l.val, by omega⟩)
    (Ideal.ofBits .f32 0x43000000#32) + Ideal.ofBits .f32 0x3727C5AC#32)

/-- The recurrence's row after its norm, its gain and its silu gate. -/
def gate (o hg gh : Fin 512 → EReal) : Fin 512 → EReal := fun j => groupRms o j * hg j * (gh j * Ideal.logistic (gh j))

/-- The output projection of the attention's row beside the recurrence's. -/
def mix (oa o hg gh : Fin 512 → EReal) (w : Fin 1024 → Fin 1024 → EReal) : Fin 1024 → EReal := fun j =>
  ∑ i : Fin 512, oa i * w ⟨i.val, by omega⟩ j + ∑ i : Fin 512, gate o hg gh i * w ⟨512 + i.val, by omega⟩ j

/-- The second half of the layer on a row: token mixing's projection, its residual and norm, the second feed-forward
    block, its residual and norm. -/
def tail (x1 : Fin 1024 → EReal) (oa o hg gh : Fin 512 → EReal) (w : Fin 1024 → Fin 1024 → EReal) (g2 b2 : Fin 1024 → EReal)
    (w13 : Fin 1024 → Fin 5632 → EReal) (w2 : Fin 2816 → Fin 1024 → EReal) (g3 b3 : Fin 1024 → EReal) : Fin 1024 → EReal :=
  let x2 := layerNorm (whole x1 (mix oa o hg gh w)) g2 b2
  layerNorm (half x2 (swiglu x2 w13 w2)) g3 b3

end Cert.Rows
-- ==== Proof.PreValue.lean ====
/-
  The first call of the layer, as a kernel: every row of its eight result arrays is the row function of Rows.lean of the
  corresponding row of its first argument.
-/
module
public import proofs.«01_k».proof.Proof.Rows
public import proofs.«01_k».proof.Proof.Gen.PreIdeal.Value
public import Idealize.ShloMosaic.Lib.Pointwise
public import Idealize.ShloMosaic.Lib.Pipeline.ValueKit
@[expose] public section
set_option maxRecDepth 16384
open Idealize.ShloMosaic Idealize.ShloMosaic.TcCoe Idealize.SL.Sem
open Idealize.ShloMosaic.Pipeline (Dat)
noncomputable section
namespace Cert.PreIdeal.Hand
open Cert.PreIdeal Cert.PreIdeal.Gen Cert.Rows

/-- The normalised row: feed-forward block, residual, layer normalisation. -/
def row (x : Fin 1024 → EReal) (w13 : FVec Ideal S1024x5632 .bf16) (w2 : FVec Ideal S2816x1024 .bf16)
    (g b : FVec Ideal S1x1024 .f32) : Fin 1024 → EReal :=
  layerNorm (half x (swiglu x (fun i j => w13 (ix2 i j)) (fun i j => w2 (ix2 i j))))
    (fun j => g (ix2 0 j)) (fun j => b (ix2 0 j))

/-- The input projection of the normalised row. -/
def proj (x : Fin 1024 → EReal) (w13 : FVec Ideal S1024x5632 .bf16) (w2 : FVec Ideal S2816x1024 .bf16)
    (g b : FVec Ideal S1x1024 .f32) (win : FVec Ideal S1024x3328 .bf16) : Fin 3328 → EReal :=
  dense (row x w13 w2 g b) fun i j => win (ix2 i j)

/-- The body's normalised block, row by row. -/
theorem pay9_apply (x0 : FVec Ideal S256x1024 .f32) (x1 : FVec Ideal S1024x5632 .bf16) (x2 : FVec Ideal S2816x1024 .bf16)
    (x3 x4 : FVec Ideal S1x1024 .f32) (r : Fin 256) (c : Fin 1024) :
    k0_pay9 (F := Ideal) x0 x1 x2 x3 x4 (ix2 r c) = row (fun k => x0 (ix2 r k)) x1 x2 x3 x4 c := by
  pointwise [k0_pay9]
  rfl

/-- The body's projected block, row by row. -/
theorem pay1_apply (x0 : FVec Ideal S256x1024 .f32) (x1 : FVec Ideal S1024x5632 .bf16) (x2 : FVec Ideal S2816x1024 .bf16)
    (x3 x4 : FVec Ideal S1x1024 .f32) (x5 : FVec Ideal S1024x3328 .bf16) (r : Fin 256) (c : Fin 3328) :
    k0_pay1 (F := Ideal) (k0_pay9 x0 x1 x2 x3 x4) x5 (ix2 r c) = proj (fun k => x0 (ix2 r k)) x1 x2 x3 x4 x5 c := by
  pointwise [k0_pay1]
  exact Finset.sum_congr rfl fun k _ => congrArg (· * _) (pay9_apply x0 x1 x2 x3 x4 r k)

variable (m : (ℓ : Loc nD τ sig) → Buf (Elt Ideal) ℓ)

/-- The windows' block indices: the token windows move with the grid, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0]
    ∧ win0_13.index t = ![t.val, 0] ∧ t.val < 64 := (by decide +kernel : ∀ t : Fin grid0.N, _)

/-- The tokens as rows. -/
abbrev X (c : Dev nD) : Fin 16384 → Fin 1024 → EReal := fun r k =>
  (show FVec Ideal S16384x1024 .f32 from m ((c : Thread nD τ).loc main_arg0)) (ix2 r k)

abbrev A1 (c : Dev nD) : FVec Ideal S1024x5632 .bf16 := m ((c : Thread nD τ).loc main_arg1)
abbrev A2 (c : Dev nD) : FVec Ideal S2816x1024 .bf16 := m ((c : Thread nD τ).loc main_arg2)
abbrev A3 (c : Dev nD) : FVec Ideal S1x1024 .f32 := m ((c : Thread nD τ).loc main_arg3)
abbrev A4 (c : Dev nD) : FVec Ideal S1x1024 .f32 := m ((c : Thread nD τ).loc main_arg4)
abbrev A5 (c : Dev nD) : FVec Ideal S1024x3328 .bf16 := m ((c : Thread nD τ).loc main_arg5)

/-- A weight's block is the whole weight. -/
theorem iblk1 (c : Dev nD) (t : Fin cfg0.N) : iblk m c 1 t = A1 m c := by blk_ext! [iblk, V, idx t]
theorem iblk2 (c : Dev nD) (t : Fin cfg0.N) : iblk m c 2 t = A2 m c := by blk_ext! [iblk, V, idx t]
theorem iblk3 (c : Dev nD) (t : Fin cfg0.N) : iblk m c 3 t = A3 m c := by blk_ext! [iblk, V, idx t]
theorem iblk4 (c : Dev nD) (t : Fin cfg0.N) : iblk m c 4 t = A4 m c := by blk_ext! [iblk, V, idx t]
theorem iblk5 (c : Dev nD) (t : Fin cfg0.N) : iblk m c 5 t = A5 m c := by blk_ext! [iblk, V, idx t]

theorem hz2 : (![0, 0] : Fin 2 → Nat) = fun _ => 0 := funext fun a => by fin_cases a <;> rfl

/-- A block of tokens is 256 of the rows. -/
theorem iblk0 (c : Dev nD) (t : Fin cfg0.N) (r : Fin 256) (R : Fin 16384) (hR : R.val = t.val * 256 + r.val) :
    (fun k => (show FVec Ideal S256x1024 .f32 from iblk m c 0 t) (ix2 r k)) = X m c R := by
  funext k
  blk_ext [iblk, V, idx t, hR]

/-- The body's normalised block over the arguments. -/
theorem point9 (c : Dev nD) (t : Fin cfg0.N) (r : Fin 256) (k : Fin 1024) (R : Fin 16384) (hR : R.val = t.val * 256 + r.val) :
    k0_pay10 (F := Ideal) (iblk m c 0 t) (A1 m c) (A2 m c) (A3 m c) (A4 m c) (A5 m c) (ix2 r k)
      = row (X m c R) (A1 m c) (A2 m c) (A3 m c) (A4 m c) k := by
  unfold k0_pay10
  rw [View.ld_unit_zero hz2, View.ld_unit_zero hz2, View.ld_unit_zero hz2, View.ld_unit_zero hz2,
    View.ld_unit_zero hz2, pay9_apply, iblk0 m c t r R hR]

/-- The body's projected block over the arguments. -/
theorem point1 (c : Dev nD) (t : Fin cfg0.N) (r : Fin 256) (k : Fin 3328) (R : Fin 16384) (hR : R.val = t.val * 256 + r.val) :
    k0_pay1 (F := Ideal) (k0_pay10 (iblk m c 0 t) (A1 m c) (A2 m c) (A3 m c) (A4 m c) (A5 m c)) (A5 m c) (ix2 r k)
      = proj (X m c R) (A1 m c) (A2 m c) (A3 m c) (A4 m c) (A5 m c) k := by
  unfold k0_pay10
  rw [View.ld_unit_zero hz2, View.ld_unit_zero hz2, View.ld_unit_zero hz2, View.ld_unit_zero hz2,
    View.ld_unit_zero hz2, pay1_apply, iblk0 m c t r R hR]

/-- The body's normalised block at a block index, where the array index is the block's row offset on. -/
theorem at9 (c : Dev nD) (t : Fin cfg0.N) (y : S256x1024.Idx) (i : S16384x1024.Idx) (h0 : (i 0).val = t.val * 256 + (y 0).val)
    (h1 : (i 1).val = (y 1).val) :
    k0_pay10 (F := Ideal) (iblk m c 0 t) (A1 m c) (A2 m c) (A3 m c) (A4 m c) (A5 m c) y
      = row (X m c (i 0)) (A1 m c) (A2 m c) (A3 m c) (A4 m c) (i 1) := by
  have hy : y = ix2 (y 0) (y 1) := by blk_ext []
  rw [hy, show i 1 = y 1 from Fin.ext h1]
  exact point9 m c t (y 0) (y 1) (i 0) h0

/-- The first result array: the normalised rows. -/
theorem final6 (c : Dev nD) : (dats m 0 c).arrAt 6 (cfgs 0).N =
    fun i : S16384x1024.Idx => row (X m c (i 0)) (A1 m c) (A2 m c) (A3 m c) (A4 m c) (i 1) := by
  refine (dats m 0 c).arrAt_eq_of_covers 6 _ (by decide +kernel) fun t _ y => ?_
  blk_simp
  rw [after0_6]
  frame_out
  rw [iblk1, iblk2, iblk3, iblk4, iblk5]
  exact at9 m c t y _ (by blk_simp [idx t]) (by blk_simp [idx t])

/-- The same for the projected block, the two column numbers given apart. -/
theorem at1 (c : Dev nD) (t : Fin cfg0.N) (r : Fin 256) (l l' : Fin 3328) (R : Fin 16384)
    (hR : R.val = t.val * 256 + r.val) (hl : l'.val = l.val) :
    k0_pay1 (F := Ideal) (k0_pay10 (iblk m c 0 t) (A1 m c) (A2 m c) (A3 m c) (A4 m c) (A5 m c)) (A5 m c) (ix2 r l)
      = proj (X m c R) (A1 m c) (A2 m c) (A3 m c) (A4 m c) (A5 m c) l' := by
  obtain rfl : l' = l := Fin.ext hl
  exact point1 m c t r l' R hR

/-- A further result array: columns 0 to 511 of the projected rows. -/
theorem final7 (c : Dev nD) : (dats m 0 c).arrAt 7 (cfgs 0).N =
    fun i : S16384x512.Idx => proj (X m c (i 0)) (A1 m c) (A2 m c) (A3 m c) (A4 m c) (A5 m c)
      ⟨0 + (i 1).val, by have h : (i 1).val < 512 := (i 1).isLt; omega⟩ := by
  refine (dats m 0 c).arrAt_eq_of_covers 7 _ (by decide +kernel) fun t _ y => ?_
  blk_simp
  rw [after0_7]
  frame_out
  rw [iblk1, iblk2, iblk3, iblk4, iblk5]
  unfold k0_pay2
  pointwise
  exact at1 m c t (y 0) _ _ _ (by blk_simp [idx t]) (by blk_simp [idx t])

/-- A further result array: columns 512 to 767 of the projected rows. -/
theorem final8 (c : Dev nD) : (dats m 0 c).arrAt 8 (cfgs 0).N =
    fun i : S16384x256.Idx => proj (X m c (i 0)) (A1 m c) (A2 m c) (A3 m c) (A4 m c) (A5 m c)
      ⟨512 + (i 1).val, by have h : (i 1).val < 256 := (i 1).isLt; omega⟩ := by
  refine (dats m 0 c).arrAt_eq_of_covers 8 _ (by decide +kernel) fun t _ y => ?_
  blk_simp
  rw [after0_8]
  frame_out
  rw [iblk1, iblk2, iblk3, iblk4, iblk5]
  unfold k0_pay3
  pointwise
  exact at1 m c t (y 0) _ _ _ (by blk_simp [idx t]) (by blk_simp [idx t])

/-- A further result array: columns 768 to 1279 of the projected rows. -/
theorem final9 (c : Dev nD) : (dats m 0 c).arrAt 9 (cfgs 0).N =
    fun i : S16384x512.Idx => proj (X m c (i 0)) (A1 m c) (A2 m c) (A3 m c) (A4 m c) (A5 m c)
      ⟨768 + (i 1).val, by have h : (i 1).val < 512 := (i 1).isLt; omega⟩ := by
  refine (dats m 0 c).arrAt_eq_of_covers 9 _ (by decide +kernel) fun t _ y => ?_
  blk_simp
  rw [after0_9]
  frame_out
  rw [iblk1, iblk2, iblk3, iblk4, iblk5]
  unfold k0_pay4
  pointwise
  exact at1 m c t (y 0) _ _ _ (by blk_simp [idx t]) (by blk_simp [idx t])

/-- A further result array: columns 1280 to 1791 of the projected rows. -/
theorem final10 (c : Dev nD) : (dats m 0 c).arrAt 10 (cfgs 0).N =
    fun i : S16384x512.Idx => proj (X m c (i 0)) (A1 m c) (A2 m c) (A3 m c) (A4 m c) (A5 m c)
      ⟨1280 + (i 1).val, by have h : (i 1).val < 512 := (i 1).isLt; omega⟩ := by
  refine (dats m 0 c).arrAt_eq_of_covers 10 _ (by decide +kernel) fun t _ y => ?_
  blk_simp
  rw [after0_10]
  frame_out
  rw [iblk1, iblk2, iblk3, iblk4, iblk5]
  unfold k0_pay5
  pointwise
  exact at1 m c t (y 0) _ _ _ (by blk_simp [idx t]) (by blk_simp [idx t])

/-- A further result array: columns 1792 to 2303 of the projected rows. -/
theorem final11 (c : Dev nD) : (dats m 0 c).arrAt 11 (cfgs 0).N =
    fun i : S16384x512.Idx => proj (X m c (i 0)) (A1 m c) (A2 m c) (A3 m c) (A4 m c) (A5 m c)
      ⟨1792 + (i 1).val, by have h : (i 1).val < 512 := (i 1).isLt; omega⟩ := by
  refine (dats m 0 c).arrAt_eq_of_covers 11 _ (by decide +kernel) fun t _ y => ?_
  blk_simp
  rw [after0_11]
  frame_out
  rw [iblk1, iblk2, iblk3, iblk4, iblk5]
  unfold k0_pay6
  pointwise
  exact at1 m c t (y 0) _ _ _ (by blk_simp [idx t]) (by blk_simp [idx t])

/-- A further result array: columns 2304 to 2815 of the projected rows. -/
theorem final12 (c : Dev nD) : (dats m 0 c).arrAt 12 (cfgs 0).N =
    fun i : S16384x512.Idx => proj (X m c (i 0)) (A1 m c) (A2 m c) (A3 m c) (A4 m c) (A5 m c)
      ⟨2304 + (i 1).val, by have h : (i 1).val < 512 := (i 1).isLt; omega⟩ := by
  refine (dats m 0 c).arrAt_eq_of_covers 12 _ (by decide +kernel) fun t _ y => ?_
  blk_simp
  rw [after0_12]
  frame_out
  rw [iblk1, iblk2, iblk3, iblk4, iblk5]
  unfold k0_pay7
  pointwise
  exact at1 m c t (y 0) _ _ _ (by blk_simp [idx t]) (by blk_simp [idx t])

/-- A further result array: columns 2816 to 3327 of the projected rows. -/
theorem final13 (c : Dev nD) : (dats m 0 c).arrAt 13 (cfgs 0).N =
    fun i : S16384x512.Idx => proj (X m c (i 0)) (A1 m c) (A2 m c) (A3 m c) (A4 m c) (A5 m c)
      ⟨2816 + (i 1).val, by have h : (i 1).val < 512 := (i 1).isLt; omega⟩ := by
  refine (dats m 0 c).arrAt_eq_of_covers 13 _ (by decide +kernel) fun t _ y => ?_
  blk_simp
  rw [after0_13]
  frame_out
  rw [iblk1, iblk2, iblk3, iblk4, iblk5]
  unfold k0_pay8
  pointwise
  exact at1 m c t (y 0) _ _ _ (by blk_simp [idx t]) (by blk_simp [idx t])
end Cert.PreIdeal.Hand
-- ==== Proof.RefPreValue.lean ====
/-
  The first call of the layer, as plain mathematics: every row of the reference's results is the same row function.
-/
module
public import proofs.«01_k».proof.Proof.PreValue
public import proofs.«01_k».proof.Proof.Gen.RefPreIdeal.Read
@[expose] public section
set_option maxRecDepth 16384
open Idealize.ShloMosaic Idealize.ShloMosaic.TcCoe Idealize.SL.Sem
noncomputable section
namespace Cert.RefPreIdeal.Hand
open Cert.RefPreIdeal Cert.RefPreIdeal.Gen Cert.RefPreIdeal.Read Cert.Rows

variable (x0 : FVec Ideal S16384x1024 .f32) (x1 : FVec Ideal S1024x5632 .bf16) (x2 : FVec Ideal S2816x1024 .bf16)
    (x3 x4 : FVec Ideal S1x1024 .f32) (x5 : FVec Ideal S1024x3328 .bf16)

/-- The reference's residual sum, row by row. -/
theorem v13_apply (r : Fin 16384) (c : Fin 1024) :
    val_main_v13 (F := Ideal) x0 x1 x2 (ix2 r c) =
      half (fun k => x0 (ix2 r k)) (swiglu (fun k => x0 (ix2 r k)) (fun i j => x1 (ix2 i j)) (fun i j => x2 (ix2 i j))) c := by
  pointwise [val_main_v13, val_main_v4, val_main_v3, val_main_cst, val_main_v12, val_main_v11, val_main_cst_0, val_main_v10,
    val_main_v1, val_main_v9, val_main_v8, val_main_v7, val_main_v6, val_main_v5, val_main_v0, val_main_call0_v5,
    val_main_call0_v4, val_main_call0_v3, val_main_call0_v2, val_main_call0_v1, val_main_call0_v0, val_main_call0_cst,
    val_main_call0_cst_0]
  rfl

/-- The reference's normalised rows. -/
theorem v35_apply (r : Fin 16384) (c : Fin 1024) :
    val_main_v35 (F := Ideal) x0 x1 x2 x3 x4 (ix2 r c) = Cert.PreIdeal.Hand.row (fun k => x0 (ix2 r k)) x1 x2 x3 x4 c := by
  pointwise [val_main_v35, val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_cst_5, val_main_cst_4,
    val_main_cst_3, val_main_cst_2, val_main_cst_1, v13_apply]
  rfl

/-- The reference's projected rows. -/
theorem v36_apply (r : Fin 16384) (c : Fin 3328) :
    val_main_v36 (F := Ideal) x0 x1 x2 x3 x4 x5 (ix2 r c) = Cert.PreIdeal.Hand.proj (fun k => x0 (ix2 r k)) x1 x2 x3 x4 x5 c := by
  pointwise [val_main_v36, val_main_v2]
  exact Finset.sum_congr rfl fun k _ => congrArg (· * _) (v35_apply x0 x1 x2 x3 x4 r k)

/-- The first result: the normalised rows. -/
theorem v35_eq : val_main_v35 (F := Ideal) x0 x1 x2 x3 x4 =
    fun i : S16384x1024.Idx => Cert.PreIdeal.Hand.row (fun k => x0 (ix2 (i 0) k)) x1 x2 x3 x4 (i 1) := by
  funext i
  idx_vars i
  exact v35_apply x0 x1 x2 x3 x4 _ _

/-- Columns 0 to 511 of the projected rows. -/
theorem v38_eq : val_main_v38 (F := Ideal) x0 x1 x2 x3 x4 x5 =
    fun i : S16384x512.Idx => Cert.PreIdeal.Hand.proj (fun k => x0 (ix2 (i 0) k)) x1 x2 x3 x4 x5
      ⟨0 + (i 1).val, by have h : (i 1).val < 512 := (i 1).isLt; omega⟩ := by
  funext i
  idx_vars i
  pointwise [val_main_v38, val_main_v37]
  rw [v36_apply]

/-- Columns 512 to 767 of the projected rows. -/
theorem v40_eq : val_main_v40 (F := Ideal) x0 x1 x2 x3 x4 x5 =
    fun i : S16384x256.Idx => Cert.PreIdeal.Hand.proj (fun k => x0 (ix2 (i 0) k)) x1 x2 x3 x4 x5
      ⟨512 + (i 1).val, by have h : (i 1).val < 256 := (i 1).isLt; omega⟩ := by
  funext i
  idx_vars i
  pointwise [val_main_v40, val_main_v39]
  rw [v36_apply]

/-- Columns 768 to 1279 of the projected rows. -/
theorem v42_eq : val_main_v42 (F := Ideal) x0 x1 x2 x3 x4 x5 =
    fun i : S16384x512.Idx => Cert.PreIdeal.Hand.proj (fun k => x0 (ix2 (i 0) k)) x1 x2 x3 x4 x5
      ⟨768 + (i 1).val, by have h : (i 1).val < 512 := (i 1).isLt; omega⟩ := by
  funext i
  idx_vars i
  pointwise [val_main_v42, val_main_v41]
  rw [v36_apply]

/-- Columns 1280 to 1791 of the projected rows. -/
theorem v44_eq : val_main_v44 (F := Ideal) x0 x1 x2 x3 x4 x5 =
    fun i : S16384x512.Idx => Cert.PreIdeal.Hand.proj (fun k => x0 (ix2 (i 0) k)) x1 x2 x3 x4 x5
      ⟨1280 + (i 1).val, by have h : (i 1).val < 512 := (i 1).isLt; omega⟩ := by
  funext i
  idx_vars i
  pointwise [val_main_v44, val_main_v43]
  rw [v36_apply]

/-- Columns 1792 to 2303 of the projected rows. -/
theorem v46_eq : val_main_v46 (F := Ideal) x0 x1 x2 x3 x4 x5 =
    fun i : S16384x512.Idx => Cert.PreIdeal.Hand.proj (fun k => x0 (ix2 (i 0) k)) x1 x2 x3 x4 x5
      ⟨1792 + (i 1).val, by have h : (i 1).val < 512 := (i 1).isLt; omega⟩ := by
  funext i
  idx_vars i
  pointwise [val_main_v46, val_main_v45]
  rw [v36_apply]

/-- Columns 2304 to 2815 of the projected rows. -/
theorem v47_eq : val_main_v47 (F := Ideal) x0 x1 x2 x3 x4 x5 =
    fun i : S16384x512.Idx => Cert.PreIdeal.Hand.proj (fun k => x0 (ix2 (i 0) k)) x1 x2 x3 x4 x5
      ⟨2304 + (i 1).val, by have h : (i 1).val < 512 := (i 1).isLt; omega⟩ := by
  funext i
  idx_vars i
  pointwise [val_main_v47]
  rw [v36_apply]

/-- Columns 2816 to 3327 of the projected rows. -/
theorem v48_eq : val_main_v48 (F := Ideal) x0 x1 x2 x3 x4 x5 =
    fun i : S16384x512.Idx => Cert.PreIdeal.Hand.proj (fun k => x0 (ix2 (i 0) k)) x1 x2 x3 x4 x5
      ⟨2816 + (i 1).val, by have h : (i 1).val < 512 := (i 1).isLt; omega⟩ := by
  funext i
  idx_vars i
  pointwise [val_main_v48]
  rw [v36_apply]

end Cert.RefPreIdeal.Hand
-- ==== Proof.PreClaim.lean ====
/-
  The first call of the layer computes its reference's results, over the extended reals.
-/
module
public import proofs.«01_k».proof.Defs
public import proofs.«01_k».proof.Proof.PreValue
public import proofs.«01_k».proof.Proof.RefPreValue
public import proofs.«01_k».proof.Proof.Gen.RefPreIdeal.Run
@[expose] public section
set_option maxRecDepth 16384
open Idealize.ShloMosaic Idealize.ShloMosaic.TcCoe Idealize.SL.Sem
noncomputable section
namespace Cert.PreClaim
open Cert.RefPreIdeal.Read Cert.PreIdeal.Hand

/-- From memories that agree on the arguments, the kernel's eight results and the reference's are the same arrays: the
    normalised rows and the seven column ranges of their projection. -/
theorem algebraic : Cert.algebraic_PreIdeal_RefPreIdeal := by
  intro m g m' g' _ hagree
  refine ⟨fun c i => row (X m c (i 0)) (A1 m c) (A2 m c) (A3 m c) (A4 m c) (i 1),
    fun c i => proj (X m c (i 0)) (A1 m c) (A2 m c) (A3 m c) (A4 m c) (A5 m c)
      ⟨0 + (i 1).val, by have h : (i 1).val < 512 := (i 1).isLt; omega⟩,
    fun c i => proj (X m c (i 0)) (A1 m c) (A2 m c) (A3 m c) (A4 m c) (A5 m c)
      ⟨512 + (i 1).val, by have h : (i 1).val < 256 := (i 1).isLt; omega⟩,
    fun c i => proj (X m c (i 0)) (A1 m c) (A2 m c) (A3 m c) (A4 m c) (A5 m c)
      ⟨768 + (i 1).val, by have h : (i 1).val < 512 := (i 1).isLt; omega⟩,
    fun c i => proj (X m c (i 0)) (A1 m c) (A2 m c) (A3 m c) (A4 m c) (A5 m c)
      ⟨1280 + (i 1).val, by have h : (i 1).val < 512 := (i 1).isLt; omega⟩,
    fun c i => proj (X m c (i 0)) (A1 m c) (A2 m c) (A3 m c) (A4 m c) (A5 m c)
      ⟨1792 + (i 1).val, by have h : (i 1).val < 512 := (i 1).isLt; omega⟩,
    fun c i => proj (X m c (i 0)) (A1 m c) (A2 m c) (A3 m c) (A4 m c) (A5 m c)
      ⟨2304 + (i 1).val, by have h : (i 1).val < 512 := (i 1).isLt; omega⟩,
    fun c i => proj (X m c (i 0)) (A1 m c) (A2 m c) (A3 m c) (A4 m c) (A5 m c)
      ⟨2816 + (i 1).val, by have h : (i 1).val < 512 := (i 1).isLt; omega⟩,
    (θ_run _ _ _).mono (fun r h c => ?_) (Cert.PreIdeal.Value.run_blocks m g),
    (θ_run _ _ _).mono (fun r h c => ?_) (Cert.RefPreIdeal.Value.run m' g')⟩
  · obtain ⟨h6, h7, h8, h9, h10, h11, h12, h13, ha⟩ := h c
    exact ⟨h6.trans (final6 m c), h7.trans (final7 m c), h8.trans (final8 m c), h9.trans (final9 m c), h10.trans (final10 m c), h11.trans (final11 m c), h12.trans (final12 m c), h13.trans (final13 m c), ha⟩
  · obtain ⟨h6, h7, h8, h9, h10, h11, h12, h13, ha⟩ := h c
    obtain ⟨e0, e1, e2, e3, e4, e5⟩ := hagree c
    have k6 := h6.trans ((val_main_v35_eq m' c).trans (Cert.RefPreIdeal.Hand.v35_eq _ _ _ _ _))
    rw [e0, e1, e2, e3, e4] at k6
    have k7 := h7.trans ((val_main_v38_eq m' c).trans (Cert.RefPreIdeal.Hand.v38_eq _ _ _ _ _ _))
    rw [e0, e1, e2, e3, e4, e5] at k7
    have k8 := h8.trans ((val_main_v40_eq m' c).trans (Cert.RefPreIdeal.Hand.v40_eq _ _ _ _ _ _))
    rw [e0, e1, e2, e3, e4, e5] at k8
    have k9 := h9.trans ((val_main_v42_eq m' c).trans (Cert.RefPreIdeal.Hand.v42_eq _ _ _ _ _ _))
    rw [e0, e1, e2, e3, e4, e5] at k9
    have k10 := h10.trans ((val_main_v44_eq m' c).trans (Cert.RefPreIdeal.Hand.v44_eq _ _ _ _ _ _))
    rw [e0, e1, e2, e3, e4, e5] at k10
    have k11 := h11.trans ((val_main_v46_eq m' c).trans (Cert.RefPreIdeal.Hand.v46_eq _ _ _ _ _ _))
    rw [e0, e1, e2, e3, e4, e5] at k11
    have k12 := h12.trans ((val_main_v47_eq m' c).trans (Cert.RefPreIdeal.Hand.v47_eq _ _ _ _ _ _))
    rw [e0, e1, e2, e3, e4, e5] at k12
    have k13 := h13.trans ((val_main_v48_eq m' c).trans (Cert.RefPreIdeal.Hand.v48_eq _ _ _ _ _ _))
    rw [e0, e1, e2, e3, e4, e5] at k13
    exact ⟨k6, k7, k8, k9, k10, k11, k12, k13, ha⟩

end Cert.PreClaim
-- ==== Proof.PostValue.lean ====
/-
  The last call of the layer, as a kernel: every row of its result array is the row function `tail` of Rows.lean of the
  corresponding rows of its arguments.
-/
module
public import proofs.«01_k».proof.Proof.Rows
public import proofs.«01_k».proof.Proof.Gen.PostIdeal.Frame
public import Idealize.ShloMosaic.Lib.Pointwise
public import Idealize.ShloMosaic.Lib.Pipeline.ValueKit
@[expose] public section
set_option maxRecDepth 16384
open Idealize.ShloMosaic Idealize.ShloMosaic.TcCoe Idealize.SL.Sem
open Idealize.ShloMosaic.Pipeline (Dat)
noncomputable section
namespace Cert.PostIdeal.Hand
open Cert.PostIdeal Cert.PostIdeal.Gen Cert.Rows

/-- A row stacked from its four groups, each divided by its root mean square, is `groupRms`. -/
theorem ladder (o : Fin 512 → EReal) (x : Fin 512) :
    (if h : x.val < 128 then
        o ⟨x.val, by omega⟩ * Ideal.rsqrt (Ideal.div (∑ l : Fin 128, o ⟨l.val, by omega⟩ * o ⟨l.val, by omega⟩)
          (Ideal.ofBits .f32 1124073472#32) + Ideal.ofBits .f32 925353388#32)
      else if h : x.val - 128 < 128 then
        o ⟨128 + (x.val - 128), by omega⟩ * Ideal.rsqrt (Ideal.div (∑ l : Fin 128, o ⟨128 + l.val, by omega⟩ * o ⟨128 + l.val, by omega⟩)
          (Ideal.ofBits .f32 1124073472#32) + Ideal.ofBits .f32 925353388#32)
      else if h : x.val - 128 - 128 < 128 then
        o ⟨256 + (x.val - 128 - 128), by omega⟩ * Ideal.rsqrt (Ideal.div (∑ l : Fin 128, o ⟨256 + l.val, by omega⟩ * o ⟨256 + l.val, by omega⟩)
          (Ideal.ofBits .f32 1124073472#32) + Ideal.ofBits .f32 925353388#32)
      else
        o ⟨384 + (x.val - 128 - 128 - 128), by omega⟩ * Ideal.rsqrt (Ideal.div (∑ l : Fin 128, o ⟨384 + l.val, by omega⟩ * o ⟨384 + l.val, by omega⟩)
          (Ideal.ofBits .f32 1124073472#32) + Ideal.ofBits .f32 925353388#32)) = groupRms o x := by
  have key : ∀ (n y : ℕ) (hn : n + 128 ≤ 512) (hy : y < 512) (e : y = x.val) (e' : x.val / 128 * 128 = n),
      o ⟨y, hy⟩ * Ideal.rsqrt (Ideal.div (∑ l : Fin 128, o ⟨n + l.val, by omega⟩ * o ⟨n + l.val, by omega⟩)
          (Ideal.ofBits .f32 1124073472#32) + Ideal.ofBits .f32 925353388#32) = groupRms o x := by
    intro n y hn hy e e'
    subst e; subst e'; rfl
  split_ifs with h1 h2 h3
  · have := key 0 x.val (by omega) (by omega) rfl (by omega)
    simpa using this
  · exact key 128 _ (by omega) (by omega) (by omega) (by omega)
  · exact key 256 _ (by omega) (by omega) (by omega) (by omega)
  · exact key 384 _ (by omega) (by omega) (by omega) (by omega)

section
variable (of ob : FVec Ideal S256x512 .f32) (gh oa : FVec Ideal S256x512 .bf16) (hg : FVec Ideal S1x512 .f32)
  (w : FVec Ideal S1024x1024 .bf16) (x1 : FVec Ideal S256x1024 .f32) (g2 b2 g3 b3 : FVec Ideal S1x1024 .f32)
  (w13 : FVec Ideal S1024x5632 .bf16) (w2 : FVec Ideal S2816x1024 .bf16)

/-- The residual row after the token mixing. -/
abbrev mixed (r : Fin 256) : Fin 1024 → EReal :=
  whole (fun j => x1 (ix2 r j)) (mix (fun j => oa (ix2 r j)) (fun j => of (ix2 r j) + ob (ix2 r j)) (fun j => hg (ix2 0 j))
    (fun j => gh (ix2 r j)) fun i j => w (ix2 i j))

/-- The body's centred block after the token mixing. -/
theorem pay9_apply (r : Fin 256) (c : Fin 1024) :
    k0_pay9 (F := Ideal) (k0_pay3 of ob) (k0_pay4 of ob) (k0_pay5 of ob) (k0_pay6 of ob) (k0_pay7 of ob) k0_pay8 gh hg oa
        (View.ld w r0_2) (View.ld w r0_3) x1 (ix2 r c)
      = mixed of ob gh oa hg w x1 r c - mean (mixed of ob gh oa hg w x1 r) := by
  have hl := fun x => ladder (fun j => of (ix2 r j) + ob (ix2 r j)) x
  beta_reduce at hl
  pointwise [k0_pay9, k0_pay2, k0_pay3, k0_pay4, k0_pay5, k0_pay6, k0_pay7, k0_pay8]
  simp only [hl]
  rfl

/-- The body's variances after the token mixing. -/
theorem pay10_apply (r : Fin 256) :
    k0_pay10 (F := Ideal) (k0_pay3 of ob) (k0_pay4 of ob) (k0_pay5 of ob) (k0_pay6 of ob) (k0_pay7 of ob) k0_pay8 gh hg oa
        (View.ld w r0_2) (View.ld w r0_3) x1 (ix2 r 0)
      = mean fun k => (mixed of ob gh oa hg w x1 r k - mean (mixed of ob gh oa hg w x1 r)) *
          (mixed of ob gh oa hg w x1 r k - mean (mixed of ob gh oa hg w x1 r)) := by
  unfold k0_pay10
  pointwise [pay9_apply]
  rfl

/-- The row before the last norm, given the normalised row `x2`. -/
abbrev fed (x2 : Fin 1024 → EReal) : Fin 1024 → EReal :=
  half x2 (swiglu x2 (fun i j => w13 (ix2 i j)) fun i j => w2 (ix2 i j))

/-- The body's second normalised row from its centred block and its variances. -/
abbrev normed (v : FVec Ideal S256x1024 .f32) (u : FVec Ideal S256x1 .f32) (r : Fin 256) : Fin 1024 → EReal := fun j =>
  v (ix2 r j) * Ideal.rsqrt (u (ix2 r 0) + Ideal.ofBits .f32 0x3727C5AC#32) * g2 (ix2 0 j) + b2 (ix2 0 j)

/-- The body's centred block after the feed-forward block. -/
theorem pay11_apply (v : FVec Ideal S256x1024 .f32) (u : FVec Ideal S256x1 .f32) (r : Fin 256) (c : Fin 1024) :
    k0_pay11 (F := Ideal) g2 b2 v u w13 w2 (ix2 r c)
      = fed w13 w2 (normed g2 b2 v u r) c - mean (fed w13 w2 (normed g2 b2 v u r)) := by
  unfold k0_pay11
  pointwise
  rfl

/-- The body's last block. -/
theorem pay1_apply (v : FVec Ideal S256x1024 .f32) (u : FVec Ideal S256x1 .f32) (r : Fin 256) (c : Fin 1024) :
    k0_pay1 (F := Ideal) g3 b3 (k0_pay11 g2 b2 v u w13 w2) (k0_pay12 g2 b2 v u w13 w2) (ix2 r c)
      = layerNorm (fed w13 w2 (normed g2 b2 v u r)) (fun j => g3 (ix2 0 j)) (fun j => b3 (ix2 0 j)) c := by
  unfold k0_pay1 k0_pay12
  pointwise [pay11_apply]
  rfl

/-- The row function of the whole call, over one row of each token array and the weights. -/
abbrev row (X1 : Fin 1024 → EReal) (OA OF OB GH : Fin 512 → EReal) : Fin 1024 → EReal :=
  tail X1 OA (fun j => OF j + OB j) (fun j => hg (ix2 0 j)) GH (fun i j => w (ix2 i j)) (fun j => g2 (ix2 0 j))
    (fun j => b2 (ix2 0 j)) (fun i j => w13 (ix2 i j)) (fun i j => w2 (ix2 i j)) (fun j => g3 (ix2 0 j)) (fun j => b3 (ix2 0 j))

theorem hz2 : (![0, 0] : Fin 2 → Nat) = fun _ => 0 := funext fun a => by fin_cases a <;> rfl

/-- The body's stored block, row by row. -/
theorem out_apply (r : Fin 256) (c : Fin 1024) :
    out0_13 (F := Ideal) x1 oa of ob gh hg w g2 b2 w13 w2 g3 b3 (ix2 r c)
      = row hg w g2 b2 g3 b3 w13 w2 (fun j => x1 (ix2 r j)) (fun j => oa (ix2 r j)) (fun j => of (ix2 r j))
          (fun j => ob (ix2 r j)) (fun j => gh (ix2 r j)) c := by
  have hn : normed g2 b2 (k0_pay19 (F := Ideal) x1 oa of ob gh hg w g2 b2 w13 w2 g3 b3)
        (k0_pay20 (F := Ideal) x1 oa of ob gh hg w g2 b2 w13 w2 g3 b3) r
      = layerNorm (mixed of ob gh oa hg w x1 r) (fun j => g2 (ix2 0 j)) (fun j => b2 (ix2 0 j)) := by
    funext j
    unfold normed k0_pay19 k0_pay20 k0_pay13 k0_pay14 k0_pay15 k0_pay16 k0_pay17 k0_pay18
    simp only [View.ld_unit_zero (S := S256x512) hz2, View.ld_unit_zero (S := S1x512) hz2, View.ld_unit_zero (S := S256x1024) hz2]
    rw [pay9_apply, pay10_apply]
    rfl
  unfold out0_13
  simp only [View.ld_unit_zero (S := S1x1024) hz2, View.ld_unit_zero (S := S1024x5632) hz2, View.ld_unit_zero (S := S2816x1024) hz2]
  rw [View.canon_unit_zero hz2, pay1_apply, hn]
  rfl
end

variable (m : (ℓ : Loc nD τ sig) → Buf (Elt Ideal) ℓ)

/-- The windows' block indices: the token windows move with the grid, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![0, 0] ∧ win0_13.index t = ![t.val, 0] :=
  (by decide +kernel : ∀ t : Fin grid0.N, _)

/-- Row `R` of token argument 0. -/
abbrev X0 (c : Dev nD) (R : Fin 16384) : Fin 1024 → EReal := fun j =>
  (show FVec Ideal S16384x1024 .f32 from m ((c : Thread nD τ).loc main_arg0)) (ix2 R j)
/-- Row `R` of token argument 1. -/
abbrev X1 (c : Dev nD) (R : Fin 16384) : Fin 512 → EReal := fun j =>
  (show FVec Ideal S16384x512 .bf16 from m ((c : Thread nD τ).loc main_arg1)) (ix2 R j)
/-- Row `R` of token argument 2. -/
abbrev X2 (c : Dev nD) (R : Fin 16384) : Fin 512 → EReal := fun j =>
  (show FVec Ideal S16384x512 .f32 from m ((c : Thread nD τ).loc main_arg2)) (ix2 R j)
/-- Row `R` of token argument 3. -/
abbrev X3 (c : Dev nD) (R : Fin 16384) : Fin 512 → EReal := fun j =>
  (show FVec Ideal S16384x512 .f32 from m ((c : Thread nD τ).loc main_arg3)) (ix2 R j)
/-- Row `R` of token argument 4. -/
abbrev X4 (c : Dev nD) (R : Fin 16384) : Fin 512 → EReal := fun j =>
  (show FVec Ideal S16384x512 .bf16 from m ((c : Thread nD τ).loc main_arg4)) (ix2 R j)
/-- The weights, by argument number. -/
abbrev A5 (c : Dev nD) : FVec Ideal S1x512 .f32 := m ((c : Thread nD τ).loc main_arg5)
abbrev A6 (c : Dev nD) : FVec Ideal S1024x1024 .bf16 := m ((c : Thread nD τ).loc main_arg6)
abbrev A7 (c : Dev nD) : FVec Ideal S1x1024 .f32 := m ((c : Thread nD τ).loc main_arg7)
abbrev A8 (c : Dev nD) : FVec Ideal S1x1024 .f32 := m ((c : Thread nD τ).loc main_arg8)
abbrev A9 (c : Dev nD) : FVec Ideal S1024x5632 .bf16 := m ((c : Thread nD τ).loc main_arg9)
abbrev A10 (c : Dev nD) : FVec Ideal S2816x1024 .bf16 := m ((c : Thread nD τ).loc main_arg10)
abbrev A11 (c : Dev nD) : FVec Ideal S1x1024 .f32 := m ((c : Thread nD τ).loc main_arg11)
abbrev A12 (c : Dev nD) : FVec Ideal S1x1024 .f32 := m ((c : Thread nD τ).loc main_arg12)

/-- A weight's block is the whole weight. -/
theorem iblk5 (c : Dev nD) (t : Fin cfg0.N) : iblk m c 5 t = A5 m c := by blk_ext! [iblk, V, idx t]
theorem iblk6 (c : Dev nD) (t : Fin cfg0.N) : iblk m c 6 t = A6 m c := by blk_ext! [iblk, V, idx t]
theorem iblk7 (c : Dev nD) (t : Fin cfg0.N) : iblk m c 7 t = A7 m c := by blk_ext! [iblk, V, idx t]
theorem iblk8 (c : Dev nD) (t : Fin cfg0.N) : iblk m c 8 t = A8 m c := by blk_ext! [iblk, V, idx t]
theorem iblk9 (c : Dev nD) (t : Fin cfg0.N) : iblk m c 9 t = A9 m c := by blk_ext! [iblk, V, idx t]
theorem iblk10 (c : Dev nD) (t : Fin cfg0.N) : iblk m c 10 t = A10 m c := by blk_ext! [iblk, V, idx t]
theorem iblk11 (c : Dev nD) (t : Fin cfg0.N) : iblk m c 11 t = A11 m c := by blk_ext! [iblk, V, idx t]
theorem iblk12 (c : Dev nD) (t : Fin cfg0.N) : iblk m c 12 t = A12 m c := by blk_ext! [iblk, V, idx t]

/-- A block of tokens is 256 of the rows. -/
theorem iblk0 (c : Dev nD) (t : Fin cfg0.N) (r : Fin 256) (R : Fin 16384) (hR : R.val = t.val * 256 + r.val) :
    (fun j => (show FVec Ideal S256x1024 .f32 from iblk m c 0 t) (ix2 r j)) = X0 m c R := by
  funext j
  blk_ext [iblk, V, idx t, hR]
theorem iblk1 (c : Dev nD) (t : Fin cfg0.N) (r : Fin 256) (R : Fin 16384) (hR : R.val = t.val * 256 + r.val) :
    (fun j => (show FVec Ideal S256x512 .bf16 from iblk m c 1 t) (ix2 r j)) = X1 m c R := by
  funext j
  blk_ext [iblk, V, idx t, hR]
theorem iblk2 (c : Dev nD) (t : Fin cfg0.N) (r : Fin 256) (R : Fin 16384) (hR : R.val = t.val * 256 + r.val) :
    (fun j => (show FVec Ideal S256x512 .f32 from iblk m c 2 t) (ix2 r j)) = X2 m c R := by
  funext j
  blk_ext [iblk, V, idx t, hR]
theorem iblk3 (c : Dev nD) (t : Fin cfg0.N) (r : Fin 256) (R : Fin 16384) (hR : R.val = t.val * 256 + r.val) :
    (fun j => (show FVec Ideal S256x512 .f32 from iblk m c 3 t) (ix2 r j)) = X3 m c R := by
  funext j
  blk_ext [iblk, V, idx t, hR]
theorem iblk4 (c : Dev nD) (t : Fin cfg0.N) (r : Fin 256) (R : Fin 16384) (hR : R.val = t.val * 256 + r.val) :
    (fun j => (show FVec Ideal S256x512 .bf16 from iblk m c 4 t) (ix2 r j)) = X4 m c R := by
  funext j
  blk_ext [iblk, V, idx t, hR]

/-- The body's block over the arguments. -/
theorem point13 (c : Dev nD) (t : Fin cfg0.N) (r : Fin 256) (k : Fin 1024) (R : Fin 16384) (hR : R.val = t.val * 256 + r.val) :
    out0_13 (F := Ideal) (iblk m c 0 t) (iblk m c 1 t) (iblk m c 2 t) (iblk m c 3 t) (iblk m c 4 t) (A5 m c) (A6 m c) (A7 m c)
        (A8 m c) (A9 m c) (A10 m c) (A11 m c) (A12 m c) (ix2 r k)
      = row (A5 m c) (A6 m c) (A7 m c) (A8 m c) (A11 m c) (A12 m c) (A9 m c) (A10 m c) (X0 m c R) (X1 m c R) (X2 m c R)
          (X3 m c R) (X4 m c R) k := by
  rw [out_apply, iblk0 m c t r R hR, iblk1 m c t r R hR, iblk2 m c t r R hR, iblk3 m c t r R hR, iblk4 m c t r R hR]

/-- The same at a block index, where the array index is the block's row offset on. -/
theorem at13 (c : Dev nD) (t : Fin cfg0.N) (y : S256x1024.Idx) (i : S16384x1024.Idx) (h0 : (i 0).val = t.val * 256 + (y 0).val)
    (h1 : (i 1).val = (y 1).val) :
    out0_13 (F := Ideal) (iblk m c 0 t) (iblk m c 1 t) (iblk m c 2 t) (iblk m c 3 t) (iblk m c 4 t) (A5 m c) (A6 m c) (A7 m c)
        (A8 m c) (A9 m c) (A10 m c) (A11 m c) (A12 m c) y
      = row (A5 m c) (A6 m c) (A7 m c) (A8 m c) (A11 m c) (A12 m c) (A9 m c) (A10 m c) (X0 m c (i 0)) (X1 m c (i 0)) (X2 m c (i 0))
          (X3 m c (i 0)) (X4 m c (i 0)) (i 1) := by
  have hy : y = ix2 (y 0) (y 1) := by blk_ext []
  rw [hy, show i 1 = y 1 from Fin.ext h1]
  exact point13 m c t (y 0) (y 1) (i 0) h0

/-- The result array: the row function of the arguments' rows. -/
theorem final13 (c : Dev nD) : (dats m 0 c).arrAt 13 (cfgs 0).N =
    fun i : S16384x1024.Idx => row (A5 m c) (A6 m c) (A7 m c) (A8 m c) (A11 m c) (A12 m c) (A9 m c) (A10 m c) (X0 m c (i 0))
      (X1 m c (i 0)) (X2 m c (i 0)) (X3 m c (i 0)) (X4 m c (i 0)) (i 1) := by
  refine (dats m 0 c).arrAt_eq_of_covers 13 _ (by decide +kernel) fun t _ y => ?_
  blk_simp
  rw [after0_13]
  rw [iblk5, iblk6, iblk7, iblk8, iblk9, iblk10, iblk11, iblk12]
  exact at13 m c t y _ (by blk_simp [idx t]) (by blk_simp [idx t])
end Cert.PostIdeal.Hand
-- ==== Proof.RefPostValue.lean ====
/-
  The last call of the layer, as plain mathematics: every row of the reference's result is the row function `tail`.
-/
module
public import proofs.«01_k».proof.Proof.Rows
public import proofs.«01_k».proof.Proof.Gen.RefPostIdeal.Read
public import Idealize.ShloMosaic.Lib.Pointwise
@[expose] public section
set_option maxRecDepth 16384
open Idealize.ShloMosaic Idealize.ShloMosaic.TcCoe Idealize.SL.Sem
noncomputable section
namespace Cert.RefPostIdeal.Hand
open Cert.RefPostIdeal Cert.RefPostIdeal.Gen Cert.RefPostIdeal.Read Cert.Rows

variable (x0 : FVec Ideal S16384x1024 .f32) (x1 : FVec Ideal S16384x512 .bf16) (x2 x3 : FVec Ideal S16384x512 .f32)
  (x4 : FVec Ideal S16384x512 .bf16) (x5 : FVec Ideal S1x512 .f32) (x6 : FVec Ideal S1024x1024 .bf16)
  (x7 x8 : FVec Ideal S1x1024 .f32) (x9 : FVec Ideal S1024x5632 .bf16) (x10 : FVec Ideal S2816x1024 .bf16)
  (x11 x12 : FVec Ideal S1x1024 .f32)

/-- The recurrence's gated row. -/
theorem v20_apply (r : Fin 16384) (c : Fin 512) :
    val_main_v20 (F := Ideal) x2 x3 x4 x5 (ix2 r c) =
      gate (fun j => x2 (ix2 r j) + x3 (ix2 r j)) (fun j => x5 (ix2 0 j)) (fun j => x4 (ix2 r j)) c := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_cst, val_main_cst_0, val_main_cst_1, val_main_call0_v5, val_main_call0_v4, val_main_call0_v3,
    val_main_call0_v2, val_main_call0_v1, val_main_call0_v0, val_main_call0_cst, val_main_call0_cst_0]
  rfl

/-- The token mixing's projected row. -/
theorem v23_apply (r : Fin 16384) (c : Fin 1024) :
    val_main_v23 (F := Ideal) x1 x2 x3 x4 x5 x6 (ix2 r c) =
      mix (fun j => x1 (ix2 r j)) (fun j => x2 (ix2 r j) + x3 (ix2 r j)) (fun j => x5 (ix2 0 j)) (fun j => x4 (ix2 r j))
        (fun i j => x6 (ix2 i j)) c := by
  pointwise [val_main_v23, val_main_v22, val_main_v21, val_main_v2, v20_apply]
  rfl

/-- The row after the token mixing's norm. -/
theorem v48_apply (r : Fin 16384) (c : Fin 1024) :
    val_main_v48 (F := Ideal) x0 x1 x2 x3 x4 x5 x6 x7 x8 (ix2 r c) =
      layerNorm (whole (fun j => x0 (ix2 r j)) (mix (fun j => x1 (ix2 r j)) (fun j => x2 (ix2 r j) + x3 (ix2 r j))
        (fun j => x5 (ix2 0 j)) (fun j => x4 (ix2 r j)) (fun i j => x6 (ix2 i j)))) (fun j => x7 (ix2 0 j))
        (fun j => x8 (ix2 0 j)) c := by
  pointwise [val_main_v48, val_main_v47, val_main_v46, val_main_v45, val_main_v44, val_main_v43, val_main_v42, val_main_v41,
    val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_cst_2, val_main_cst_3, val_main_cst_4, val_main_cst_5, val_main_cst_6, val_main_cst_7, v23_apply]
  rfl

/-- The row before the last norm, from the row after the token mixing. -/
theorem v59_apply (r : Fin 16384) (c : Fin 1024) :
    val_main_v59 (F := Ideal) x0 x1 x2 x3 x4 x5 x6 x7 x8 x9 x10 (ix2 r c) =
      half (fun j => val_main_v48 (F := Ideal) x0 x1 x2 x3 x4 x5 x6 x7 x8 (ix2 r j))
        (swiglu (fun j => val_main_v48 (F := Ideal) x0 x1 x2 x3 x4 x5 x6 x7 x8 (ix2 r j)) (fun i j => x9 (ix2 i j))
          fun i j => x10 (ix2 i j)) c := by
  pointwise [val_main_v59, val_main_v58, val_main_v57, val_main_v56, val_main_v55, val_main_v54, val_main_v53, val_main_v52,
    val_main_v51, val_main_v50, val_main_v49, val_main_v1, val_main_v0, val_main_cst_8, val_main_cst_9,
    val_main_call1_v5, val_main_call1_v4, val_main_call1_v3,
    val_main_call1_v2, val_main_call1_v1, val_main_call1_v0, val_main_call1_cst, val_main_call1_cst_0]
  rfl

/-- The result, row by row. -/
theorem v81_apply (r : Fin 16384) (c : Fin 1024) :
    val_main_v81 (F := Ideal) x0 x1 x2 x3 x4 x5 x6 x7 x8 x9 x10 x11 x12 (ix2 r c) =
      tail (fun j => x0 (ix2 r j)) (fun j => x1 (ix2 r j)) (fun j => x2 (ix2 r j) + x3 (ix2 r j)) (fun j => x5 (ix2 0 j))
        (fun j => x4 (ix2 r j)) (fun i j => x6 (ix2 i j)) (fun j => x7 (ix2 0 j)) (fun j => x8 (ix2 0 j))
        (fun i j => x9 (ix2 i j)) (fun i j => x10 (ix2 i j)) (fun j => x11 (ix2 0 j)) (fun j => x12 (ix2 0 j)) c := by
  have h48 := fun j => v48_apply x0 x1 x2 x3 x4 x5 x6 x7 x8 r j
  have h59 := fun j => v59_apply x0 x1 x2 x3 x4 x5 x6 x7 x8 x9 x10 r j
  simp only [h48] at h59
  pointwise [val_main_v81, val_main_v80, val_main_v79, val_main_v78, val_main_v77, val_main_v76, val_main_v75, val_main_v74,
    val_main_v73, val_main_v72, val_main_v71, val_main_v70, val_main_v69, val_main_v68, val_main_v67, val_main_v66,
    val_main_v65, val_main_v64, val_main_v63, val_main_v62, val_main_v61, val_main_v60, val_main_cst_10, val_main_cst_11,
    val_main_cst_12, val_main_cst_13, val_main_cst_14, h59]
  rfl

/-- The result array. -/
theorem v81_eq : val_main_v81 (F := Ideal) x0 x1 x2 x3 x4 x5 x6 x7 x8 x9 x10 x11 x12 = fun i : S16384x1024.Idx =>
      tail (fun j => x0 (ix2 (i 0) j)) (fun j => x1 (ix2 (i 0) j)) (fun j => x2 (ix2 (i 0) j) + x3 (ix2 (i 0) j))
        (fun j => x5 (ix2 0 j)) (fun j => x4 (ix2 (i 0) j)) (fun i j => x6 (ix2 i j)) (fun j => x7 (ix2 0 j))
        (fun j => x8 (ix2 0 j)) (fun i j => x9 (ix2 i j)) (fun i j => x10 (ix2 i j)) (fun j => x11 (ix2 0 j))
        (fun j => x12 (ix2 0 j)) (i 1) := by
  funext i
  idx_vars i
  exact v81_apply x0 x1 x2 x3 x4 x5 x6 x7 x8 x9 x10 x11 x12 _ _
end Cert.RefPostIdeal.Hand
-- ==== Proof.PostClaim.lean ====
/-
  The last call of the layer: kernel and reference have the same result.
-/
module
public import proofs.«01_k».proof.Proof.PostValue
public import proofs.«01_k».proof.Proof.RefPostValue
public import proofs.«01_k».proof.Proof.Gen.RefPostIdeal.Run
public import proofs.«01_k».proof.Defs
@[expose] public section
set_option maxRecDepth 16384
open Idealize.ShloMosaic Idealize.ShloMosaic.TcCoe Idealize.SL.Sem
noncomputable section
namespace Cert.PostClaim
open Cert.PostIdeal Cert.PostIdeal.Gen Cert.PostIdeal.Hand Cert.RefPostIdeal.Read Cert.Rows

variable (m : (ℓ : Loc nD τ sig) → Buf (Elt Ideal) ℓ)

/-- After the run every argument holds what it held. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))
theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))
theorem kept7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))
theorem kept8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))
theorem kept9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))
theorem kept10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))
theorem kept11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))
theorem kept12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- The kernel and the reference of the last call have the same result on the same arguments. -/
theorem algebraic : Cert.algebraic_PostIdeal_RefPostIdeal := by
  intro m g m' g' _ hagree
  refine ⟨fun c i => row (A5 m c) (A6 m c) (A7 m c) (A8 m c) (A11 m c) (A12 m c) (A9 m c) (A10 m c) (X0 m c (i 0))
      (X1 m c (i 0)) (X2 m c (i 0)) (X3 m c (i 0)) (X4 m c (i 0)) (i 1),
    (θ_run _ _ _).mono (fun r h c => ?_) (Cert.PostIdeal.Gen.run_main m g),
    (θ_run _ _ _).mono (fun r h c => ?_) (Cert.RefPostIdeal.Value.run m' g')⟩
  · exact ⟨((h c).1 13).trans (final13 m c), kept0 m r h c, kept1 m r h c, kept2 m r h c, kept3 m r h c, kept4 m r h c, kept5 m r h c, kept6 m r h c, kept7 m r h c, kept8 m r h c, kept9 m r h c, kept10 m r h c, kept11 m r h c, kept12 m r h c⟩
  · obtain ⟨h13, ha⟩ := h c
    obtain ⟨e0, e1, e2, e3, e4, e5, e6, e7, e8, e9, e10, e11, e12⟩ := hagree c
    have k := h13.trans ((val_main_v81_eq _).trans (Cert.RefPostIdeal.Hand.v81_eq _ _ _ _ _ _ _ _ _ _ _ _ _))
    rw [show StableHlo.launchContents m' c (Proc.tc.devRef RefPostIdeal.main_arg0) = _ from e0,
      show StableHlo.launchContents m' c (Proc.tc.devRef RefPostIdeal.main_arg1) = _ from e1,
      show StableHlo.launchContents m' c (Proc.tc.devRef RefPostIdeal.main_arg2) = _ from e2,
      show StableHlo.launchContents m' c (Proc.tc.devRef RefPostIdeal.main_arg3) = _ from e3,
      show StableHlo.launchContents m' c (Proc.tc.devRef RefPostIdeal.main_arg4) = _ from e4,
      show StableHlo.launchContents m' c (Proc.tc.devRef RefPostIdeal.main_arg5) = _ from e5,
      show StableHlo.launchContents m' c (Proc.tc.devRef RefPostIdeal.main_arg6) = _ from e6,
      show StableHlo.launchContents m' c (Proc.tc.devRef RefPostIdeal.main_arg7) = _ from e7,
      show StableHlo.launchContents m' c (Proc.tc.devRef RefPostIdeal.main_arg8) = _ from e8,
      show StableHlo.launchContents m' c (Proc.tc.devRef RefPostIdeal.main_arg9) = _ from e9,
      show StableHlo.launchContents m' c (Proc.tc.devRef RefPostIdeal.main_arg10) = _ from e10,
      show StableHlo.launchContents m' c (Proc.tc.devRef RefPostIdeal.main_arg11) = _ from e11,
      show StableHlo.launchContents m' c (Proc.tc.devRef RefPostIdeal.main_arg12) = _ from e12] at k
    exact ⟨k, ha⟩

end Cert.PostClaim
-- ==== Proof.PostSampleValue.lean ====
/-
  The last call of the layer at the second batch's size: every row of its result array is the same row function of the
  corresponding rows of its arguments. Its body's block is the first batch's.
-/
module
public import proofs.«01_k».proof.Proof.PostValue
public import proofs.«01_k».proof.Proof.Gen.PostSampleIdeal.Frame
@[expose] public section
set_option maxRecDepth 16384
open Idealize.ShloMosaic Idealize.ShloMosaic.TcCoe Idealize.SL.Sem
open Idealize.ShloMosaic.Pipeline (Dat)
noncomputable section
namespace Cert.PostSampleIdeal.Hand
open Cert.PostSampleIdeal Cert.PostSampleIdeal.Gen Cert.Rows
open Cert.PostIdeal.Hand (row)

section
variable (of ob : FVec Ideal S256x512 .f32) (gh oa : FVec Ideal S256x512 .bf16) (hg : FVec Ideal S1x512 .f32)
  (w : FVec Ideal S1024x1024 .bf16) (x1 : FVec Ideal S256x1024 .f32) (g2 b2 g3 b3 : FVec Ideal S1x1024 .f32)
  (w13 : FVec Ideal S1024x5632 .bf16) (w2 : FVec Ideal S2816x1024 .bf16)

/-- The body's stored block is the one of the first batch's call. -/
theorem out_eq : out0_13 (F := Ideal) x1 oa of ob gh hg w g2 b2 w13 w2 g3 b3
    = Cert.PostIdeal.Gen.out0_13 (F := Ideal) x1 oa of ob gh hg w g2 b2 w13 w2 g3 b3 := rfl

/-- The body's stored block, row by row. -/
theorem out_apply (r : Fin 256) (c : Fin 1024) :
    out0_13 (F := Ideal) x1 oa of ob gh hg w g2 b2 w13 w2 g3 b3 (ix2 r c)
      = row hg w g2 b2 g3 b3 w13 w2 (fun j => x1 (ix2 r j)) (fun j => oa (ix2 r j)) (fun j => of (ix2 r j))
          (fun j => ob (ix2 r j)) (fun j => gh (ix2 r j)) c := by
  rw [out_eq]
  exact Cert.PostIdeal.Hand.out_apply of ob gh oa hg w x1 g2 b2 g3 b3 w13 w2 r c
end

variable (m : (ℓ : Loc nD τ sig) → Buf (Elt Ideal) ℓ)

/-- The windows' block indices: the token windows move with the grid, the weights stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![0, 0] ∧ win0_13.index t = ![t.val, 0] :=
  (by decide +kernel : ∀ t : Fin grid0.N, _)

/-- Row `R` of token argument 0. -/
abbrev X0 (c : Dev nD) (R : Fin 65536) : Fin 1024 → EReal := fun j =>
  (show FVec Ideal S65536x1024 .f32 from m ((c : Thread nD τ).loc main_arg0)) (ix2 R j)
/-- Row `R` of token argument 1. -/
abbrev X1 (c : Dev nD) (R : Fin 65536) : Fin 512 → EReal := fun j =>
  (show FVec Ideal S65536x512 .bf16 from m ((c : Thread nD τ).loc main_arg1)) (ix2 R j)
/-- Row `R` of token argument 2. -/
abbrev X2 (c : Dev nD) (R : Fin 65536) : Fin 512 → EReal := fun j =>
  (show FVec Ideal S65536x512 .f32 from m ((c : Thread nD τ).loc main_arg2)) (ix2 R j)
/-- Row `R` of token argument 3. -/
abbrev X3 (c : Dev nD) (R : Fin 65536) : Fin 512 → EReal := fun j =>
  (show FVec Ideal S65536x512 .f32 from m ((c : Thread nD τ).loc main_arg3)) (ix2 R j)
/-- Row `R` of token argument 4. -/
abbrev X4 (c : Dev nD) (R : Fin 65536) : Fin 512 → EReal := fun j =>
  (show FVec Ideal S65536x512 .bf16 from m ((c : Thread nD τ).loc main_arg4)) (ix2 R j)
/-- The weights, by argument number. -/
abbrev A5 (c : Dev nD) : FVec Ideal S1x512 .f32 := m ((c : Thread nD τ).loc main_arg5)
abbrev A6 (c : Dev nD) : FVec Ideal S1024x1024 .bf16 := m ((c : Thread nD τ).loc main_arg6)
abbrev A7 (c : Dev nD) : FVec Ideal S1x1024 .f32 := m ((c : Thread nD τ).loc main_arg7)
abbrev A8 (c : Dev nD) : FVec Ideal S1x1024 .f32 := m ((c : Thread nD τ).loc main_arg8)
abbrev A9 (c : Dev nD) : FVec Ideal S1024x5632 .bf16 := m ((c : Thread nD τ).loc main_arg9)
abbrev A10 (c : Dev nD) : FVec Ideal S2816x1024 .bf16 := m ((c : Thread nD τ).loc main_arg10)
abbrev A11 (c : Dev nD) : FVec Ideal S1x1024 .f32 := m ((c : Thread nD τ).loc main_arg11)
abbrev A12 (c : Dev nD) : FVec Ideal S1x1024 .f32 := m ((c : Thread nD τ).loc main_arg12)

/-- A weight's block is the whole weight. -/
theorem iblk5 (c : Dev nD) (t : Fin cfg0.N) : iblk m c 5 t = A5 m c := by blk_ext! [iblk, V, idx t]
theorem iblk6 (c : Dev nD) (t : Fin cfg0.N) : iblk m c 6 t = A6 m c := by blk_ext! [iblk, V, idx t]
theorem iblk7 (c : Dev nD) (t : Fin cfg0.N) : iblk m c 7 t = A7 m c := by blk_ext! [iblk, V, idx t]
theorem iblk8 (c : Dev nD) (t : Fin cfg0.N) : iblk m c 8 t = A8 m c := by blk_ext! [iblk, V, idx t]
theorem iblk9 (c : Dev nD) (t : Fin cfg0.N) : iblk m c 9 t = A9 m c := by blk_ext! [iblk, V, idx t]
theorem iblk10 (c : Dev nD) (t : Fin cfg0.N) : iblk m c 10 t = A10 m c := by blk_ext! [iblk, V, idx t]
theorem iblk11 (c : Dev nD) (t : Fin cfg0.N) : iblk m c 11 t = A11 m c := by blk_ext! [iblk, V, idx t]
theorem iblk12 (c : Dev nD) (t : Fin cfg0.N) : iblk m c 12 t = A12 m c := by blk_ext! [iblk, V, idx t]

/-- A block of tokens is 256 of the rows. -/
theorem iblk0 (c : Dev nD) (t : Fin cfg0.N) (r : Fin 256) (R : Fin 65536) (hR : R.val = t.val * 256 + r.val) :
    (fun j => (show FVec Ideal S256x1024 .f32 from iblk m c 0 t) (ix2 r j)) = X0 m c R := by
  funext j
  blk_ext [iblk, V, idx t, hR]
theorem iblk1 (c : Dev nD) (t : Fin cfg0.N) (r : Fin 256) (R : Fin 65536) (hR : R.val = t.val * 256 + r.val) :
    (fun j => (show FVec Ideal S256x512 .bf16 from iblk m c 1 t) (ix2 r j)) = X1 m c R := by
  funext j
  blk_ext [iblk, V, idx t, hR]
theorem iblk2 (c : Dev nD) (t : Fin cfg0.N) (r : Fin 256) (R : Fin 65536) (hR : R.val = t.val * 256 + r.val) :
    (fun j => (show FVec Ideal S256x512 .f32 from iblk m c 2 t) (ix2 r j)) = X2 m c R := by
  funext j
  blk_ext [iblk, V, idx t, hR]
theorem iblk3 (c : Dev nD) (t : Fin cfg0.N) (r : Fin 256) (R : Fin 65536) (hR : R.val = t.val * 256 + r.val) :
    (fun j => (show FVec Ideal S256x512 .f32 from iblk m c 3 t) (ix2 r j)) = X3 m c R := by
  funext j
  blk_ext [iblk, V, idx t, hR]
theorem iblk4 (c : Dev nD) (t : Fin cfg0.N) (r : Fin 256) (R : Fin 65536) (hR : R.val = t.val * 256 + r.val) :
    (fun j => (show FVec Ideal S256x512 .bf16 from iblk m c 4 t) (ix2 r j)) = X4 m c R := by
  funext j
  blk_ext [iblk, V, idx t, hR]

/-- The body's block over the arguments. -/
theorem point13 (c : Dev nD) (t : Fin cfg0.N) (r : Fin 256) (k : Fin 1024) (R : Fin 65536) (hR : R.val = t.val * 256 + r.val) :
    out0_13 (F := Ideal) (iblk m c 0 t) (iblk m c 1 t) (iblk m c 2 t) (iblk m c 3 t) (iblk m c 4 t) (A5 m c) (A6 m c) (A7 m c)
        (A8 m c) (A9 m c) (A10 m c) (A11 m c) (A12 m c) (ix2 r k)
      = row (A5 m c) (A6 m c) (A7 m c) (A8 m c) (A11 m c) (A12 m c) (A9 m c) (A10 m c) (X0 m c R) (X1 m c R) (X2 m c R)
          (X3 m c R) (X4 m c R) k := by
  rw [out_apply, iblk0 m c t r R hR, iblk1 m c t r R hR, iblk2 m c t r R hR, iblk3 m c t r R hR, iblk4 m c t r R hR]

/-- The same at a block index, where the array index is the block's row offset on. -/
theorem at13 (c : Dev nD) (t : Fin cfg0.N) (y : S256x1024.Idx) (i : S65536x1024.Idx) (h0 : (i 0).val = t.val * 256 + (y 0).val)
    (h1 : (i 1).val = (y 1).val) :
    out0_13 (F := Ideal) (iblk m c 0 t) (iblk m c 1 t) (iblk m c 2 t) (iblk m c 3 t) (iblk m c 4 t) (A5 m c) (A6 m c) (A7 m c)
        (A8 m c) (A9 m c) (A10 m c) (A11 m c) (A12 m c) y
      = row (A5 m c) (A6 m c) (A7 m c) (A8 m c) (A11 m c) (A12 m c) (A9 m c) (A10 m c) (X0 m c (i 0)) (X1 m c (i 0)) (X2 m c (i 0))
          (X3 m c (i 0)) (X4 m c (i 0)) (i 1) := by
  have hy : y = ix2 (y 0) (y 1) := by blk_ext []
  rw [hy, show i 1 = y 1 from Fin.ext h1]
  exact point13 m c t (y 0) (y 1) (i 0) h0

/-- The result array: the row function of the arguments' rows. -/
theorem final13 (c : Dev nD) : (dats m 0 c).arrAt 13 (cfgs 0).N =
    fun i : S65536x1024.Idx => row (A5 m c) (A6 m c) (A7 m c) (A8 m c) (A11 m c) (A12 m c) (A9 m c) (A10 m c) (X0 m c (i 0))
      (X1 m c (i 0)) (X2 m c (i 0)) (X3 m c (i 0)) (X4 m c (i 0)) (i 1) := by
  refine (dats m 0 c).arrAt_eq_of_covers 13 _ (by decide +kernel) fun t _ y => ?_
  blk_simp
  rw [after0_13]
  rw [iblk5, iblk6, iblk7, iblk8, iblk9, iblk10, iblk11, iblk12]
  exact at13 m c t y _ (by blk_simp [idx t]) (by blk_simp [idx t])
end Cert.PostSampleIdeal.Hand
-- ==== Proof.RefPostSampleValue.lean ====
/-
  The last call of the layer at the second batch's size, as plain mathematics: every row of the reference's result is the row function `tail`.
-/
module
public import proofs.«01_k».proof.Proof.Rows
public import proofs.«01_k».proof.Proof.Gen.RefPostSampleIdeal.Read
public import Idealize.ShloMosaic.Lib.Pointwise
@[expose] public section
set_option maxRecDepth 16384
open Idealize.ShloMosaic Idealize.ShloMosaic.TcCoe Idealize.SL.Sem
noncomputable section
namespace Cert.RefPostSampleIdeal.Hand
open Cert.RefPostSampleIdeal Cert.RefPostSampleIdeal.Gen Cert.RefPostSampleIdeal.Read Cert.Rows

variable (x0 : FVec Ideal S65536x1024 .f32) (x1 : FVec Ideal S65536x512 .bf16) (x2 x3 : FVec Ideal S65536x512 .f32)
  (x4 : FVec Ideal S65536x512 .bf16) (x5 : FVec Ideal S1x512 .f32) (x6 : FVec Ideal S1024x1024 .bf16)
  (x7 x8 : FVec Ideal S1x1024 .f32) (x9 : FVec Ideal S1024x5632 .bf16) (x10 : FVec Ideal S2816x1024 .bf16)
  (x11 x12 : FVec Ideal S1x1024 .f32)

/-- The recurrence's gated row. -/
theorem v20_apply (r : Fin 65536) (c : Fin 512) :
    val_main_v20 (F := Ideal) x2 x3 x4 x5 (ix2 r c) =
      gate (fun j => x2 (ix2 r j) + x3 (ix2 r j)) (fun j => x5 (ix2 0 j)) (fun j => x4 (ix2 r j)) c := by
  pointwise [val_main_v20, val_main_v19, val_main_v18, val_main_v17, val_main_v16, val_main_v15, val_main_v14, val_main_v13,
    val_main_v12, val_main_v11, val_main_v10, val_main_v9, val_main_v8, val_main_v7, val_main_v6, val_main_v5, val_main_v4,
    val_main_v3, val_main_cst, val_main_cst_0, val_main_cst_1, val_main_call0_v5, val_main_call0_v4, val_main_call0_v3,
    val_main_call0_v2, val_main_call0_v1, val_main_call0_v0, val_main_call0_cst, val_main_call0_cst_0]
  rfl

/-- The token mixing's projected row. -/
theorem v23_apply (r : Fin 65536) (c : Fin 1024) :
    val_main_v23 (F := Ideal) x1 x2 x3 x4 x5 x6 (ix2 r c) =
      mix (fun j => x1 (ix2 r j)) (fun j => x2 (ix2 r j) + x3 (ix2 r j)) (fun j => x5 (ix2 0 j)) (fun j => x4 (ix2 r j))
        (fun i j => x6 (ix2 i j)) c := by
  pointwise [val_main_v23, val_main_v22, val_main_v21, val_main_v2, v20_apply]
  rfl

/-- The row after the token mixing's norm. -/
theorem v48_apply (r : Fin 65536) (c : Fin 1024) :
    val_main_v48 (F := Ideal) x0 x1 x2 x3 x4 x5 x6 x7 x8 (ix2 r c) =
      layerNorm (whole (fun j => x0 (ix2 r j)) (mix (fun j => x1 (ix2 r j)) (fun j => x2 (ix2 r j) + x3 (ix2 r j))
        (fun j => x5 (ix2 0 j)) (fun j => x4 (ix2 r j)) (fun i j => x6 (ix2 i j)))) (fun j => x7 (ix2 0 j))
        (fun j => x8 (ix2 0 j)) c := by
  pointwise [val_main_v48, val_main_v47, val_main_v46, val_main_v45, val_main_v44, val_main_v43, val_main_v42, val_main_v41,
    val_main_v40, val_main_v39, val_main_v38, val_main_v37, val_main_v36, val_main_v35, val_main_v34, val_main_v33,
    val_main_v32, val_main_v31, val_main_v30, val_main_v29, val_main_v28, val_main_v27, val_main_v26, val_main_v25,
    val_main_v24, val_main_cst_2, val_main_cst_3, val_main_cst_4, val_main_cst_5, val_main_cst_6, val_main_cst_7, v23_apply]
  rfl

/-- The row before the last norm, from the row after the token mixing. -/
theorem v59_apply (r : Fin 65536) (c : Fin 1024) :
    val_main_v59 (F := Ideal) x0 x1 x2 x3 x4 x5 x6 x7 x8 x9 x10 (ix2 r c) =
      half (fun j => val_main_v48 (F := Ideal) x0 x1 x2 x3 x4 x5 x6 x7 x8 (ix2 r j))
        (swiglu (fun j => val_main_v48 (F := Ideal) x0 x1 x2 x3 x4 x5 x6 x7 x8 (ix2 r j)) (fun i j => x9 (ix2 i j))
          fun i j => x10 (ix2 i j)) c := by
  pointwise [val_main_v59, val_main_v58, val_main_v57, val_main_v56, val_main_v55, val_main_v54, val_main_v53, val_main_v52,
    val_main_v51, val_main_v50, val_main_v49, val_main_v1, val_main_v0, val_main_cst_8, val_main_cst_9,
    val_main_call1_v5, val_main_call1_v4, val_main_call1_v3,
    val_main_call1_v2, val_main_call1_v1, val_main_call1_v0, val_main_call1_cst, val_main_call1_cst_0]
  rfl

/-- The result, row by row. -/
theorem v81_apply (r : Fin 65536) (c : Fin 1024) :
    val_main_v81 (F := Ideal) x0 x1 x2 x3 x4 x5 x6 x7 x8 x9 x10 x11 x12 (ix2 r c) =
      tail (fun j => x0 (ix2 r j)) (fun j => x1 (ix2 r j)) (fun j => x2 (ix2 r j) + x3 (ix2 r j)) (fun j => x5 (ix2 0 j))
        (fun j => x4 (ix2 r j)) (fun i j => x6 (ix2 i j)) (fun j => x7 (ix2 0 j)) (fun j => x8 (ix2 0 j))
        (fun i j => x9 (ix2 i j)) (fun i j => x10 (ix2 i j)) (fun j => x11 (ix2 0 j)) (fun j => x12 (ix2 0 j)) c := by
  have h48 := fun j => v48_apply x0 x1 x2 x3 x4 x5 x6 x7 x8 r j
  have h59 := fun j => v59_apply x0 x1 x2 x3 x4 x5 x6 x7 x8 x9 x10 r j
  simp only [h48] at h59
  pointwise [val_main_v81, val_main_v80, val_main_v79, val_main_v78, val_main_v77, val_main_v76, val_main_v75, val_main_v74,
    val_main_v73, val_main_v72, val_main_v71, val_main_v70, val_main_v69, val_main_v68, val_main_v67, val_main_v66,
    val_main_v65, val_main_v64, val_main_v63, val_main_v62, val_main_v61, val_main_v60, val_main_cst_10, val_main_cst_11,
    val_main_cst_12, val_main_cst_13, val_main_cst_14, h59]
  rfl

/-- The result array. -/
theorem v81_eq : val_main_v81 (F := Ideal) x0 x1 x2 x3 x4 x5 x6 x7 x8 x9 x10 x11 x12 = fun i : S65536x1024.Idx =>
      tail (fun j => x0 (ix2 (i 0) j)) (fun j => x1 (ix2 (i 0) j)) (fun j => x2 (ix2 (i 0) j) + x3 (ix2 (i 0) j))
        (fun j => x5 (ix2 0 j)) (fun j => x4 (ix2 (i 0) j)) (fun i j => x6 (ix2 i j)) (fun j => x7 (ix2 0 j))
        (fun j => x8 (ix2 0 j)) (fun i j => x9 (ix2 i j)) (fun i j => x10 (ix2 i j)) (fun j => x11 (ix2 0 j))
        (fun j => x12 (ix2 0 j)) (i 1) := by
  funext i
  idx_vars i
  exact v81_apply x0 x1 x2 x3 x4 x5 x6 x7 x8 x9 x10 x11 x12 _ _
end Cert.RefPostSampleIdeal.Hand
-- ==== Proof.PostSampleClaim.lean ====
/-
  The last call of the layer at the second batch's size: kernel and reference have the same result.
-/
module
public import proofs.«01_k».proof.Proof.PostSampleValue
public import proofs.«01_k».proof.Proof.RefPostSampleValue
public import proofs.«01_k».proof.Proof.Gen.RefPostSampleIdeal.Run
public import proofs.«01_k».proof.Defs
@[expose] public section
set_option maxRecDepth 16384
open Idealize.ShloMosaic Idealize.ShloMosaic.TcCoe Idealize.SL.Sem
noncomputable section
namespace Cert.PostSampleClaim
open Cert.PostIdeal.Hand (row)
open Cert.PostSampleIdeal Cert.PostSampleIdeal.Gen Cert.PostSampleIdeal.Hand Cert.RefPostSampleIdeal.Read Cert.Rows

variable (m : (ℓ : Loc nD τ sig) → Buf (Elt Ideal) ℓ)

/-- After the run every argument holds what it held. -/
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))
theorem kept5 (r : PUnit × MemSt nD τ sig (Elt Ideal)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))
theorem kept6 (r : PUnit × MemSt nD τ sig (Elt Ideal)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))
theorem kept7 (r : PUnit × MemSt nD τ sig (Elt Ideal)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))
theorem kept8 (r : PUnit × MemSt nD τ sig (Elt Ideal)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))
theorem kept9 (r : PUnit × MemSt nD τ sig (Elt Ideal)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))
theorem kept10 (r : PUnit × MemSt nD τ sig (Elt Ideal)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))
theorem kept11 (r : PUnit × MemSt nD τ sig (Elt Ideal)) (h : Pipeline.FramePost cfgs (dats m) 0 (V m) r) (c : Dev nD) :
    r.2.mem ((c : Thread nD τ).loc main_arg11) = m ((c : Thread nD τ).loc main_arg11) :=
  ((h c).1 11).trans (((dats m 0 c).arrAt_in 11 rfl _).trans ((A_eq m c 11).trans (V_main_arg11 m c)))
theorem kept12 (r : PUnit × MemSt nD τ sig (Elt Ideal)) (h : Pipeline.FramePost cfgs (dats m) 0 (V m) r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))

/-- The kernel and the reference of the last call, at the second batch's size, have the same result on the same arguments. -/
theorem algebraic : Cert.algebraic_PostSampleIdeal_RefPostSampleIdeal := by
  intro m g m' g' _ hagree
  refine ⟨fun c i => row (A5 m c) (A6 m c) (A7 m c) (A8 m c) (A11 m c) (A12 m c) (A9 m c) (A10 m c) (X0 m c (i 0))
      (X1 m c (i 0)) (X2 m c (i 0)) (X3 m c (i 0)) (X4 m c (i 0)) (i 1),
    (θ_run _ _ _).mono (fun r h c => ?_) (Cert.PostSampleIdeal.Gen.run_main m g),
    (θ_run _ _ _).mono (fun r h c => ?_) (Cert.RefPostSampleIdeal.Value.run m' g')⟩
  · exact ⟨((h c).1 13).trans (final13 m c), kept0 m r h c, kept1 m r h c, kept2 m r h c, kept3 m r h c, kept4 m r h c, kept5 m r h c, kept6 m r h c, kept7 m r h c, kept8 m r h c, kept9 m r h c, kept10 m r h c, kept11 m r h c, kept12 m r h c⟩
  · obtain ⟨h13, ha⟩ := h c
    obtain ⟨e0, e1, e2, e3, e4, e5, e6, e7, e8, e9, e10, e11, e12⟩ := hagree c
    have k := h13.trans ((val_main_v81_eq _).trans (Cert.RefPostSampleIdeal.Hand.v81_eq _ _ _ _ _ _ _ _ _ _ _ _ _))
    rw [show StableHlo.launchContents m' c (Proc.tc.devRef RefPostSampleIdeal.main_arg0) = _ from e0,
      show StableHlo.launchContents m' c (Proc.tc.devRef RefPostSampleIdeal.main_arg1) = _ from e1,
      show StableHlo.launchContents m' c (Proc.tc.devRef RefPostSampleIdeal.main_arg2) = _ from e2,
      show StableHlo.launchContents m' c (Proc.tc.devRef RefPostSampleIdeal.main_arg3) = _ from e3,
      show StableHlo.launchContents m' c (Proc.tc.devRef RefPostSampleIdeal.main_arg4) = _ from e4,
      show StableHlo.launchContents m' c (Proc.tc.devRef RefPostSampleIdeal.main_arg5) = _ from e5,
      show StableHlo.launchContents m' c (Proc.tc.devRef RefPostSampleIdeal.main_arg6) = _ from e6,
      show StableHlo.launchContents m' c (Proc.tc.devRef RefPostSampleIdeal.main_arg7) = _ from e7,
      show StableHlo.launchContents m' c (Proc.tc.devRef RefPostSampleIdeal.main_arg8) = _ from e8,
      show StableHlo.launchContents m' c (Proc.tc.devRef RefPostSampleIdeal.main_arg9) = _ from e9,
      show StableHlo.launchContents m' c (Proc.tc.devRef RefPostSampleIdeal.main_arg10) = _ from e10,
      show StableHlo.launchContents m' c (Proc.tc.devRef RefPostSampleIdeal.main_arg11) = _ from e11,
      show StableHlo.launchContents m' c (Proc.tc.devRef RefPostSampleIdeal.main_arg12) = _ from e12] at k
    exact ⟨k, ha⟩

end Cert.PostSampleClaim
-- ==== Proof.PreSampleValue.lean ====
/-
  The first call of the layer at the second batch's size: every row of its eight result arrays is the same row function of
  the corresponding row of its first argument. Its body's blocks are the first batch's.
-/
module
public import proofs.«01_k».proof.Proof.PreValue
public import proofs.«01_k».proof.Proof.Gen.PreSampleIdeal.Value
public import Idealize.ShloMosaic.Lib.Pointwise
public import Idealize.ShloMosaic.Lib.Pipeline.ValueKit
@[expose] public section
set_option maxRecDepth 16384
open Idealize.ShloMosaic Idealize.ShloMosaic.TcCoe Idealize.SL.Sem
open Idealize.ShloMosaic.Pipeline (Dat)
noncomputable section
namespace Cert.PreSampleIdeal.Hand
open Cert.PreSampleIdeal Cert.PreSampleIdeal.Gen Cert.Rows
open Cert.PreIdeal.Hand (row proj)

/-- The body's normalised block, row by row. -/
theorem pay9_apply (x0 : FVec Ideal S256x1024 .f32) (x1 : FVec Ideal S1024x5632 .bf16) (x2 : FVec Ideal S2816x1024 .bf16)
    (x3 x4 : FVec Ideal S1x1024 .f32) (r : Fin 256) (c : Fin 1024) :
    k0_pay9 (F := Ideal) x0 x1 x2 x3 x4 (ix2 r c) = row (fun k => x0 (ix2 r k)) x1 x2 x3 x4 c := by
  exact Cert.PreIdeal.Hand.pay9_apply x0 x1 x2 x3 x4 r c

/-- The body's projected block, row by row. -/
theorem pay1_apply (x0 : FVec Ideal S256x1024 .f32) (x1 : FVec Ideal S1024x5632 .bf16) (x2 : FVec Ideal S2816x1024 .bf16)
    (x3 x4 : FVec Ideal S1x1024 .f32) (x5 : FVec Ideal S1024x3328 .bf16) (r : Fin 256) (c : Fin 3328) :
    k0_pay1 (F := Ideal) (k0_pay9 x0 x1 x2 x3 x4) x5 (ix2 r c) = proj (fun k => x0 (ix2 r k)) x1 x2 x3 x4 x5 c := by
  exact Cert.PreIdeal.Hand.pay1_apply x0 x1 x2 x3 x4 x5 r c

variable (m : (ℓ : Loc nD τ sig) → Buf (Elt Ideal) ℓ)

/-- The windows' block indices: the token windows move with the grid, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0]
    ∧ win0_13.index t = ![t.val, 0] ∧ t.val < 256 := (by decide +kernel : ∀ t : Fin grid0.N, _)

/-- The tokens as rows. -/
abbrev X (c : Dev nD) : Fin 65536 → Fin 1024 → EReal := fun r k =>
  (show FVec Ideal S65536x1024 .f32 from m ((c : Thread nD τ).loc main_arg0)) (ix2 r k)

abbrev A1 (c : Dev nD) : FVec Ideal S1024x5632 .bf16 := m ((c : Thread nD τ).loc main_arg1)
abbrev A2 (c : Dev nD) : FVec Ideal S2816x1024 .bf16 := m ((c : Thread nD τ).loc main_arg2)
abbrev A3 (c : Dev nD) : FVec Ideal S1x1024 .f32 := m ((c : Thread nD τ).loc main_arg3)
abbrev A4 (c : Dev nD) : FVec Ideal S1x1024 .f32 := m ((c : Thread nD τ).loc main_arg4)
abbrev A5 (c : Dev nD) : FVec Ideal S1024x3328 .bf16 := m ((c : Thread nD τ).loc main_arg5)

/-- A weight's block is the whole weight. -/
theorem iblk1 (c : Dev nD) (t : Fin cfg0.N) : iblk m c 1 t = A1 m c := by blk_ext! [iblk, V, idx t]
theorem iblk2 (c : Dev nD) (t : Fin cfg0.N) : iblk m c 2 t = A2 m c := by blk_ext! [iblk, V, idx t]
theorem iblk3 (c : Dev nD) (t : Fin cfg0.N) : iblk m c 3 t = A3 m c := by blk_ext! [iblk, V, idx t]
theorem iblk4 (c : Dev nD) (t : Fin cfg0.N) : iblk m c 4 t = A4 m c := by blk_ext! [iblk, V, idx t]
theorem iblk5 (c : Dev nD) (t : Fin cfg0.N) : iblk m c 5 t = A5 m c := by blk_ext! [iblk, V, idx t]

theorem hz2 : (![0, 0] : Fin 2 → Nat) = fun _ => 0 := funext fun a => by fin_cases a <;> rfl

/-- A block of tokens is 256 of the rows. -/
theorem iblk0 (c : Dev nD) (t : Fin cfg0.N) (r : Fin 256) (R : Fin 65536) (hR : R.val = t.val * 256 + r.val) :
    (fun k => (show FVec Ideal S256x1024 .f32 from iblk m c 0 t) (ix2 r k)) = X m c R := by
  funext k
  blk_ext [iblk, V, idx t, hR]

/-- The body's normalised block over the arguments. -/
theorem point9 (c : Dev nD) (t : Fin cfg0.N) (r : Fin 256) (k : Fin 1024) (R : Fin 65536) (hR : R.val = t.val * 256 + r.val) :
    k0_pay10 (F := Ideal) (iblk m c 0 t) (A1 m c) (A2 m c) (A3 m c) (A4 m c) (A5 m c) (ix2 r k)
      = row (X m c R) (A1 m c) (A2 m c) (A3 m c) (A4 m c) k := by
  unfold k0_pay10
  rw [View.ld_unit_zero hz2, View.ld_unit_zero hz2, View.ld_unit_zero hz2, View.ld_unit_zero hz2,
    View.ld_unit_zero hz2, pay9_apply, iblk0 m c t r R hR]

/-- The body's projected block over the arguments. -/
theorem point1 (c : Dev nD) (t : Fin cfg0.N) (r : Fin 256) (k : Fin 3328) (R : Fin 65536) (hR : R.val = t.val * 256 + r.val) :
    k0_pay1 (F := Ideal) (k0_pay10 (iblk m c 0 t) (A1 m c) (A2 m c) (A3 m c) (A4 m c) (A5 m c)) (A5 m c) (ix2 r k)
      = proj (X m c R) (A1 m c) (A2 m c) (A3 m c) (A4 m c) (A5 m c) k := by
  unfold k0_pay10
  rw [View.ld_unit_zero hz2, View.ld_unit_zero hz2, View.ld_unit_zero hz2, View.ld_unit_zero hz2,
    View.ld_unit_zero hz2, pay1_apply, iblk0 m c t r R hR]

/-- The body's normalised block at a block index, where the array index is the block's row offset on. -/
theorem at9 (c : Dev nD) (t : Fin cfg0.N) (y : S256x1024.Idx) (i : S65536x1024.Idx) (h0 : (i 0).val = t.val * 256 + (y 0).val)
    (h1 : (i 1).val = (y 1).val) :
    k0_pay10 (F := Ideal) (iblk m c 0 t) (A1 m c) (A2 m c) (A3 m c) (A4 m c) (A5 m c) y
      = row (X m c (i 0)) (A1 m c) (A2 m c) (A3 m c) (A4 m c) (i 1) := by
  have hy : y = ix2 (y 0) (y 1) := by blk_ext []
  rw [hy, show i 1 = y 1 from Fin.ext h1]
  exact point9 m c t (y 0) (y 1) (i 0) h0

/-- The first result array: the normalised rows. -/
theorem final6 (c : Dev nD) : (dats m 0 c).arrAt 6 (cfgs 0).N =
    fun i : S65536x1024.Idx => row (X m c (i 0)) (A1 m c) (A2 m c) (A3 m c) (A4 m c) (i 1) := by
  refine (dats m 0 c).arrAt_eq_of_covers 6 _ (by decide +kernel) fun t _ y => ?_
  blk_simp
  rw [after0_6]
  frame_out
  rw [iblk1, iblk2, iblk3, iblk4, iblk5]
  exact at9 m c t y _ (by blk_simp [idx t]) (by blk_simp [idx t])

/-- The same for the projected block, the two column numbers given apart. -/
theorem at1 (c : Dev nD) (t : Fin cfg0.N) (r : Fin 256) (l l' : Fin 3328) (R : Fin 65536)
    (hR : R.val = t.val * 256 + r.val) (hl : l'.val = l.val) :
    k0_pay1 (F := Ideal) (k0_pay10 (iblk m c 0 t) (A1 m c) (A2 m c) (A3 m c) (A4 m c) (A5 m c)) (A5 m c) (ix2 r l)
      = proj (X m c R) (A1 m c) (A2 m c) (A3 m c) (A4 m c) (A5 m c) l' := by
  obtain rfl : l' = l := Fin.ext hl
  exact point1 m c t r l' R hR

/-- A further result array: columns 0 to 511 of the projected rows. -/
theorem final7 (c : Dev nD) : (dats m 0 c).arrAt 7 (cfgs 0).N =
    fun i : S65536x512.Idx => proj (X m c (i 0)) (A1 m c) (A2 m c) (A3 m c) (A4 m c) (A5 m c)
      ⟨0 + (i 1).val, by have h : (i 1).val < 512 := (i 1).isLt; omega⟩ := by
  refine (dats m 0 c).arrAt_eq_of_covers 7 _ (by decide +kernel) fun t _ y => ?_
  blk_simp
  rw [after0_7]
  frame_out
  rw [iblk1, iblk2, iblk3, iblk4, iblk5]
  unfold k0_pay2
  pointwise
  exact at1 m c t (y 0) _ _ _ (by blk_simp [idx t]) (by blk_simp [idx t])

/-- A further result array: columns 512 to 767 of the projected rows. -/
theorem final8 (c : Dev nD) : (dats m 0 c).arrAt 8 (cfgs 0).N =
    fun i : S65536x256.Idx => proj (X m c (i 0)) (A1 m c) (A2 m c) (A3 m c) (A4 m c) (A5 m c)
      ⟨512 + (i 1).val, by have h : (i 1).val < 256 := (i 1).isLt; omega⟩ := by
  refine (dats m 0 c).arrAt_eq_of_covers 8 _ (by decide +kernel) fun t _ y => ?_
  blk_simp
  rw [after0_8]
  frame_out
  rw [iblk1, iblk2, iblk3, iblk4, iblk5]
  unfold k0_pay3
  pointwise
  exact at1 m c t (y 0) _ _ _ (by blk_simp [idx t]) (by blk_simp [idx t])

/-- A further result array: columns 768 to 1279 of the projected rows. -/
theorem final9 (c : Dev nD) : (dats m 0 c).arrAt 9 (cfgs 0).N =
    fun i : S65536x512.Idx => proj (X m c (i 0)) (A1 m c) (A2 m c) (A3 m c) (A4 m c) (A5 m c)
      ⟨768 + (i 1).val, by have h : (i 1).val < 512 := (i 1).isLt; omega⟩ := by
  refine (dats m 0 c).arrAt_eq_of_covers 9 _ (by decide +kernel) fun t _ y => ?_
  blk_simp
  rw [after0_9]
  frame_out
  rw [iblk1, iblk2, iblk3, iblk4, iblk5]
  unfold k0_pay4
  pointwise
  exact at1 m c t (y 0) _ _ _ (by blk_simp [idx t]) (by blk_simp [idx t])

/-- A further result array: columns 1280 to 1791 of the projected rows. -/
theorem final10 (c : Dev nD) : (dats m 0 c).arrAt 10 (cfgs 0).N =
    fun i : S65536x512.Idx => proj (X m c (i 0)) (A1 m c) (A2 m c) (A3 m c) (A4 m c) (A5 m c)
      ⟨1280 + (i 1).val, by have h : (i 1).val < 512 := (i 1).isLt; omega⟩ := by
  refine (dats m 0 c).arrAt_eq_of_covers 10 _ (by decide +kernel) fun t _ y => ?_
  blk_simp
  rw [after0_10]
  frame_out
  rw [iblk1, iblk2, iblk3, iblk4, iblk5]
  unfold k0_pay5
  pointwise
  exact at1 m c t (y 0) _ _ _ (by blk_simp [idx t]) (by blk_simp [idx t])

/-- A further result array: columns 1792 to 2303 of the projected rows. -/
theorem final11 (c : Dev nD) : (dats m 0 c).arrAt 11 (cfgs 0).N =
    fun i : S65536x512.Idx => proj (X m c (i 0)) (A1 m c) (A2 m c) (A3 m c) (A4 m c) (A5 m c)
      ⟨1792 + (i 1).val, by have h : (i 1).val < 512 := (i 1).isLt; omega⟩ := by
  refine (dats m 0 c).arrAt_eq_of_covers 11 _ (by decide +kernel) fun t _ y => ?_
  blk_simp
  rw [after0_11]
  frame_out
  rw [iblk1, iblk2, iblk3, iblk4, iblk5]
  unfold k0_pay6
  pointwise
  exact at1 m c t (y 0) _ _ _ (by blk_simp [idx t]) (by blk_simp [idx t])

/-- A further result array: columns 2304 to 2815 of the projected rows. -/
theorem final12 (c : Dev nD) : (dats m 0 c).arrAt 12 (cfgs 0).N =
    fun i : S65536x512.Idx => proj (X m c (i 0)) (A1 m c) (A2 m c) (A3 m c) (A4 m c) (A5 m c)
      ⟨2304 + (i 1).val, by have h : (i 1).val < 512 := (i 1).isLt; omega⟩ := by
  refine (dats m 0 c).arrAt_eq_of_covers 12 _ (by decide +kernel) fun t _ y => ?_
  blk_simp
  rw [after0_12]
  frame_out
  rw [iblk1, iblk2, iblk3, iblk4, iblk5]
  unfold k0_pay7
  pointwise
  exact at1 m c t (y 0) _ _ _ (by blk_simp [idx t]) (by blk_simp [idx t])

/-- A further result array: columns 2816 to 3327 of the projected rows. -/
theorem final13 (c : Dev nD) : (dats m 0 c).arrAt 13 (cfgs 0).N =
    fun i : S65536x512.Idx => proj (X m c (i 0)) (A1 m c) (A2 m c) (A3 m c) (A4 m c) (A5 m c)
      ⟨2816 + (i 1).val, by have h : (i 1).val < 512 := (i 1).isLt; omega⟩ := by
  refine (dats m 0 c).arrAt_eq_of_covers 13 _ (by decide +kernel) fun t _ y => ?_
  blk_simp
  rw [after0_13]
  frame_out
  rw [iblk1, iblk2, iblk3, iblk4, iblk5]
  unfold k0_pay8
  pointwise
  exact at1 m c t (y 0) _ _ _ (by blk_simp [idx t]) (by blk_simp [idx t])
end Cert.PreSampleIdeal.Hand
-- ==== Proof.RefPreSampleValue.lean ====
/-
  The first call of the layer at the second batch's size, as plain mathematics: every row of the reference's results is the same row function.
-/
module
public import proofs.«01_k».proof.Proof.PreValue
public import proofs.«01_k».proof.Proof.Gen.RefPreSampleIdeal.Read
@[expose] public section
set_option maxRecDepth 16384
open Idealize.ShloMosaic Idealize.ShloMosaic.TcCoe Idealize.SL.Sem
noncomputable section
namespace Cert.RefPreSampleIdeal.Hand
open Cert.RefPreSampleIdeal Cert.RefPreSampleIdeal.Gen Cert.RefPreSampleIdeal.Read Cert.Rows

variable (x0 : FVec Ideal S65536x1024 .f32) (x1 : FVec Ideal S1024x5632 .bf16) (x2 : FVec Ideal S2816x1024 .bf16)
    (x3 x4 : FVec Ideal S1x1024 .f32) (x5 : FVec Ideal S1024x3328 .bf16)

/-- The reference's residual sum, row by row. -/
theorem v13_apply (r : Fin 65536) (c : Fin 1024) :
    val_main_v13 (F := Ideal) x0 x1 x2 (ix2 r c) =
      half (fun k => x0 (ix2 r k)) (swiglu (fun k => x0 (ix2 r k)) (fun i j => x1 (ix2 i j)) (fun i j => x2 (ix2 i j))) c := by
  pointwise [val_main_v13, val_main_v4, val_main_v3, val_main_cst, val_main_v12, val_main_v11, val_main_cst_0, val_main_v10,
    val_main_v1, val_main_v9, val_main_v8, val_main_v7, val_main_v6, val_main_v5, val_main_v0, val_main_call0_v5,
    val_main_call0_v4, val_main_call0_v3, val_main_call0_v2, val_main_call0_v1, val_main_call0_v0, val_main_call0_cst,
    val_main_call0_cst_0]
  rfl

/-- The reference's normalised rows. -/
theorem v35_apply (r : Fin 65536) (c : Fin 1024) :
    val_main_v35 (F := Ideal) x0 x1 x2 x3 x4 (ix2 r c) = Cert.PreIdeal.Hand.row (fun k => x0 (ix2 r k)) x1 x2 x3 x4 c := by
  pointwise [val_main_v35, val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_cst_5, val_main_cst_4,
    val_main_cst_3, val_main_cst_2, val_main_cst_1, v13_apply]
  rfl

/-- The reference's projected rows. -/
theorem v36_apply (r : Fin 65536) (c : Fin 3328) :
    val_main_v36 (F := Ideal) x0 x1 x2 x3 x4 x5 (ix2 r c) = Cert.PreIdeal.Hand.proj (fun k => x0 (ix2 r k)) x1 x2 x3 x4 x5 c := by
  pointwise [val_main_v36, val_main_v2]
  exact Finset.sum_congr rfl fun k _ => congrArg (· * _) (v35_apply x0 x1 x2 x3 x4 r k)

/-- The first result: the normalised rows. -/
theorem v35_eq : val_main_v35 (F := Ideal) x0 x1 x2 x3 x4 =
    fun i : S65536x1024.Idx => Cert.PreIdeal.Hand.row (fun k => x0 (ix2 (i 0) k)) x1 x2 x3 x4 (i 1) := by
  funext i
  idx_vars i
  exact v35_apply x0 x1 x2 x3 x4 _ _

/-- Columns 0 to 511 of the projected rows. -/
theorem v38_eq : val_main_v38 (F := Ideal) x0 x1 x2 x3 x4 x5 =
    fun i : S65536x512.Idx => Cert.PreIdeal.Hand.proj (fun k => x0 (ix2 (i 0) k)) x1 x2 x3 x4 x5
      ⟨0 + (i 1).val, by have h : (i 1).val < 512 := (i 1).isLt; omega⟩ := by
  funext i
  idx_vars i
  pointwise [val_main_v38, val_main_v37]
  rw [v36_apply]

/-- Columns 512 to 767 of the projected rows. -/
theorem v40_eq : val_main_v40 (F := Ideal) x0 x1 x2 x3 x4 x5 =
    fun i : S65536x256.Idx => Cert.PreIdeal.Hand.proj (fun k => x0 (ix2 (i 0) k)) x1 x2 x3 x4 x5
      ⟨512 + (i 1).val, by have h : (i 1).val < 256 := (i 1).isLt; omega⟩ := by
  funext i
  idx_vars i
  pointwise [val_main_v40, val_main_v39]
  rw [v36_apply]

/-- Columns 768 to 1279 of the projected rows. -/
theorem v42_eq : val_main_v42 (F := Ideal) x0 x1 x2 x3 x4 x5 =
    fun i : S65536x512.Idx => Cert.PreIdeal.Hand.proj (fun k => x0 (ix2 (i 0) k)) x1 x2 x3 x4 x5
      ⟨768 + (i 1).val, by have h : (i 1).val < 512 := (i 1).isLt; omega⟩ := by
  funext i
  idx_vars i
  pointwise [val_main_v42, val_main_v41]
  rw [v36_apply]

/-- Columns 1280 to 1791 of the projected rows. -/
theorem v44_eq : val_main_v44 (F := Ideal) x0 x1 x2 x3 x4 x5 =
    fun i : S65536x512.Idx => Cert.PreIdeal.Hand.proj (fun k => x0 (ix2 (i 0) k)) x1 x2 x3 x4 x5
      ⟨1280 + (i 1).val, by have h : (i 1).val < 512 := (i 1).isLt; omega⟩ := by
  funext i
  idx_vars i
  pointwise [val_main_v44, val_main_v43]
  rw [v36_apply]

/-- Columns 1792 to 2303 of the projected rows. -/
theorem v46_eq : val_main_v46 (F := Ideal) x0 x1 x2 x3 x4 x5 =
    fun i : S65536x512.Idx => Cert.PreIdeal.Hand.proj (fun k => x0 (ix2 (i 0) k)) x1 x2 x3 x4 x5
      ⟨1792 + (i 1).val, by have h : (i 1).val < 512 := (i 1).isLt; omega⟩ := by
  funext i
  idx_vars i
  pointwise [val_main_v46, val_main_v45]
  rw [v36_apply]

/-- Columns 2304 to 2815 of the projected rows. -/
theorem v47_eq : val_main_v47 (F := Ideal) x0 x1 x2 x3 x4 x5 =
    fun i : S65536x512.Idx => Cert.PreIdeal.Hand.proj (fun k => x0 (ix2 (i 0) k)) x1 x2 x3 x4 x5
      ⟨2304 + (i 1).val, by have h : (i 1).val < 512 := (i 1).isLt; omega⟩ := by
  funext i
  idx_vars i
  pointwise [val_main_v47]
  rw [v36_apply]

/-- Columns 2816 to 3327 of the projected rows. -/
theorem v48_eq : val_main_v48 (F := Ideal) x0 x1 x2 x3 x4 x5 =
    fun i : S65536x512.Idx => Cert.PreIdeal.Hand.proj (fun k => x0 (ix2 (i 0) k)) x1 x2 x3 x4 x5
      ⟨2816 + (i 1).val, by have h : (i 1).val < 512 := (i 1).isLt; omega⟩ := by
  funext i
  idx_vars i
  pointwise [val_main_v48]
  rw [v36_apply]

end Cert.RefPreSampleIdeal.Hand
-- ==== Proof.PreSampleClaim.lean ====
/-
  The first call of the layer at the second batch's size computes its reference's results, over the extended reals.
-/
module
public import proofs.«01_k».proof.Defs
public import proofs.«01_k».proof.Proof.PreSampleValue
public import proofs.«01_k».proof.Proof.RefPreSampleValue
public import proofs.«01_k».proof.Proof.Gen.RefPreSampleIdeal.Run
@[expose] public section
set_option maxRecDepth 16384
open Idealize.ShloMosaic Idealize.ShloMosaic.TcCoe Idealize.SL.Sem
noncomputable section
namespace Cert.PreSampleClaim
open Cert.PreIdeal.Hand (row proj)
open Cert.RefPreSampleIdeal.Read Cert.PreSampleIdeal.Hand

/-- From memories that agree on the arguments, the kernel's eight results and the reference's are the same arrays: the
    normalised rows and the seven column ranges of their projection. -/
theorem algebraic : Cert.algebraic_PreSampleIdeal_RefPreSampleIdeal := by
  intro m g m' g' _ hagree
  refine ⟨fun c i => row (X m c (i 0)) (A1 m c) (A2 m c) (A3 m c) (A4 m c) (i 1),
    fun c i => proj (X m c (i 0)) (A1 m c) (A2 m c) (A3 m c) (A4 m c) (A5 m c)
      ⟨0 + (i 1).val, by have h : (i 1).val < 512 := (i 1).isLt; omega⟩,
    fun c i => proj (X m c (i 0)) (A1 m c) (A2 m c) (A3 m c) (A4 m c) (A5 m c)
      ⟨512 + (i 1).val, by have h : (i 1).val < 256 := (i 1).isLt; omega⟩,
    fun c i => proj (X m c (i 0)) (A1 m c) (A2 m c) (A3 m c) (A4 m c) (A5 m c)
      ⟨768 + (i 1).val, by have h : (i 1).val < 512 := (i 1).isLt; omega⟩,
    fun c i => proj (X m c (i 0)) (A1 m c) (A2 m c) (A3 m c) (A4 m c) (A5 m c)
      ⟨1280 + (i 1).val, by have h : (i 1).val < 512 := (i 1).isLt; omega⟩,
    fun c i => proj (X m c (i 0)) (A1 m c) (A2 m c) (A3 m c) (A4 m c) (A5 m c)
      ⟨1792 + (i 1).val, by have h : (i 1).val < 512 := (i 1).isLt; omega⟩,
    fun c i => proj (X m c (i 0)) (A1 m c) (A2 m c) (A3 m c) (A4 m c) (A5 m c)
      ⟨2304 + (i 1).val, by have h : (i 1).val < 512 := (i 1).isLt; omega⟩,
    fun c i => proj (X m c (i 0)) (A1 m c) (A2 m c) (A3 m c) (A4 m c) (A5 m c)
      ⟨2816 + (i 1).val, by have h : (i 1).val < 512 := (i 1).isLt; omega⟩,
    (θ_run _ _ _).mono (fun r h c => ?_) (Cert.PreSampleIdeal.Value.run_blocks m g),
    (θ_run _ _ _).mono (fun r h c => ?_) (Cert.RefPreSampleIdeal.Value.run m' g')⟩
  · obtain ⟨h6, h7, h8, h9, h10, h11, h12, h13, ha⟩ := h c
    exact ⟨h6.trans (final6 m c), h7.trans (final7 m c), h8.trans (final8 m c), h9.trans (final9 m c), h10.trans (final10 m c), h11.trans (final11 m c), h12.trans (final12 m c), h13.trans (final13 m c), ha⟩
  · obtain ⟨h6, h7, h8, h9, h10, h11, h12, h13, ha⟩ := h c
    obtain ⟨e0, e1, e2, e3, e4, e5⟩ := hagree c
    have k6 := h6.trans ((val_main_v35_eq m' c).trans (Cert.RefPreSampleIdeal.Hand.v35_eq _ _ _ _ _))
    rw [e0, e1, e2, e3, e4] at k6
    have k7 := h7.trans ((val_main_v38_eq m' c).trans (Cert.RefPreSampleIdeal.Hand.v38_eq _ _ _ _ _ _))
    rw [e0, e1, e2, e3, e4, e5] at k7
    have k8 := h8.trans ((val_main_v40_eq m' c).trans (Cert.RefPreSampleIdeal.Hand.v40_eq _ _ _ _ _ _))
    rw [e0, e1, e2, e3, e4, e5] at k8
    have k9 := h9.trans ((val_main_v42_eq m' c).trans (Cert.RefPreSampleIdeal.Hand.v42_eq _ _ _ _ _ _))
    rw [e0, e1, e2, e3, e4, e5] at k9
    have k10 := h10.trans ((val_main_v44_eq m' c).trans (Cert.RefPreSampleIdeal.Hand.v44_eq _ _ _ _ _ _))
    rw [e0, e1, e2, e3, e4, e5] at k10
    have k11 := h11.trans ((val_main_v46_eq m' c).trans (Cert.RefPreSampleIdeal.Hand.v46_eq _ _ _ _ _ _))
    rw [e0, e1, e2, e3, e4, e5] at k11
    have k12 := h12.trans ((val_main_v47_eq m' c).trans (Cert.RefPreSampleIdeal.Hand.v47_eq _ _ _ _ _ _))
    rw [e0, e1, e2, e3, e4, e5] at k12
    have k13 := h13.trans ((val_main_v48_eq m' c).trans (Cert.RefPreSampleIdeal.Hand.v48_eq _ _ _ _ _ _))
    rw [e0, e1, e2, e3, e4, e5] at k13
    exact ⟨k6, k7, k8, k9, k10, k11, k12, k13, ha⟩

end Cert.PreSampleClaim
-- ==== Proof.AttnRow.lean ====
/-
  The attention of one head for one query, over the extended reals: the maximum-shifted exponentials of a row of scores with a
  sink, their total, the mean of the values; the same taken over a window of the keys and over all of them.
-/
module
public import Idealize.ShloMosaic.Lib.Pointwise
@[expose] public section
open Idealize.ShloMosaic
noncomputable section
namespace Cert.Rows

/-- The greatest of a row of scores and the sink's score. -/
def top {n : ℕ} (l : Fin n → EReal) (s : EReal) : EReal := max (Finset.univ.fold max ⊥ l) s

/-- The exponential of a score less the greatest. -/
def wt {n : ℕ} (l : Fin n → EReal) (s : EReal) (x : Fin n) : EReal := Ideal.exp (l x - top l s)

/-- The exponentials' total, the sink's included. -/
def total {n : ℕ} (l : Fin n → EReal) (s : EReal) : EReal := ∑ x, wt l s x + Ideal.exp (s - top l s)

/-- The mean of the values: summed with the exponentials, then times one over the total. -/
def headAt {n : ℕ} (l : Fin n → EReal) (s : EReal) (v : Fin n → EReal) : EReal :=
  (∑ x, wt l s x * v x) * Ideal.div 1 (total l s)

/-- The mean of the values: summed with the exponentials each divided by the total. -/
def headRef {n : ℕ} (l : Fin n → EReal) (s : EReal) (v : Fin n → EReal) : EReal :=
  ∑ x, v x * Ideal.div (wt l s x) (total l s)

/-- A row divided by its root mean square, times a gain. -/
def normRow (o : Fin 512 → EReal) (g : EReal) (c : Fin 512) : EReal :=
  o c * Ideal.rsqrt (Ideal.div (∑ x, o x * o x) (Ideal.ofBits .f32 1140850688#32) + Ideal.ofBits .f32 925353388#32) * g

/-- A score of minus infinity has exponential zero. -/
theorem wt_bot {n : ℕ} (l : Fin n → EReal) (s : EReal) (x : Fin n) (h : l x = ⊥) : wt l s x = 0 := by
  unfold wt; rw [h]
  show Ideal.exp (⊥ - _) = 0
  rw [sub_eq_add_neg, EReal.bot_add]; rfl

/-- The mean does not see the values under scores of minus infinity. -/
theorem headAt_congr {n : ℕ} {l l' : Fin n → EReal} {s : EReal} {v v' : Fin n → EReal} (hl : ∀ x, l x = l' x)
    (hv : ∀ x, l' x ≠ ⊥ → v x = v' x) : headAt l s v = headAt l' s v' := by
  obtain rfl : l = l' := funext hl
  unfold headAt
  congr 1
  refine Finset.sum_congr rfl fun x _ => ?_
  by_cases h : l x = ⊥
  · rw [wt_bot l s x h, zero_mul, zero_mul]
  · rw [hv x h]

/-- A sum over a stretch of positions outside which the terms are zero. -/
theorem sum_stretch (f : ℕ → EReal) (a n N : ℕ) (h : a + n ≤ N) (hf : ∀ p, f p ≠ 0 → a ≤ p ∧ p < a + n) :
    ∑ x : Fin n, f (a + x) = ∑ p ∈ Finset.range N, f p := by
  rw [Fin.sum_univ_eq_sum_range (fun x => f (a + x)) n]
  have : ∑ i ∈ Finset.range n, f (a + i) = ∑ p ∈ Finset.Ico a (a + n), f p := by
    rw [Finset.sum_Ico_eq_sum_range]; simp
  rw [this]
  refine Finset.sum_subset (fun p hp => ?_) (fun p _ hp => ?_)
  · rw [Finset.mem_Ico] at hp; rw [Finset.mem_range]; omega
  · by_contra hne
    exact hp (Finset.mem_Ico.mpr (hf p hne))

/-- Two stretches of positions, both holding every finite score, have the same greatest score. -/
theorem fold_stretch (L : ℕ → EReal) (a n b m : ℕ) (h : ∀ p, L p ≠ ⊥ → b ≤ p ∧ p < b + m) :
    Finset.univ.fold max ⊥ (fun x : Fin n => L (a + x)) ≤ Finset.univ.fold max ⊥ (fun y : Fin m => L (b + y)) := by
  rw [Finset.fold_max_le]
  refine ⟨bot_le, fun x _ => ?_⟩
  by_cases hx : L (a + x) = ⊥
  · rw [hx]; exact bot_le
  · obtain ⟨h1, h2⟩ := h _ hx
    rw [Finset.le_fold_max]
    refine Or.inr ⟨⟨a + x - b, by omega⟩, Finset.mem_univ _, ?_⟩
    show L (a + x) ≤ L (b + (a + x - b))
    rw [show b + (a + ↑x - b) = a + ↑x by omega]

/-- The total is real and positive where the scores are below infinity and the sink's is real. -/
theorem total_real {n : ℕ} (l : Fin n → EReal) (s : ℝ) (hl : ∀ x, l x ≠ ⊤) : ∃ r : ℝ, 0 < r ∧ total l s = r := by
  have ht : top l s ≠ ⊤ := by
    refine ne_of_lt (max_lt ?_ (EReal.coe_lt_top s))
    rw [Finset.fold_max_lt]
    exact ⟨bot_lt_top, fun x _ => lt_top_iff_ne_top.mpr (hl x)⟩
  have hb : top l s ≠ ⊥ := fun h => by
    have := le_max_right (Finset.univ.fold max ⊥ l) (s : EReal)
    rw [show max _ _ = top l (s : EReal) from rfl, h] at this
    exact absurd (le_bot_iff.mp this) (EReal.coe_ne_bot s)
  obtain ⟨M, hM⟩ : ∃ M : ℝ, top l s = M := ⟨_, (EReal.coe_toReal ht hb).symm⟩
  have hw : ∀ x, ∃ w : ℝ, 0 ≤ w ∧ wt l s x = w := fun x => by
    by_cases hx : l x = ⊥
    · exact ⟨0, le_refl _, by rw [wt_bot l s x hx]; rfl⟩
    · obtain ⟨r, hr⟩ : ∃ r : ℝ, l x = r := ⟨_, (EReal.coe_toReal (hl x) hx).symm⟩
      refine ⟨Real.exp (r - M), (Real.exp_pos _).le, ?_⟩
      unfold wt; rw [hr, hM, ← EReal.coe_sub]; rfl
  choose w hw0 hw using hw
  refine ⟨∑ x, w x + Real.exp (s - M), add_pos_of_nonneg_of_pos (Finset.sum_nonneg fun x _ => hw0 x) (Real.exp_pos _), ?_⟩
  unfold total
  rw [hM, ← EReal.coe_sub, EReal.coe_add]
  congr 1
  rw [Finset.sum_congr rfl fun x _ => hw x]
  exact (map_sum (⟨⟨Real.toEReal, rfl⟩, EReal.coe_add⟩ : ℝ →+ EReal) w Finset.univ).symm

/-- A real nonnegative factor comes out of a sum. -/
theorem sum_mul_real {ι : Type} (S : Finset ι) (f : ι → EReal) (r : ℝ) (h : 0 ≤ r) :
    (∑ x ∈ S, f x) * (r : EReal) = ∑ x ∈ S, f x * (r : EReal) := by
  classical
  induction S using Finset.induction_on with
  | empty => simp
  | insert a S ha ih =>
    rw [Finset.sum_insert ha, Finset.sum_insert ha, ← ih, mul_comm,
      EReal.left_distrib_of_nonneg_of_ne_top (EReal.coe_nonneg.mpr h) (EReal.coe_ne_top r), mul_comm, mul_comm (r : EReal)]

/-- Dividing the sum by the total is dividing every exponential by it. -/
theorem headAt_eq_headRef {n : ℕ} (l : Fin n → EReal) (s : ℝ) (v : Fin n → EReal) (hl : ∀ x, l x ≠ ⊤) :
    headAt l s v = headRef l s v := by
  obtain ⟨r, hr, ht⟩ := total_real l s hl
  have hne : (r : EReal) ≠ 0 := by exact_mod_cast hr.ne'
  have hd : ∀ x : EReal, Ideal.div x (r : EReal) = x * ((r⁻¹ : ℝ) : EReal) := fun x => by
    unfold Ideal.div; rw [if_neg hne, EReal.coe_inv]
  unfold headAt headRef
  rw [ht, hd, one_mul, sum_mul_real _ _ _ (inv_nonneg.mpr hr.le)]
  refine Finset.sum_congr rfl fun x _ => ?_
  rw [hd, mul_comm (v x), mul_assoc, mul_assoc, mul_comm (v x)]

/-- The mean over one stretch of positions is the mean over another, where both hold every score above minus infinity. -/
theorem headAt_stretch (L V : ℕ → EReal) (s : EReal) (a n b m : ℕ)
    (h : ∀ p, L p ≠ ⊥ → (a ≤ p ∧ p < a + n) ∧ b ≤ p ∧ p < b + m) :
    headAt (fun x : Fin n => L (a + x)) s (fun x => V (a + x)) = headAt (fun y : Fin m => L (b + y)) s (fun y => V (b + y)) := by
  have ht : top (fun x : Fin n => L (a + x)) s = top (fun y : Fin m => L (b + y)) s := by
    unfold top
    rw [le_antisymm (fold_stretch L a n b m fun p hp => (h p hp).2) (fold_stretch L b m a n fun p hp => (h p hp).1)]
  have hz : ∀ (M : EReal) (p : ℕ), Ideal.exp (L p - M) ≠ 0 → L p ≠ ⊥ := fun M p hp hb => hp (by
    rw [hb, sub_eq_add_neg, EReal.bot_add]; rfl)
  have hsum : ∀ (f : ℕ → EReal), (∀ p, f p ≠ 0 → L p ≠ ⊥) → ∑ x : Fin n, f (a + x) = ∑ y : Fin m, f (b + y) := fun f hf => by
    rw [sum_stretch f a n (a + n + (b + m)) (by omega) fun p hp => (h p (hf p hp)).1,
      sum_stretch f b m (a + n + (b + m)) (by omega) fun p hp => (h p (hf p hp)).2]
  unfold headAt total wt
  rw [ht, hsum (fun p => Ideal.exp (L p - _)) fun p hp => hz _ p hp,
    hsum (fun p => Ideal.exp (L p - _) * V p) fun p hp => hz _ p (left_ne_zero_of_mul hp)]

end Cert.Rows
end
-- ==== Proof.AttnVec.lean ====
/-
  The attention call, one block of 128 queries as vector operations: what a grid point stores for each of its four blocks of
  queries, written once over the block's queries, the keys and values it sees, the position penalties and the sinks.
-/
module
public import proofs.«01_k».proof.Proof.Gen.AttnIdeal.Skeleton
@[expose] public section
set_option maxRecDepth 16384
open Idealize.ShloMosaic Idealize.ShloMosaic.TcCoe
noncomputable section
namespace Cert.AttnIdeal.Hand
open Cert.AttnIdeal Cert.AttnIdeal.Gen

/-- Two 128-lane pieces of the queries, one under the other. -/
def pairQ (a b : Vec Ideal S1x128x128 .bf16) : FVec Ideal S256x128 .bf16 :=
  concatenate S256x128 0 [⟨S128x128, shapeCast S128x128 a shapeCasts_S1x128x128_S128x128⟩,
    ⟨S128x128, shapeCast S128x128 b shapeCasts_S1x128x128_S128x128⟩] concatenates_S128x128_S128x128_S256x128_d0

/-- The products of the queries with the 384 keys in view. -/
def scores (q : FVec Ideal S256x128 .bf16) (k : Vec Ideal S1x384x128 .bf16) : FVec Ideal S256x384 .f32 :=
  matmul (φ₂ := .bf16) dot_S256x128_S384x128_S256x384_1_1_0_0_n_n none q (shapeCast S384x128 k shapeCasts_S1x384x128_S384x128)
    (constant S256x384 .f32 0x00000000#32)

/-- The scores of the first piece of the queries, with a head's position penalty. -/
def upper (x : FVec Ideal S256x384 .f32) (b : Vec Ideal S1x128x384 .f32) : FVec Ideal S128x384 .f32 :=
  addf (extractStridedSlice S128x384 ![0, 0] x slices_S256x384_o0_0_S128x384)
    (shapeCast S128x384 b shapeCasts_S1x128x384_S128x384)

/-- The scores of the second piece of the queries, with a head's position penalty. -/
def lower (x : FVec Ideal S256x384 .f32) (b : Vec Ideal S1x128x384 .f32) : FVec Ideal S128x384 .f32 :=
  addf (extractStridedSlice S128x384 ![128, 0] x slices_S256x384_o128_0_S128x384)
    (shapeCast S128x384 b shapeCasts_S1x128x384_S128x384)

/-- A penalty on the keys before the block. -/
def penLo (p : Ideal .f32) : FVec Ideal S128x384 .f32 :=
  select (cmpi .slt (iota .tc S128x384 32 [1] iota_S128x384_d1_w32) (broadcast S128x384 128#32)) (broadcast S128x384 p)
    (broadcast S128x384 (Scalar.ofBits .f32 0x00000000#32))

/-- A penalty on the keys after the block. -/
def penHi (p : Ideal .f32) : FVec Ideal S128x384 .f32 :=
  select (cmpi .sge (iota .tc S128x384 32 [1] iota_S128x384_d1_w32) (broadcast S128x384 256#32)) (broadcast S128x384 p)
    (broadcast S128x384 (Scalar.ofBits .f32 0x00000000#32))

/-- Every row's greatest score, the sink's among them. -/
def rowMax (l : FVec Ideal S128x384 .f32) (s : Ideal .f32) : FVec Ideal S128x1 .f32 :=
  maximumf (shapeCast S128x1 (multiReduction .maximumf [1] S128 l 0xFF800000#32 reduces_S128x384_S128 (.inl rfl) rfl)
    shapeCasts_S128_S128x1) (broadcast S128x1 s)

/-- The exponentials of the scores less the row's greatest. -/
def weights (l : FVec Ideal S128x384 .f32) (s : Ideal .f32) : FVec Ideal S128x384 .f32 :=
  exp (subf l (broadcastTo S128x384 (rowMax l s) broadcasts_S128x1_S128x384))

/-- Their sum, the sink's exponential included. -/
def denom (l : FVec Ideal S128x384 .f32) (s : Ideal .f32) : FVec Ideal S128x1 .f32 :=
  addf (shapeCast S128x1 (multiReduction .add [1] S128 (weights l s) 0x00000000#32 reduces_S128x384_S128 (.inl rfl) rfl)
    shapeCasts_S128_S128x1) (exp (subf (broadcast S128x1 s) (rowMax l s)))

/-- The values summed with the exponentials as weights. -/
def mixV (l : FVec Ideal S128x384 .f32) (s : Ideal .f32) (v : Vec Ideal S1x384x128 .bf16) : FVec Ideal S128x128 .f32 :=
  matmul (φ₂ := .bf16) dot_S128x384_S384x128_S128x128_1_0_0_1_n_n none (truncf .bf16 (weights l s) bitsLt_bf16_f32)
    (shapeCast S384x128 v shapeCasts_S1x384x128_S384x128) (constant S128x128 .f32 0x00000000#32)

/-- One over the sum, along the lanes. -/
def recip (l : FVec Ideal S128x384 .f32) (s : Ideal .f32) : FVec Ideal S128x128 .f32 :=
  broadcastTo S128x128 (shapeCast S128x1 (divf (broadcast S128x1 (Scalar.ofBits .f32 0x3F800000#32)) (denom l s))
    shapeCasts_S128x1_S128x1) broadcasts_S128x1_S128x128

/-- Two heads side by side: one in the first 64 lanes, one in the last. -/
def headPair (l : FVec Ideal S128x384 .f32) (s : Ideal .f32) (v : Vec Ideal S1x384x128 .bf16)
    (l' : FVec Ideal S128x384 .f32) (s' : Ideal .f32) (v' : Vec Ideal S1x384x128 .bf16) : FVec Ideal S128x128 .f32 :=
  mulf (addf (mixV l s v) (mixV l' s' v')) (select k0_pay62 (recip l s) (recip l' s'))

/-- The four pairs of heads side by side. -/
def rowsOf (o0 o1 o2 o3 : FVec Ideal S128x128 .f32) : FVec Ideal S128x512 .f32 :=
  concatenate S128x512 1 [⟨S128x128, o0⟩, ⟨S128x128, o1⟩, ⟨S128x128, o2⟩, ⟨S128x128, o3⟩]
    concatenates_S128x128_S128x128_S128x128_S128x128_S128x512_d1

/-- Rows divided by their root mean square, times the gain. -/
def normed (o : FVec Ideal S128x512 .f32) (gain : Vec Ideal S1x512 .f32) : FVec Ideal S1x128x512 .bf16 :=
  shapeCast S1x128x512 (truncf .bf16 (mulf (mulf o (broadcastTo S128x512 (rsqrt (addf (divf (shapeCast S128x1
    (multiReduction .add [1] S128 (mulf o o) 0x00000000#32 reduces_S128x512_S128 (.inl rfl) rfl) shapeCasts_S128_S128x1)
    (broadcast S128x1 (Scalar.ofBits .f32 0x44000000#32))) (broadcast S128x1 (Scalar.ofBits .f32 0x3727C5AC#32))))
    broadcasts_S128x1_S128x512)) (broadcastTo S128x512 gain broadcasts_S1x512_S128x512)) bitsLt_bf16_f32)
    shapeCasts_S128x512_S1x128x512

/-- A block of 128 queries: the eight heads' scores (through `pen`, the penalty at an edge of the sequence), their means
    of the values, and the row norm. -/
def block (pen : FVec Ideal S128x384 .f32 → FVec Ideal S128x384 .f32) (q0 q1 q2 q3 : Vec Ideal S1x128x128 .bf16)
    (k0 k1 k2 k3 v0 v1 v2 v3 : Vec Ideal S1x384x128 .bf16) (b0 b1 b2 b3 b4 b5 b6 b7 : Vec Ideal S1x128x384 .f32)
    (s0 s1 s2 s3 s4 s5 s6 s7 : Ideal .f32) (gain : Vec Ideal S1x512 .f32) : FVec Ideal S1x128x512 .bf16 :=
  normed (rowsOf
    (headPair (pen (upper (scores (pairQ q0 q1) k0) b0)) s0 v0 (pen (upper (scores (pairQ q0 q1) k1) b1)) s1 v1)
    (headPair (pen (lower (scores (pairQ q0 q1) k0) b2)) s2 v0 (pen (lower (scores (pairQ q0 q1) k1) b3)) s3 v1)
    (headPair (pen (upper (scores (pairQ q2 q3) k2) b4)) s4 v2 (pen (upper (scores (pairQ q2 q3) k3) b5)) s5 v3)
    (headPair (pen (lower (scores (pairQ q2 q3) k2) b6)) s6 v2 (pen (lower (scores (pairQ q2 q3) k3) b7)) s7 v3)) gain

variable (n : BitVec 32) (q0 q1 q2 q3 : Vec Ideal S1x128x128 .bf16)
  (k0 k1 k2 k3 v0 v1 v2 v3 : Vec Ideal S1x384x128 .bf16) (b0 b1 b2 b3 b4 b5 b6 b7 : Vec Ideal S1x128x384 .f32)
  (s0 s1 s2 s3 s4 s5 s6 s7 : Ideal .f32) (gain : Vec Ideal S1x512 .f32)

/-- What a grid point stores for its first block of queries is `block`. -/
theorem stored0 :
      k0_pay108 (k0_pay107 k0_pay62 gain (k0_pay72 k0_pay62 (k0_pay69 (iota Kind.tc S128x384 32 [1] iota_S128x384_d1_w32) (k0_pay60 n) (k0_pay64 q0 q1
      k0) b0 s0) (k0_pay70 (iota Kind.tc S128x384 32 [1] iota_S128x384_d1_w32) (k0_pay60 n) (k0_pay64 q0 q1 k0) b0 s0 v0) (k0_pay71 (iota Kind.tc
      S128x384 32 [1] iota_S128x384_d1_w32) (k0_pay60 n) (k0_pay63 q0 q1) k1 b1) s1 v1) (k0_pay83 k0_pay62 (k0_pay80 (iota Kind.tc S128x384 32 [1]
      iota_S128x384_d1_w32) (k0_pay60 n) (k0_pay65 (k0_pay63 q0 q1) k1) b3 s3) (k0_pay81 (iota Kind.tc S128x384 32 [1] iota_S128x384_d1_w32) (k0_pay60
      n) (k0_pay65 (k0_pay63 q0 q1) k1) (k0_pay75 (iota Kind.tc S128x384 32 [1] iota_S128x384_d1_w32) (k0_pay60 n) (k0_pay64 q0 q1 k0) b2 s2) v0 b3 s3
      v1) (k0_pay82 s2 (k0_pay74 (iota Kind.tc S128x384 32 [1] iota_S128x384_d1_w32) (k0_pay60 n) (k0_pay64 q0 q1 k0) b2 s2) (k0_pay75 (iota Kind.tc
      S128x384 32 [1] iota_S128x384_d1_w32) (k0_pay60 n) (k0_pay64 q0 q1 k0) b2 s2))) (k0_pay97 k0_pay62 (k0_pay93 (iota Kind.tc S128x384 32 [1]
      iota_S128x384_d1_w32) (k0_pay60 n) (k0_pay86 q2 q3 k3) b5 s5) (k0_pay94 (iota Kind.tc S128x384 32 [1] iota_S128x384_d1_w32) (k0_pay60 n)
      (k0_pay86 q2 q3 k3) (k0_pay89 (iota Kind.tc S128x384 32 [1] iota_S128x384_d1_w32) (k0_pay60 n) q2 q3 k2 b4 s4) v2 b5 s5 v3) (k0_pay95 s4
      (k0_pay88 (iota Kind.tc S128x384 32 [1] iota_S128x384_d1_w32) (k0_pay60 n) q2 q3 k2 b4 s4) (k0_pay89 (iota Kind.tc S128x384 32 [1]
      iota_S128x384_d1_w32) (k0_pay60 n) q2 q3 k2 b4 s4)) k0_pay96) (k0_pay101 (iota Kind.tc S128x384 32 [1] iota_S128x384_d1_w32) (k0_pay60 n)
      (k0_pay85 q2 q3 k2) b6 s6) (k0_pay102 (iota Kind.tc S128x384 32 [1] iota_S128x384_d1_w32) (k0_pay60 n) (k0_pay85 q2 q3 k2) b6 s6 v2) (k0_pay103
      (k0_pay86 q2 q3 k3) b7) (k0_pay104 (iota Kind.tc S128x384 32 [1] iota_S128x384_d1_w32)) (k0_pay105 (k0_pay60 n)) k0_pay106 s7 v3)
      = block (fun l => addf l (penLo (k0_pay60 n))) q0 q1 q2 q3 k0 k1 k2 k3 v0 v1 v2 v3 b0 b1 b2 b3 b4 b5 b6 b7 s0 s1 s2 s3 s4 s5 s6 s7 gain := rfl

/-- What a grid point stores for its second block of queries is `block`. -/
theorem stored1 :
      k0_pay148 k0_pay62 gain (k0_pay118 k0_pay62 (k0_pay111 q0 q1 k1) (k0_pay115 q0 q1 k0 b0 s0) (k0_pay116 q0 q1 k0 b0 s0) (k0_pay117 v0) (constant
      S128x128 FTy.f32 0#32) b1 s1 v1) (k0_pay128 k0_pay62 (k0_pay125 (k0_pay111 q0 q1 k1) (k0_pay119 (k0_pay110 q0 q1 k0) b2) (k0_pay120 (k0_pay110
      q0 q1 k0) b2 s2) v0 b3 s3 v1) (k0_pay126 (k0_pay119 (k0_pay110 q0 q1 k0) b2) s2 (k0_pay120 (k0_pay110 q0 q1 k0) b2 s2)) (k0_pay127 (k0_pay111 q0
      q1 k1) b3 s3)) (k0_pay137 k0_pay62 (k0_pay131 q2 q3 k3) (k0_pay135 q2 q3 k2 b4 s4) (k0_pay136 q2 q3 k2 b4 s4 v2) b5 s5 v3) (k0_pay145 (k0_pay131
      q2 q3 k3) (k0_pay138 (k0_pay130 q2 q3 k2) b6) (k0_pay140 (k0_pay130 q2 q3 k2) b6 s6) v2 b7 s7 v3) (k0_pay146 (k0_pay138 (k0_pay130 q2 q3 k2) b6)
      s6 (k0_pay139 (k0_pay130 q2 q3 k2) b6 s6) (k0_pay140 (k0_pay130 q2 q3 k2) b6 s6)) (k0_pay147 (k0_pay131 q2 q3 k3) b7 s7)
      = block (fun l => l) q0 q1 q2 q3 k0 k1 k2 k3 v0 v1 v2 v3 b0 b1 b2 b3 b4 b5 b6 b7 s0 s1 s2 s3 s4 s5 s6 s7 gain := rfl

/-- What a grid point stores for its third block of queries is `block`. -/
theorem stored2 :
      k0_pay196 k0_pay62 gain (k0_pay161 k0_pay62 (k0_pay158 (k0_pay151 q0 q1 k1) b1 s1) (k0_pay159 (k0_pay151 q0 q1 k1) (k0_pay152 q0 q1 k0 b0) s0 v0
      b1 s1 v1) (k0_pay160 (k0_pay152 q0 q1 k0 b0) s0) (FloatOps.ofBits FTy.f32 1065353216#32)) (k0_pay171 k0_pay62 (k0_pay165 (k0_pay150 q0 q1 k0) b2
      s2) (k0_pay166 (k0_pay150 q0 q1 k0) b2 s2 v0) s3 (k0_pay168 (k0_pay151 q0 q1 k1) b3 s3) (k0_pay169 (k0_pay151 q0 q1 k1) b3 s3) (k0_pay170
      (k0_pay151 q0 q1 k1) b3 s3) v1) (k0_pay185 k0_pay62 (k0_pay181 (k0_pay174 q2 q3 k3) b5 s5) (k0_pay182 (k0_pay174 q2 q3 k3) (k0_pay175 q2 q3 k2
      b4) s4 v2 b5 s5 v3) (k0_pay183 (k0_pay175 q2 q3 k2 b4) s4) k0_pay184) (k0_pay189 (k0_pay173 q2 q3 k2) b6 s6) (k0_pay190 (k0_pay173 q2 q3 k2) b6
      s6 v2) (k0_pay192 (k0_pay174 q2 q3 k3) b7 s7) (k0_pay193 (k0_pay174 q2 q3 k3) b7 s7) (k0_pay194 (k0_pay174 q2 q3 k3) b7 s7) (k0_pay195 s7) v3
      = block (fun l => l) q0 q1 q2 q3 k0 k1 k2 k3 v0 v1 v2 v3 b0 b1 b2 b3 b4 b5 b6 b7 s0 s1 s2 s3 s4 s5 s6 s7 gain := rfl

/-- What a grid point stores for its fourth block of queries is `block`. -/
theorem stored3 :
      k0_pay1 gain (k0_pay240 (iota Kind.tc S128x384 32 [1] iota_S128x384_d1_w32) (k0_pay61 n) k0_pay62 (k0_pay206 (iota Kind.tc S128x384 32 [1]
      iota_S128x384_d1_w32) (k0_pay61 n) k0_pay62 (k0_pay203 (iota Kind.tc S128x384 32 [1] iota_S128x384_d1_w32) (k0_pay61 n) (k0_pay197 q0 q1) k0 b0
      s0) (k0_pay204 (iota Kind.tc S128x384 32 [1] iota_S128x384_d1_w32) (k0_pay61 n) (k0_pay197 q0 q1) k0 b0 s0 v0) (k0_pay205 (k0_pay197 q0 q1) k1
      b1) s1 v1) (k0_pay219 k0_pay62 (k0_pay212 (k0_pay207 (k0_pay198 (k0_pay197 q0 q1) k0) b2) (k0_pay208 (iota Kind.tc S128x384 32 [1]
      iota_S128x384_d1_w32) (k0_pay61 n)) s2) (k0_pay213 (k0_pay207 (k0_pay198 (k0_pay197 q0 q1) k0) b2) (k0_pay208 (iota Kind.tc S128x384 32 [1]
      iota_S128x384_d1_w32) (k0_pay61 n)) s2 v0) (k0_pay217 (iota Kind.tc S128x384 32 [1] iota_S128x384_d1_w32) (k0_pay61 n) (k0_pay199 (k0_pay197 q0
      q1) k1) b3 s3) (k0_pay218 (iota Kind.tc S128x384 32 [1] iota_S128x384_d1_w32) (k0_pay61 n) (k0_pay199 (k0_pay197 q0 q1) k1) b3 s3) v1)
      (k0_pay233 k0_pay62 (k0_pay226 (k0_pay223 (iota Kind.tc S128x384 32 [1] iota_S128x384_d1_w32) (k0_pay61 n) q2 q3 k2 b4) s4) (k0_pay227
      (k0_pay223 (iota Kind.tc S128x384 32 [1] iota_S128x384_d1_w32) (k0_pay61 n) q2 q3 k2 b4) s4 v2) (k0_pay231 (iota Kind.tc S128x384 32 [1]
      iota_S128x384_d1_w32) (k0_pay61 n) (k0_pay222 q2 q3 k3) b5 s5) (k0_pay232 (iota Kind.tc S128x384 32 [1] iota_S128x384_d1_w32) (k0_pay61 n)
      (k0_pay222 q2 q3 k3) b5 s5) v3) (k0_pay237 (iota Kind.tc S128x384 32 [1] iota_S128x384_d1_w32) (k0_pay61 n) (k0_pay221 q2 q3 k2) b6 s6)
      (k0_pay238 (iota Kind.tc S128x384 32 [1] iota_S128x384_d1_w32) (k0_pay61 n) (k0_pay221 q2 q3 k2) b6 s6 v2) (k0_pay239 (k0_pay222 q2 q3 k3)) b7
      s7 v3) (k0_pay241 (iota Kind.tc S128x384 32 [1] iota_S128x384_d1_w32) (k0_pay61 n) k0_pay62 (k0_pay206 (iota Kind.tc S128x384 32 [1]
      iota_S128x384_d1_w32) (k0_pay61 n) k0_pay62 (k0_pay203 (iota Kind.tc S128x384 32 [1] iota_S128x384_d1_w32) (k0_pay61 n) (k0_pay197 q0 q1) k0 b0
      s0) (k0_pay204 (iota Kind.tc S128x384 32 [1] iota_S128x384_d1_w32) (k0_pay61 n) (k0_pay197 q0 q1) k0 b0 s0 v0) (k0_pay205 (k0_pay197 q0 q1) k1
      b1) s1 v1) (k0_pay219 k0_pay62 (k0_pay212 (k0_pay207 (k0_pay198 (k0_pay197 q0 q1) k0) b2) (k0_pay208 (iota Kind.tc S128x384 32 [1]
      iota_S128x384_d1_w32) (k0_pay61 n)) s2) (k0_pay213 (k0_pay207 (k0_pay198 (k0_pay197 q0 q1) k0) b2) (k0_pay208 (iota Kind.tc S128x384 32 [1]
      iota_S128x384_d1_w32) (k0_pay61 n)) s2 v0) (k0_pay217 (iota Kind.tc S128x384 32 [1] iota_S128x384_d1_w32) (k0_pay61 n) (k0_pay199 (k0_pay197 q0
      q1) k1) b3 s3) (k0_pay218 (iota Kind.tc S128x384 32 [1] iota_S128x384_d1_w32) (k0_pay61 n) (k0_pay199 (k0_pay197 q0 q1) k1) b3 s3) v1)
      (k0_pay233 k0_pay62 (k0_pay226 (k0_pay223 (iota Kind.tc S128x384 32 [1] iota_S128x384_d1_w32) (k0_pay61 n) q2 q3 k2 b4) s4) (k0_pay227
      (k0_pay223 (iota Kind.tc S128x384 32 [1] iota_S128x384_d1_w32) (k0_pay61 n) q2 q3 k2 b4) s4 v2) (k0_pay231 (iota Kind.tc S128x384 32 [1]
      iota_S128x384_d1_w32) (k0_pay61 n) (k0_pay222 q2 q3 k3) b5 s5) (k0_pay232 (iota Kind.tc S128x384 32 [1] iota_S128x384_d1_w32) (k0_pay61 n)
      (k0_pay222 q2 q3 k3) b5 s5) v3) (k0_pay237 (iota Kind.tc S128x384 32 [1] iota_S128x384_d1_w32) (k0_pay61 n) (k0_pay221 q2 q3 k2) b6 s6)
      (k0_pay238 (iota Kind.tc S128x384 32 [1] iota_S128x384_d1_w32) (k0_pay61 n) (k0_pay221 q2 q3 k2) b6 s6 v2) (k0_pay239 (k0_pay222 q2 q3 k3)) b7
      s7 v3) k0_pay242
      = block (fun l => addf l (penHi (k0_pay61 n))) q0 q1 q2 q3 k0 k1 k2 k3 v0 v1 v2 v3 b0 b1 b2 b3 b4 b5 b6 b7 s0 s1 s2 s3 s4 s5 s6 s7 gain := rfl

end Cert.AttnIdeal.Hand
end
-- ==== Proof.AttnBlock.lean ====
/-
  The attention call, one block of 128 queries read row by row: a row of `block` is, head by head, the mean `headAt` of the
  values under the head's scores, divided by the row's root mean square.
-/
module
public import proofs.«01_k».proof.Proof.AttnRow
public import proofs.«01_k».proof.Proof.AttnVec
public import Idealize.ShloMosaic.Lib.Pipeline.ValueKit
@[expose] public section
set_option maxRecDepth 16384
open Idealize.ShloMosaic Idealize.ShloMosaic.TcCoe
noncomputable section
namespace Cert.AttnIdeal.Hand
open Cert.AttnIdeal Cert.AttnIdeal.Gen Cert.Rows

/-- A sum over 128 lanes is the sum over the first 64 and the last 64. -/
theorem sum_halves (f : Fin 128 → EReal) :
    ∑ x, f x = ∑ d : Fin 64, f ⟨d.val, by omega⟩ + ∑ d : Fin 64, f ⟨64 + d.val, by omega⟩ :=
  Fin.sum_univ_add (a := 64) (b := 64) f

/-- 128 lanes whose last half is zero, against a row of 64. -/
def lowLanes (k : Fin 64 → EReal) (d : Fin 128) : EReal := if h : d.val < 64 then k ⟨d.val, h⟩ else 0

/-- 128 lanes whose first half is zero, against a row of 64. -/
def highLanes (k : Fin 64 → EReal) (d : Fin 128) : EReal := if h : d.val < 64 then 0 else k ⟨d.val - 64, by omega⟩

theorem sum_lowLanes (q : Fin 128 → EReal) (k : Fin 64 → EReal) :
    ∑ d, q d * lowLanes k d = ∑ d : Fin 64, q ⟨d.val, by omega⟩ * k d := by
  rw [sum_halves]
  refine (congrArg₂ (· + ·) (Finset.sum_congr rfl fun d _ => ?_) (Finset.sum_eq_zero fun d _ => ?_)).trans (add_zero _)
  · unfold lowLanes; rw [dif_pos d.isLt]
  · unfold lowLanes; rw [dif_neg (by simp), mul_zero]

theorem sum_highLanes (q : Fin 128 → EReal) (k : Fin 64 → EReal) :
    ∑ d, q d * highLanes k d = ∑ d : Fin 64, q ⟨64 + d.val, by omega⟩ * k d := by
  rw [sum_halves]
  refine (congrArg₂ (· + ·) (Finset.sum_eq_zero fun d _ => ?_) (Finset.sum_congr rfl fun d _ => ?_)).trans (zero_add _)
  · unfold highLanes; rw [dif_pos d.isLt, mul_zero]
  · unfold highLanes; rw [dif_neg (by simp)]
    exact congrArg (_ * k ·) (Fin.ext (by simp))

theorem rowMax_apply (l : FVec Ideal S128x384 .f32) (s : Ideal .f32) (r : Fin 128) :
    rowMax l s (ix2 r 0) = top (fun x => l (ix2 r x)) s := by
  pointwise [rowMax]
  unfold top
  rw [show Ideal.ofBits .f32 4286578688#32 = ⊥ by simp [Ideal.ofBits, Ideal.ieee]]

theorem weights_apply (l : FVec Ideal S128x384 .f32) (s : Ideal .f32) (r : Fin 128) (x : Fin 384) :
    weights l s (ix2 r x) = wt (fun x => l (ix2 r x)) s x := by
  pointwise [weights]
  rw [rowMax_apply]; rfl

theorem recip_apply (l : FVec Ideal S128x384 .f32) (s : Ideal .f32) (r c : Fin 128) :
    recip l s (ix2 r c) = Ideal.div 1 (total (fun x => l (ix2 r x)) s) := by
  pointwise [recip, denom]
  unfold total
  rw [rowMax_apply]
  simp only [weights_apply]

/-- A pair of heads at a lane: the first head's mean in the first 64 lanes, the second's in the last. -/
theorem headPair_apply (l : FVec Ideal S128x384 .f32) (s : Ideal .f32) (v : Vec Ideal S1x384x128 .bf16)
    (l' : FVec Ideal S128x384 .f32) (s' : Ideal .f32) (v' : Vec Ideal S1x384x128 .bf16) (V : Fin 384 → Fin 64 → EReal)
    (hv : ∀ x c, v (ix3 0 x c) = lowLanes (V x) c) (hv' : ∀ x c, v' (ix3 0 x c) = highLanes (V x) c) (r c : Fin 128) :
    headPair l s v l' s' v' (ix2 r c)
      = if h : c.val < 64 then headAt (fun x => l (ix2 r x)) s (fun x => V x ⟨c.val, h⟩)
        else headAt (fun x => l' (ix2 r x)) s' (fun x => V x ⟨c.val - 64, by omega⟩) := by
  have hc : (IntOp.cmpi CmpIPredicate.slt (BitVec.ofNat 32 c.val) 64#32) = if c.val < 64 then 1#1 else 0#1 := by
    revert c; decide +kernel
  pointwise [headPair, mixV, k0_pay62]
  rw [hc]
  simp only [hv, hv', weights_apply, recip_apply]
  by_cases h : c.val < 64
  · rw [if_pos h, dif_pos h]
    simp only [lowLanes, highLanes, dif_pos h, mul_zero, Finset.sum_const_zero, add_zero]
    rfl
  · rw [if_neg h, dif_neg h]
    simp only [lowLanes, highLanes, dif_neg h, mul_zero, Finset.sum_const_zero, zero_add]
    rfl

theorem upper_apply (a b : Vec Ideal S1x128x128 .bf16) (k : Vec Ideal S1x384x128 .bf16) (p : Vec Ideal S1x128x384 .f32)
    (r : Fin 128) (x : Fin 384) :
    upper (scores (pairQ a b) k) p (ix2 r x) = ∑ d, a (ix3 0 r d) * k (ix3 0 x d) + p (ix3 0 r x) := by
  pointwise [upper, scores, pairQ]

theorem lower_apply (a b : Vec Ideal S1x128x128 .bf16) (k : Vec Ideal S1x384x128 .bf16) (p : Vec Ideal S1x128x384 .f32)
    (r : Fin 128) (x : Fin 384) :
    lower (scores (pairQ a b) k) p (ix2 r x) = ∑ d, b (ix3 0 r d) * k (ix3 0 x d) + p (ix3 0 r x) := by
  pointwise [lower, scores, pairQ]

/-- The scores of head `h` of a query against the 384 keys in view. -/
def scoreRow (Q : Fin 8 → Fin 64 → EReal) (K : Fin 2 → Fin 384 → Fin 64 → EReal) (B : Fin 8 → Fin 384 → EReal)
    (P : Fin 384 → EReal) (h : Fin 8) (x : Fin 384) : EReal :=
  (∑ d, Q h d * K ⟨h.val / 4, by omega⟩ x d + B h x) + P x

/-- The eight heads' means side by side. -/
def headsRow (Q : Fin 8 → Fin 64 → EReal) (K V : Fin 2 → Fin 384 → Fin 64 → EReal) (B : Fin 8 → Fin 384 → EReal)
    (P : Fin 384 → EReal) (S : Fin 8 → EReal) (c : Fin 512) : EReal :=
  headAt (scoreRow Q K B P ⟨c.val / 64, by omega⟩) (S ⟨c.val / 64, by omega⟩)
    (fun x => V ⟨c.val / 256, by omega⟩ x ⟨c.val % 64, by omega⟩)

theorem rowsOf_apply (o0 o1 o2 o3 : FVec Ideal S128x128 .f32) (r : Fin 128) (o : Fin 512 → EReal)
    (h0 : ∀ c : Fin 128, o0 (ix2 r c) = o ⟨c.val, by omega⟩) (h1 : ∀ c : Fin 128, o1 (ix2 r c) = o ⟨128 + c.val, by omega⟩)
    (h2 : ∀ c : Fin 128, o2 (ix2 r c) = o ⟨256 + c.val, by omega⟩)
    (h3 : ∀ c : Fin 128, o3 (ix2 r c) = o ⟨384 + c.val, by omega⟩) (c : Fin 512) :
    rowsOf o0 o1 o2 o3 (ix2 r c) = o c := by
  have e : rowsOf o0 o1 o2 o3 (ix2 r c) = if h : c.val < 128 then o0 (ix2 r ⟨c.val, h⟩)
      else if h : c.val - 128 < 128 then o1 (ix2 r ⟨c.val - 128, h⟩)
      else if h : c.val - 128 - 128 < 128 then o2 (ix2 r ⟨c.val - 128 - 128, h⟩)
      else o3 (ix2 r ⟨c.val - 128 - 128 - 128, by omega⟩) := by pointwise [rowsOf]
  rw [e]
  split_ifs
  · rw [h0]
  · rw [h1]; exact congrArg o (Fin.ext (by dsimp only; omega))
  · rw [h2]; exact congrArg o (Fin.ext (by dsimp only; omega))
  · rw [h3]; exact congrArg o (Fin.ext (by dsimp only; omega))

/-- One pair of heads, heads `2p` and `2p + 1`, is the corresponding stretch of `headsRow`. -/
theorem pair_heads (Q : Fin 8 → Fin 64 → EReal) (K V : Fin 2 → Fin 384 → Fin 64 → EReal) (B : Fin 8 → Fin 384 → EReal)
    (P : Fin 384 → EReal) (S : Fin 8 → EReal) (p : Fin 4) (r : Fin 128)
    (l l' : FVec Ideal S128x384 .f32) (v v' : Vec Ideal S1x384x128 .bf16)
    (hl : ∀ x, l (ix2 r x) = scoreRow Q K B P ⟨2 * p.val, by omega⟩ x)
    (hl' : ∀ x, l' (ix2 r x) = scoreRow Q K B P ⟨2 * p.val + 1, by omega⟩ x)
    (hv : ∀ x c, v (ix3 0 x c) = lowLanes (V ⟨p.val / 2, by omega⟩ x) c)
    (hv' : ∀ x c, v' (ix3 0 x c) = highLanes (V ⟨p.val / 2, by omega⟩ x) c) (c : Fin 128) :
    headPair l (S ⟨2 * p.val, by omega⟩) v l' (S ⟨2 * p.val + 1, by omega⟩) v' (ix2 r c)
      = headsRow Q K V B P S ⟨128 * p.val + c.val, by omega⟩ := by
  rw [headPair_apply _ _ _ _ _ _ (V ⟨p.val / 2, by omega⟩) hv hv']
  unfold headsRow
  have e2 : (⟨(128 * p.val + c.val) / 256, by omega⟩ : Fin 2) = ⟨p.val / 2, by omega⟩ := Fin.ext (by dsimp only; omega)
  split_ifs with h
  · have e1 : (⟨(128 * p.val + c.val) / 64, by omega⟩ : Fin 8) = ⟨2 * p.val, by omega⟩ := Fin.ext (by dsimp only; omega)
    have e3 : (⟨(128 * p.val + c.val) % 64, by omega⟩ : Fin 64) = ⟨c.val, h⟩ := Fin.ext (by dsimp only; omega)
    rw [funext hl]; dsimp only; rw [e1, e2, e3]
  · have e1 : (⟨(128 * p.val + c.val) / 64, by omega⟩ : Fin 8) = ⟨2 * p.val + 1, by omega⟩ :=
      Fin.ext (by dsimp only; omega)
    have e3 : (⟨(128 * p.val + c.val) % 64, by omega⟩ : Fin 64) = ⟨c.val - 64, by omega⟩ := Fin.ext (by dsimp only; omega)
    rw [funext hl']; dsimp only; rw [e1, e2, e3]

/-- A row of a block of queries. -/
theorem block_apply (pen : FVec Ideal S128x384 .f32 → FVec Ideal S128x384 .f32) (q0 q1 q2 q3 : Vec Ideal S1x128x128 .bf16)
    (k0 k1 k2 k3 v0 v1 v2 v3 : Vec Ideal S1x384x128 .bf16) (b0 b1 b2 b3 b4 b5 b6 b7 : Vec Ideal S1x128x384 .f32)
    (gain : Vec Ideal S1x512 .f32)
    (Q : Fin 8 → Fin 64 → EReal) (K V : Fin 2 → Fin 384 → Fin 64 → EReal) (B : Fin 8 → Fin 384 → EReal)
    (P : Fin 384 → EReal) (S : Fin 8 → EReal) (r : Fin 128)
    (hq0 : ∀ d : Fin 128, q0 (ix3 0 r d) = Q ⟨d.val / 64, by omega⟩ ⟨d.val % 64, by omega⟩)
    (hq1 : ∀ d : Fin 128, q1 (ix3 0 r d) = Q ⟨2 + d.val / 64, by omega⟩ ⟨d.val % 64, by omega⟩)
    (hq2 : ∀ d : Fin 128, q2 (ix3 0 r d) = Q ⟨4 + d.val / 64, by omega⟩ ⟨d.val % 64, by omega⟩)
    (hq3 : ∀ d : Fin 128, q3 (ix3 0 r d) = Q ⟨6 + d.val / 64, by omega⟩ ⟨d.val % 64, by omega⟩)
    (hk0 : ∀ x c, k0 (ix3 0 x c) = lowLanes (K 0 x) c) (hk1 : ∀ x c, k1 (ix3 0 x c) = highLanes (K 0 x) c)
    (hk2 : ∀ x c, k2 (ix3 0 x c) = lowLanes (K 1 x) c) (hk3 : ∀ x c, k3 (ix3 0 x c) = highLanes (K 1 x) c)
    (hv0 : ∀ x c, v0 (ix3 0 x c) = lowLanes (V 0 x) c) (hv1 : ∀ x c, v1 (ix3 0 x c) = highLanes (V 0 x) c)
    (hv2 : ∀ x c, v2 (ix3 0 x c) = lowLanes (V 1 x) c) (hv3 : ∀ x c, v3 (ix3 0 x c) = highLanes (V 1 x) c)
    (hb0 : ∀ x, b0 (ix3 0 r x) = B 0 x) (hb1 : ∀ x, b1 (ix3 0 r x) = B 1 x) (hb2 : ∀ x, b2 (ix3 0 r x) = B 2 x)
    (hb3 : ∀ x, b3 (ix3 0 r x) = B 3 x) (hb4 : ∀ x, b4 (ix3 0 r x) = B 4 x) (hb5 : ∀ x, b5 (ix3 0 r x) = B 5 x)
    (hb6 : ∀ x, b6 (ix3 0 r x) = B 6 x) (hb7 : ∀ x, b7 (ix3 0 r x) = B 7 x)
    (hpen : ∀ l x, pen l (ix2 r x) = l (ix2 r x) + P x) (c : Fin 512) :
    block pen q0 q1 q2 q3 k0 k1 k2 k3 v0 v1 v2 v3 b0 b1 b2 b3 b4 b5 b6 b7 (S 0) (S 1) (S 2) (S 3) (S 4) (S 5) (S 6) (S 7)
      gain (ix3 0 r c) = normRow (headsRow Q K V B P S) (gain (ix2 0 c)) c := by
  have lo : ∀ (h : Fin 8) (q : Vec Ideal S1x128x128 .bf16) (k : Vec Ideal S1x384x128 .bf16)
      (hq : ∀ d : Fin 128, q (ix3 0 r d) = Q ⟨(2 * (h.val / 2) + d.val / 64), by omega⟩ ⟨d.val % 64, by omega⟩)
      (hk : ∀ x c, k (ix3 0 x c) = lowLanes (K ⟨h.val / 4, by omega⟩ x) c) (hh : h.val % 2 = 0) (x : Fin 384),
      ∑ d, q (ix3 0 r d) * k (ix3 0 x d) = ∑ d, Q h d * K ⟨h.val / 4, by omega⟩ x d := by
    intro h q k hq hk hh x
    simp only [hk]
    rw [sum_lowLanes]
    refine Finset.sum_congr rfl fun d _ => ?_
    rw [hq]
    exact congrArg₂ (fun a b => Q a b * _) (Fin.ext (by dsimp only; omega)) (Fin.ext (by dsimp only; omega))
  have hi : ∀ (h : Fin 8) (q : Vec Ideal S1x128x128 .bf16) (k : Vec Ideal S1x384x128 .bf16)
      (hq : ∀ d : Fin 128, q (ix3 0 r d) = Q ⟨(2 * (h.val / 2) + d.val / 64), by omega⟩ ⟨d.val % 64, by omega⟩)
      (hk : ∀ x c, k (ix3 0 x c) = highLanes (K ⟨h.val / 4, by omega⟩ x) c) (hh : h.val % 2 = 1) (x : Fin 384),
      ∑ d, q (ix3 0 r d) * k (ix3 0 x d) = ∑ d, Q h d * K ⟨h.val / 4, by omega⟩ x d := by
    intro h q k hq hk hh x
    simp only [hk]
    rw [sum_highLanes]
    refine Finset.sum_congr rfl fun d _ => ?_
    rw [hq]
    exact congrArg₂ (fun a b => Q a b * _) (Fin.ext (by dsimp only; omega)) (Fin.ext (by dsimp only; omega))
  have hq0' : ∀ d : Fin 128, q0 (ix3 0 r d) = Q ⟨0 + d.val / 64, by omega⟩ ⟨d.val % 64, by omega⟩ := fun d => by
    rw [hq0]; exact congrArg (Q · _) (Fin.ext (Nat.zero_add _).symm)
  have hrow : ∀ c, rowsOf
      (headPair (pen (upper (scores (pairQ q0 q1) k0) b0)) (S 0) v0 (pen (upper (scores (pairQ q0 q1) k1) b1)) (S 1) v1)
      (headPair (pen (lower (scores (pairQ q0 q1) k0) b2)) (S 2) v0 (pen (lower (scores (pairQ q0 q1) k1) b3)) (S 3) v1)
      (headPair (pen (upper (scores (pairQ q2 q3) k2) b4)) (S 4) v2 (pen (upper (scores (pairQ q2 q3) k3) b5)) (S 5) v3)
      (headPair (pen (lower (scores (pairQ q2 q3) k2) b6)) (S 6) v2 (pen (lower (scores (pairQ q2 q3) k3) b7)) (S 7) v3)
      (ix2 r c) = headsRow Q K V B P S c := by
    refine rowsOf_apply _ _ _ _ r _ (fun c => ?_) (fun c => ?_) (fun c => ?_) (fun c => ?_)
    · refine (pair_heads Q K V B P S 0 r _ _ _ _ (fun x => ?_) (fun x => ?_) hv0 hv1 c).trans
        (congrArg _ (Fin.ext (Nat.zero_add _)))
      · rw [hpen, upper_apply, hb0]; exact congrArg (· + _ + _) (lo 0 q0 k0 hq0' hk0 rfl x)
      · rw [hpen, upper_apply, hb1]; exact congrArg (· + _ + _) (hi 1 q0 k1 hq0' hk1 rfl x)
    · refine pair_heads Q K V B P S 1 r _ _ _ _ (fun x => ?_) (fun x => ?_) hv0 hv1 c
      · rw [hpen, lower_apply, hb2]; exact congrArg (· + _ + _) (lo 2 q1 k0 hq1 hk0 rfl x)
      · rw [hpen, lower_apply, hb3]; exact congrArg (· + _ + _) (hi 3 q1 k1 hq1 hk1 rfl x)
    · refine pair_heads Q K V B P S 2 r _ _ _ _ (fun x => ?_) (fun x => ?_) hv2 hv3 c
      · rw [hpen, upper_apply, hb4]; exact congrArg (· + _ + _) (lo 4 q2 k2 hq2 hk2 rfl x)
      · rw [hpen, upper_apply, hb5]; exact congrArg (· + _ + _) (hi 5 q2 k3 hq2 hk3 rfl x)
    · refine pair_heads Q K V B P S 3 r _ _ _ _ (fun x => ?_) (fun x => ?_) hv2 hv3 c
      · rw [hpen, lower_apply, hb6]; exact congrArg (· + _ + _) (lo 6 q3 k2 hq3 hk2 rfl x)
      · rw [hpen, lower_apply, hb7]; exact congrArg (· + _ + _) (hi 7 q3 k3 hq3 hk3 rfl x)
  unfold block
  pointwise [normed]
  simp only [hrow]
  rfl

end Cert.AttnIdeal.Hand
end
-- ==== Proof.AttnSlots.lean ====
/-
  The attention call's working copies of the keys and of the values: four slots of 768 rows, each row the 64 lanes of one of
  the two key heads in the first or the last half of 128 lanes, zero in the other half.
-/
module
public import proofs.«01_k».proof.Proof.AttnBlock
public import proofs.«01_k».proof.Proof.Gen.AttnIdeal.Frame
public import Idealize.ShloMosaic.Lib.Pipeline.ValueKit
@[expose] public section
set_option maxRecDepth 16384
open Idealize.ShloMosaic Idealize.ShloMosaic.TcCoe
noncomputable section
namespace Cert.AttnIdeal.Hand
open Cert.AttnIdeal Cert.AttnIdeal.Gen Cert.Rows

theorem forall_fin3 {p : Fin 3 → Prop} : (∀ a, p a) ↔ p 0 ∧ p 1 ∧ p 2 :=
  ⟨fun h => ⟨h 0, h 1, h 2⟩, fun h a => by fin_cases a <;> [exact h.1; exact h.2.1; exact h.2.2]⟩

theorem blk3 {n d : ℕ} (x : (⟨3, ![1, n, d]⟩ : Shape).Idx) :
    ∃ (m : Fin n) (c : Fin d), x = ix3 0 m c ∧ (x 1).val = m.val ∧ (x 2).val = c.val := by
  refine ⟨x 1, x 2, ?_, rfl, rfl⟩
  funext a; fin_cases a
  · exact Subsingleton.elim (α := Fin 1) _ _
  · rfl
  · rfl

/-- The 768 rows of keys and values in view of a grid point: 128 before its own, its own 512, 128 after. -/
def seen (x2 : Vec Ideal S1x128x256 .bf16) (x3 : Vec Ideal S1x512x256 .bf16) (x4 : Vec Ideal S1x128x256 .bf16)
    (n : Fin 768) (c : Fin 256) : EReal :=
  if h : n.val < 128 then x2 (ix3 0 ⟨n.val, h⟩ c) else if h : n.val - 128 < 512 then x3 (ix3 0 ⟨n.val - 128, h⟩ c)
    else x4 (ix3 0 ⟨n.val - 640, by omega⟩ c)

/-- What row `n` of slot `s` holds at lane `d`, of the lanes from `128 o` on. -/
def slotAt (o : Fin 2) (x2 : Vec Ideal S1x128x256 .bf16) (x3 : Vec Ideal S1x512x256 .bf16)
    (x4 : Vec Ideal S1x128x256 .bf16) (s : Fin 4) (n : Fin 768) (d : Fin 128) : EReal :=
  if s.val % 2 = 0 then lowLanes (fun e => seen x2 x3 x4 n ⟨128 * o.val + 64 * (s.val / 2) + e.val, by omega⟩) d
    else highLanes (fun e => seen x2 x3 x4 n ⟨128 * o.val + 64 * (s.val / 2) + e.val, by omega⟩) d

theorem seen_before (x2 : Vec Ideal S1x128x256 .bf16) (x3 : Vec Ideal S1x512x256 .bf16) (x4 : Vec Ideal S1x128x256 .bf16)
    (n : Fin 768) (m : Fin 128) (c c' : Fin 256) (h : n.val = m.val) (hc : c'.val = c.val) :
    x2 (ix3 0 m c') = seen x2 x3 x4 n c := by
  obtain rfl : c' = c := Fin.ext hc
  unfold seen; rw [dif_pos (by omega)]; exact congrArg (fun a => x2 (ix3 0 a c')) (Fin.ext h.symm)

theorem seen_own (x2 : Vec Ideal S1x128x256 .bf16) (x3 : Vec Ideal S1x512x256 .bf16) (x4 : Vec Ideal S1x128x256 .bf16)
    (n : Fin 768) (m : Fin 512) (c c' : Fin 256) (h : n.val = 128 + m.val) (hc : c'.val = c.val) :
    x3 (ix3 0 m c') = seen x2 x3 x4 n c := by
  obtain rfl : c' = c := Fin.ext hc
  unfold seen; rw [dif_neg (by omega), dif_pos (by omega)]
  exact congrArg (fun a => x3 (ix3 0 a c')) (Fin.ext (by dsimp only; omega))

theorem seen_after (x2 : Vec Ideal S1x128x256 .bf16) (x3 : Vec Ideal S1x512x256 .bf16) (x4 : Vec Ideal S1x128x256 .bf16)
    (n : Fin 768) (m : Fin 128) (c c' : Fin 256) (h : n.val = 640 + m.val) (hc : c'.val = c.val) :
    x4 (ix3 0 m c') = seen x2 x3 x4 n c := by
  obtain rfl : c' = c := Fin.ext hc
  unfold seen; rw [dif_neg (by omega), dif_neg (by omega)]
  exact congrArg (fun a => x4 (ix3 0 a c')) (Fin.ext (by dsimp only; omega))

theorem slot_even (o : Fin 2) (x2 : Vec Ideal S1x128x256 .bf16) (x3 : Vec Ideal S1x512x256 .bf16)
    (x4 : Vec Ideal S1x128x256 .bf16) (s : Fin 4) (n : Fin 768) (d : Fin 128) (a : EReal) (hs : s.val % 2 = 0)
    (h : ∀ hd : d.val < 64, a = seen x2 x3 x4 n ⟨128 * o.val + 64 * (s.val / 2) + d.val, by omega⟩)
    (h' : ¬ d.val < 64 → a = 0) : a = slotAt o x2 x3 x4 s n d := by
  unfold slotAt lowLanes; rw [if_pos hs]
  split_ifs with hd
  · exact h hd
  · exact h' hd

theorem slot_odd (o : Fin 2) (x2 : Vec Ideal S1x128x256 .bf16) (x3 : Vec Ideal S1x512x256 .bf16)
    (x4 : Vec Ideal S1x128x256 .bf16) (s : Fin 4) (n : Fin 768) (d : Fin 128) (a : EReal) (hs : s.val % 2 = 1)
    (h : ∀ hd : ¬ d.val < 64, a = seen x2 x3 x4 n ⟨128 * o.val + 64 * (s.val / 2) + (d.val - 64), by omega⟩)
    (h' : d.val < 64 → a = 0) : a = slotAt o x2 x3 x4 s n d := by
  unfold slotAt highLanes; rw [if_neg (by omega)]
  split_ifs with hd
  · exact h' hd
  · exact h hd

theorem lane_bit (c : Fin 128) :
    (IntOp.cmpi CmpIPredicate.slt (BitVec.ofNat 32 c.val) 64#32) = if c.val < 64 then 1#1 else 0#1 := by
  revert c; decide +kernel

theorem select_lane (c : Fin 128) (a b : EReal) :
    Scalar.select (IntOp.cmpi CmpIPredicate.slt (BitVec.ofNat 32 c.val) 64#32) a b = if c.val < 64 then a else b := by
  rw [lane_bit]; split_ifs <;> rfl

/-- The pieces the keys' working copy is written in. -/
def keyPieces (x2 : Vec Ideal S1x128x256 .bf16) (x3 : Vec Ideal S1x512x256 .bf16) (x4 : Vec Ideal S1x128x256 .bf16) :
    List (View.Piece (Elt Ideal) S4x768x128 .bf16) :=
  [⟨Rect.unit ![3, 640, 0] ![1, 128, 128] inb_S4x768x128_S1x128x128_3_640_0, k0_pay53 x4⟩,
    ⟨Rect.unit ![2, 640, 0] ![1, 128, 128] inb_S4x768x128_S1x128x128_2_640_0, k0_pay52 x4⟩,
    ⟨Rect.unit ![1, 640, 0] ![1, 128, 128] inb_S4x768x128_S1x128x128_1_640_0, k0_pay51 x4⟩,
    ⟨Rect.unit ![0, 640, 0] ![1, 128, 128] inb_S4x768x128_S1x128x128_0_640_0, k0_pay50 x4⟩,
    ⟨Rect.unit ![3, 128, 0] ![1, 512, 128] inb_S4x768x128_S1x512x128_3_128_0, k0_pay38 k0_pay29 k0_pay30 (k0_pay31 x3)⟩,
    ⟨Rect.unit ![2, 128, 0] ![1, 512, 128] inb_S4x768x128_S1x512x128_2_128_0, k0_pay37 k0_pay29 k0_pay30 (k0_pay33 x3)⟩,
    ⟨Rect.unit ![1, 128, 0] ![1, 512, 128] inb_S4x768x128_S1x512x128_1_128_0, k0_pay36 (k0_pay35 x3)⟩,
    ⟨Rect.unit ![0, 128, 0] ![1, 512, 128] inb_S4x768x128_S1x512x128_0_128_0, k0_pay34 x3⟩,
    ⟨Rect.unit ![3, 0, 0] ![1, 128, 128] inb_S4x768x128_S1x128x128_3_0_0, k0_pay21 x2⟩,
    ⟨Rect.unit ![2, 0, 0] ![1, 128, 128] inb_S4x768x128_S1x128x128_2_0_0, k0_pay20 x2⟩,
    ⟨Rect.unit ![1, 0, 0] ![1, 128, 128] inb_S4x768x128_S1x128x128_1_0_0, k0_pay19 x2⟩,
    ⟨Rect.unit ![0, 0, 0] ![1, 128, 128] inb_S4x768x128_S1x128x128_0_0_0, k0_pay18 x2⟩]

/-- The pieces the values' working copy is written in. -/
def valuePieces (x2 : Vec Ideal S1x128x256 .bf16) (x3 : Vec Ideal S1x512x256 .bf16) (x4 : Vec Ideal S1x128x256 .bf16) :
    List (View.Piece (Elt Ideal) S4x768x128 .bf16) :=
  [⟨Rect.unit ![3, 640, 0] ![1, 128, 128] inb_S4x768x128_S1x128x128_3_640_0, k0_pay59 k0_pay45 k0_pay46 (k0_pay48 x4)⟩,
    ⟨Rect.unit ![2, 640, 0] ![1, 128, 128] inb_S4x768x128_S1x128x128_2_640_0, k0_pay58 k0_pay45 k0_pay46 (k0_pay54 x4)⟩,
    ⟨Rect.unit ![1, 640, 0] ![1, 128, 128] inb_S4x768x128_S1x128x128_1_640_0, k0_pay57 (k0_pay56 x4)⟩,
    ⟨Rect.unit ![0, 640, 0] ![1, 128, 128] inb_S4x768x128_S1x128x128_0_640_0, k0_pay55 x4⟩,
    ⟨Rect.unit ![3, 128, 0] ![1, 512, 128] inb_S4x768x128_S1x512x128_3_128_0, k0_pay43 k0_pay29 k0_pay30 (k0_pay32 x3)⟩,
    ⟨Rect.unit ![2, 128, 0] ![1, 512, 128] inb_S4x768x128_S1x512x128_2_128_0, k0_pay42 k0_pay29 k0_pay30 (k0_pay32 x3)⟩,
    ⟨Rect.unit ![1, 128, 0] ![1, 512, 128] inb_S4x768x128_S1x512x128_1_128_0, k0_pay41 k0_pay29 k0_pay30 (k0_pay32 x3)⟩,
    ⟨Rect.unit ![0, 128, 0] ![1, 512, 128] inb_S4x768x128_S1x512x128_0_128_0, k0_pay40 k0_pay29 k0_pay30 (k0_pay32 x3)⟩,
    ⟨Rect.unit ![3, 0, 0] ![1, 128, 128] inb_S4x768x128_S1x128x128_3_0_0, k0_pay27 k0_pay13 k0_pay14 (k0_pay16 x2)⟩,
    ⟨Rect.unit ![2, 0, 0] ![1, 128, 128] inb_S4x768x128_S1x128x128_2_0_0, k0_pay26 k0_pay13 k0_pay14 (k0_pay16 x2) (k0_pay22 x2)⟩,
    ⟨Rect.unit ![1, 0, 0] ![1, 128, 128] inb_S4x768x128_S1x128x128_1_0_0, k0_pay25 k0_pay13 k0_pay14 (k0_pay16 x2) (k0_pay22 x2)⟩,
    ⟨Rect.unit ![0, 0, 0] ![1, 128, 128] inb_S4x768x128_S1x128x128_0_0_0, k0_pay24 k0_pay13 k0_pay14 (k0_pay16 x2)⟩]

variable (x2 : Vec Ideal S1x128x256 .bf16) (x3 : Vec Ideal S1x512x256 .bf16) (x4 : Vec Ideal S1x128x256 .bf16)

theorem keys_cover (y : S4x768x128.Idx) : ∃ p ∈ keyPieces x2 x3 x4, y ∈ p.1.set := by
  have h0 : (y 0).val < 4 := (y 0).isLt
  have h1 : (y 1).val < 768 := (y 1).isLt
  have h2 : (y 2).val < 128 := (y 2).isLt
  simp only [keyPieces, List.mem_cons, exists_eq_or_imp, exists_eq_left, List.mem_singleton, List.not_mem_nil, false_and, exists_false, or_false,
    Rect.mem_set_unit, forall_fin3]
  simp only [Matrix.cons_val_zero, Matrix.cons_val_one, Matrix.cons_val, Nat.zero_add, Nat.zero_le, true_and]
  omega

/-- The working copy of the keys, at an entry. -/
theorem keys_canon (y : S4x768x128.Idx) :
    View.canon (keyPieces x2 x3 x4) y = slotAt 0 x2 x3 x4 (y 0) (y 1) (y 2) := by
  have hc := keys_cover x2 x3 x4 y
  unfold keyPieces at hc ⊢
  canon_tiles x h using hc
  all_goals
    clear hc
    open_payloads
    obtain ⟨m, e, hx, e1, e2⟩ := blk3 x
    rw [e1] at h1; rw [e2] at h2; rw [hx]
    clear e1 e2 hx
    pointwise
    simp only [select_lane]
    first
      | refine slot_even _ x2 x3 x4 _ _ _ _ (by omega) (fun hd => ?_) (fun hd => ?_) <;> rw [h2] at hd
      | refine slot_odd _ x2 x3 x4 _ _ _ _ (by omega) (fun hd => ?_) (fun hd => ?_) <;> rw [h2] at hd
    all_goals simp only [hd, if_true, if_false, dif_pos, dif_neg, not_false_eq_true]
    all_goals first
      | exact seen_before x2 x3 x4 _ _ _ _ h1 (by dsimp only; omega)
      | exact seen_own x2 x3 x4 _ _ _ _ h1 (by dsimp only; omega)
      | exact seen_after x2 x3 x4 _ _ _ _ h1 (by dsimp only; omega)

/-- 384 rows of a slot of the keys' pieces, at an entry. -/
theorem keys_at (s o : ℕ) (inb) (hs : s < 4) (ho : o + 384 ≤ 768) (x : Fin 384) (d : Fin 128) :
    View.canon (keyPieces x2 x3 x4) ((Rect.unit (s := S4x768x128) ![s, o, 0] ![1, 384, 128] inb).idx (ix3 0 x d))
      = slotAt 0 x2 x3 x4 ⟨s, hs⟩ ⟨o + x.val, by omega⟩ d := by
  rw [keys_canon]
  have e0 : (Rect.unit (s := S4x768x128) ![s, o, 0] ![1, 384, 128] inb).idx (ix3 0 x d) 0 = (⟨s, hs⟩ : Fin 4) :=
    Fin.ext (Rect.idx_unit_val _ _ inb _ 0)
  have e1 : (Rect.unit (s := S4x768x128) ![s, o, 0] ![1, 384, 128] inb).idx (ix3 0 x d) 1 = (⟨o + x.val, by omega⟩ : Fin 768) :=
    Fin.ext (Rect.idx_unit_val _ _ inb _ 1)
  have e2 : (Rect.unit (s := S4x768x128) ![s, o, 0] ![1, 384, 128] inb).idx (ix3 0 x d) 2 = d :=
    Fin.ext ((Rect.idx_unit_val _ _ inb _ 2).trans (Nat.zero_add _))
  exact (congrArg₂ (fun a b => slotAt 0 x2 x3 x4 a b _) e0 e1).trans (congrArg _ e2)

/-- 384 rows of a slot of the keys' working copy, at an entry. -/
theorem keys_read (s o : ℕ) (inb) (hs : s < 4) (ho : o + 384 ≤ 768) (x : Fin 384) (d : Fin 128) :
    (View.whole cc0_scratch0).readCov (Val := Elt Ideal) (keyPieces x2 x3 x4)
      (Rect.unit (s := S4x768x128) ![s, o, 0] ![1, 384, 128] inb).toLoadRect (ix3 0 x d)
      = slotAt 0 x2 x3 x4 ⟨s, hs⟩ ⟨o + x.val, by omega⟩ d := by
  rw [View.readCov_eq_canon']
  exact keys_at x2 x3 x4 s o inb hs ho x d

theorem values_cover (y : S4x768x128.Idx) : ∃ p ∈ valuePieces x2 x3 x4, y ∈ p.1.set := by
  have h0 : (y 0).val < 4 := (y 0).isLt
  have h1 : (y 1).val < 768 := (y 1).isLt
  have h2 : (y 2).val < 128 := (y 2).isLt
  simp only [valuePieces, List.mem_cons, exists_eq_or_imp, exists_eq_left, List.mem_singleton, List.not_mem_nil, false_and, exists_false, or_false,
    Rect.mem_set_unit, forall_fin3]
  simp only [Matrix.cons_val_zero, Matrix.cons_val_one, Matrix.cons_val, Nat.zero_add, Nat.zero_le, true_and]
  omega

/-- The working copy of the values, at an entry. -/
theorem values_canon (y : S4x768x128.Idx) :
    View.canon (valuePieces x2 x3 x4) y = slotAt 1 x2 x3 x4 (y 0) (y 1) (y 2) := by
  have hc := values_cover x2 x3 x4 y
  unfold valuePieces at hc ⊢
  canon_tiles x h using hc
  all_goals
    clear hc
    open_payloads
    obtain ⟨m, e, hx, e1, e2⟩ := blk3 x
    rw [e1] at h1; rw [e2] at h2; rw [hx]
    clear e1 e2 hx
    pointwise
    simp only [select_lane]
    first
      | refine slot_even _ x2 x3 x4 _ _ _ _ (by omega) (fun hd => ?_) (fun hd => ?_) <;> rw [h2] at hd
      | refine slot_odd _ x2 x3 x4 _ _ _ _ (by omega) (fun hd => ?_) (fun hd => ?_) <;> rw [h2] at hd
    all_goals simp only [hd, if_true, if_false, dif_pos, dif_neg, not_false_eq_true]
    all_goals first
      | exact seen_before x2 x3 x4 _ _ _ _ h1 (by dsimp only; omega)
      | exact seen_own x2 x3 x4 _ _ _ _ h1 (by dsimp only; omega)
      | exact seen_after x2 x3 x4 _ _ _ _ h1 (by dsimp only; omega)

/-- 384 rows of a slot of the values' pieces, at an entry. -/
theorem values_at (s o : ℕ) (inb) (hs : s < 4) (ho : o + 384 ≤ 768) (x : Fin 384) (d : Fin 128) :
    View.canon (valuePieces x2 x3 x4) ((Rect.unit (s := S4x768x128) ![s, o, 0] ![1, 384, 128] inb).idx (ix3 0 x d))
      = slotAt 1 x2 x3 x4 ⟨s, hs⟩ ⟨o + x.val, by omega⟩ d := by
  rw [values_canon]
  have e0 : (Rect.unit (s := S4x768x128) ![s, o, 0] ![1, 384, 128] inb).idx (ix3 0 x d) 0 = (⟨s, hs⟩ : Fin 4) :=
    Fin.ext (Rect.idx_unit_val _ _ inb _ 0)
  have e1 : (Rect.unit (s := S4x768x128) ![s, o, 0] ![1, 384, 128] inb).idx (ix3 0 x d) 1 = (⟨o + x.val, by omega⟩ : Fin 768) :=
    Fin.ext (Rect.idx_unit_val _ _ inb _ 1)
  have e2 : (Rect.unit (s := S4x768x128) ![s, o, 0] ![1, 384, 128] inb).idx (ix3 0 x d) 2 = d :=
    Fin.ext ((Rect.idx_unit_val _ _ inb _ 2).trans (Nat.zero_add _))
  exact (congrArg₂ (fun a b => slotAt 1 x2 x3 x4 a b _) e0 e1).trans (congrArg _ e2)

/-- 384 rows of a slot of the values' working copy, at an entry. -/
theorem values_read (s o : ℕ) (inb) (hs : s < 4) (ho : o + 384 ≤ 768) (x : Fin 384) (d : Fin 128) :
    (View.whole cc0_scratch1).readCov (Val := Elt Ideal) (valuePieces x2 x3 x4)
      (Rect.unit (s := S4x768x128) ![s, o, 0] ![1, 384, 128] inb).toLoadRect (ix3 0 x d)
      = slotAt 1 x2 x3 x4 ⟨s, hs⟩ ⟨o + x.val, by omega⟩ d := by
  rw [View.readCov_eq_canon']
  exact values_at x2 x3 x4 s o inb hs ho x d

end Cert.AttnIdeal.Hand
end
-- ==== Proof.Words.lean ====
/-
  Positions held in 32-bit words: their difference's absolute value, its comparison with the window, its value as a real.
-/
module
public import Idealize.ShloMosaic.Lib.Pointwise
@[expose] public section
open Idealize.ShloMosaic
noncomputable section
namespace Cert.Rows

/-- The distance between two positions. -/
def gap (a b : ℕ) : ℕ := (a - b) + (b - a)

/-- The absolute difference of two positions' words is the word of their distance. -/
theorem abs_word (a b : ℕ) (ha : a < 2 ^ 30) (hb : b < 2 ^ 30) :
    IntOp.absi (IntOp.subi (BitVec.ofNat 32 a) (BitVec.ofNat 32 b)) = BitVec.ofNat 32 (gap a b) := by
  unfold IntOp.absi IntOp.subi gap
  apply BitVec.eq_of_toNat_eq
  rw [BitVec.msb_eq_decide]
  simp only [decide_eq_true_eq]
  split_ifs with h <;> simp only [BitVec.toNat_sub, BitVec.toNat_neg, BitVec.toNat_ofNat] at h ⊢ <;> omega

/-- A distance's word, converted to a float, is the distance. -/
theorem float_word (g : ℕ) (hg : g < 2 ^ 31) : (FloatOps.sitofp FTy.f32 (BitVec.ofNat 32 g) : Ideal .f32) = ((g : ℝ) : EReal) := by
  have e : (BitVec.ofNat 32 g).toInt = (g : ℤ) := by
    rw [BitVec.toInt_eq_toNat_of_lt (by rw [BitVec.toNat_ofNat]; omega), BitVec.toNat_ofNat]
    exact congrArg _ (Nat.mod_eq_of_lt (by omega))
  show (((BitVec.ofNat 32 g).toInt : ℝ) : EReal) = _
  rw [e]; norm_cast

/-- The comparison of a distance's word with 128. -/
theorem le_word (g : ℕ) (hg : g < 2 ^ 31) :
    IntOp.cmpi CmpIPredicate.sle (BitVec.ofNat 32 g) 128#32 = if g ≤ 128 then 1#1 else 0#1 := by
  have e : (BitVec.ofNat 32 g).toInt = (g : ℤ) := by
    rw [BitVec.toInt_eq_toNat_of_lt (by rw [BitVec.toNat_ofNat]; omega), BitVec.toNat_ofNat]
    exact congrArg _ (Nat.mod_eq_of_lt (by omega))
  show BitVec.ofBool (BitVec.sle _ _) = _
  rw [BitVec.sle_eq_decide, e, show (128#32).toInt = 128 from rfl]
  by_cases h : g ≤ 128
  · rw [if_pos h, decide_eq_true (by exact_mod_cast h)]; rfl
  · rw [if_neg h, decide_eq_false (by intro h'; exact h (by exact_mod_cast h'))]; rfl

/-- Minus a head's slope times a distance, minus infinity beyond a distance of 128. -/
def biasAt (h g : ℕ) : EReal := if g ≤ 128 then ((-(1 / 2) ^ (h + 1) * g : ℝ) : EReal) else ⊥

end Cert.Rows
end
-- ==== Proof.AttnBias.lean ====
/-
  The attention call's bias table, built at the first grid point and kept in scratch: for each head, minus the head's slope
  times the distance between a query and a key of its window, and minus infinity beyond a distance of 128.
-/
module
public import proofs.«01_k».proof.Proof.AttnSlots
public import proofs.«01_k».proof.Proof.Words
@[expose] public section
set_option maxRecDepth 16384
open Idealize.ShloMosaic Idealize.ShloMosaic.TcCoe
noncomputable section
namespace Cert.AttnIdeal.Hand
open Cert.AttnIdeal Cert.AttnIdeal.Gen Cert.Rows

/-- The stand-in for a masked score. -/
theorem named_neg : (Named.named κ "neg" 4048155338#32 : Ideal .f32) = ⊥ :=
  IdealRules.named_const.ideal_named_scalar _ _ _ _ rfl

/-- The distance between query `r` of a block and key `x` of its window, whose positions start 128 before the block's. -/
theorem dist_apply (r : Fin 128) (x : Fin 384) : k0_pay2 (F := Ideal) (ix2 r x) = ((gap x.val (128 + r.val) : ℝ) : EReal) := by
  pointwise [k0_pay2]
  rw [show IntOp.subi (IntOp.subi (BitVec.ofNat 32 x.val) 128#32) (BitVec.ofNat 32 r.val)
      = IntOp.subi (BitVec.ofNat 32 x.val) (BitVec.ofNat 32 (128 + r.val)) by
    unfold IntOp.subi; rw [BitVec.ofNat_add, BitVec.sub_sub],
    abs_word _ _ (by omega) (by omega), float_word _ (by unfold gap; omega)]

/-- One entry of the table. -/
theorem bias_entry (w : BitVec 32) (h g : ℕ) (D : EReal) (hw : Ideal.ofBits .f32 w = ((-(1 / 2) ^ (h + 1) : ℝ) : EReal))
    (hD : D = ((g : ℝ) : EReal)) :
    (if D ≤ Ideal.ofBits .f32 1124073472#32 then Ideal.ofBits .f32 w * D else (Named.named κ "neg" 4048155338#32 : Ideal .f32))
      = biasAt h g := by
  rw [named_neg, hw, hD, show Ideal.ofBits .f32 1124073472#32 = ((128 : ℝ) : EReal) by
    simp [Ideal.ofBits, Ideal.ieee]; rw [← EReal.coe_mul]; norm_num]
  unfold biasAt
  by_cases hg : g ≤ 128
  · rw [if_pos hg, if_pos (by exact_mod_cast hg), ← EReal.coe_mul]
  · rw [if_neg hg, if_neg (by intro h'; exact hg (by exact_mod_cast h'))]

theorem bias0 (r : Fin 128) (x : Fin 384) :
    k0_pay3 (F := Ideal) (ix3 0 r x) = biasAt 0 (gap x.val (128 + r.val)) := by
  pointwise [k0_pay3]
  exact bias_entry _ 0 _ _ (by simp [Ideal.ofBits, Ideal.ieee]; rw [← EReal.coe_mul]; norm_num) (dist_apply r x)

theorem bias1 (r : Fin 128) (x : Fin 384) :
    k0_pay4 (F := Ideal) (ix3 0 r x) = biasAt 1 (gap x.val (128 + r.val)) := by
  pointwise [k0_pay4]
  exact bias_entry _ 1 _ _ (by simp [Ideal.ofBits, Ideal.ieee]; rw [← EReal.coe_mul]; norm_num) (dist_apply r x)

theorem bias2 (r : Fin 128) (x : Fin 384) :
    k0_pay5 (F := Ideal) (ix3 0 r x) = biasAt 2 (gap x.val (128 + r.val)) := by
  pointwise [k0_pay5]
  exact bias_entry _ 2 _ _ (by simp [Ideal.ofBits, Ideal.ieee]; rw [← EReal.coe_mul]; norm_num) (dist_apply r x)

theorem bias3 (r : Fin 128) (x : Fin 384) :
    k0_pay7 (F := Ideal) (k0_pay2 (F := Ideal)) (k0_pay6 (F := Ideal)) (FloatOps.ofBits FTy.f32 3179282432#32) (ix3 0 r x) = biasAt 3 (gap x.val (128 + r.val)) := by
  pointwise [k0_pay7, k0_pay6]
  exact bias_entry _ 3 _ _ (by simp [Ideal.ofBits, Ideal.ieee]; rw [← EReal.coe_mul]; norm_num) (dist_apply r x)

theorem bias4 (r : Fin 128) (x : Fin 384) :
    k0_pay8 (F := Ideal) (k0_pay2 (F := Ideal)) (ix3 0 r x) = biasAt 4 (gap x.val (128 + r.val)) := by
  pointwise [k0_pay8]
  exact bias_entry _ 4 _ _ (by simp [Ideal.ofBits, Ideal.ieee]; rw [← EReal.coe_mul]; norm_num) (dist_apply r x)

theorem bias5 (r : Fin 128) (x : Fin 384) :
    k0_pay9 (F := Ideal) (k0_pay2 (F := Ideal)) (ix3 0 r x) = biasAt 5 (gap x.val (128 + r.val)) := by
  pointwise [k0_pay9]
  exact bias_entry _ 5 _ _ (by simp [Ideal.ofBits, Ideal.ieee]; rw [← EReal.coe_mul]; norm_num) (dist_apply r x)

theorem bias6 (r : Fin 128) (x : Fin 384) :
    k0_pay10 (F := Ideal) (k0_pay2 (F := Ideal)) (ix3 0 r x) = biasAt 6 (gap x.val (128 + r.val)) := by
  pointwise [k0_pay10]
  exact bias_entry _ 6 _ _ (by simp [Ideal.ofBits, Ideal.ieee]; rw [← EReal.coe_mul]; norm_num) (dist_apply r x)

theorem bias7 (r : Fin 128) (x : Fin 384) :
    k0_pay11 (F := Ideal) (k0_pay2 (F := Ideal)) (ix3 0 r x) = biasAt 7 (gap x.val (128 + r.val)) := by
  pointwise [k0_pay11]
  exact bias_entry _ 7 _ _ (by simp [Ideal.ofBits, Ideal.ieee]; rw [← EReal.coe_mul]; norm_num) (dist_apply r x)

/-- The pieces the bias table is written in. -/
def biasPieces : List (View.Piece (Elt Ideal) S8x128x384 .f32) :=
  [⟨Rect.unit ![7, 0, 0] ![1, 128, 384] inb_S8x128x384_S1x128x384_7_0_0,
      k0_pay11 (F := Ideal) (k0_pay2 (F := Ideal))⟩,
    ⟨Rect.unit ![6, 0, 0] ![1, 128, 384] inb_S8x128x384_S1x128x384_6_0_0,
      k0_pay10 (F := Ideal) (k0_pay2 (F := Ideal))⟩,
    ⟨Rect.unit ![5, 0, 0] ![1, 128, 384] inb_S8x128x384_S1x128x384_5_0_0,
      k0_pay9 (F := Ideal) (k0_pay2 (F := Ideal))⟩,
    ⟨Rect.unit ![4, 0, 0] ![1, 128, 384] inb_S8x128x384_S1x128x384_4_0_0,
      k0_pay8 (F := Ideal) (k0_pay2 (F := Ideal))⟩,
    ⟨Rect.unit ![3, 0, 0] ![1, 128, 384] inb_S8x128x384_S1x128x384_3_0_0,
      k0_pay7 (F := Ideal) (k0_pay2 (F := Ideal)) (k0_pay6 (F := Ideal)) (FloatOps.ofBits FTy.f32 3179282432#32)⟩,
    ⟨Rect.unit ![2, 0, 0] ![1, 128, 384] inb_S8x128x384_S1x128x384_2_0_0,
      k0_pay5 (F := Ideal)⟩,
    ⟨Rect.unit ![1, 0, 0] ![1, 128, 384] inb_S8x128x384_S1x128x384_1_0_0,
      k0_pay4 (F := Ideal)⟩,
    ⟨Rect.unit ![0, 0, 0] ![1, 128, 384] inb_S8x128x384_S1x128x384_0_0_0,
      k0_pay3 (F := Ideal)⟩]

/-- What the bias table holds. -/
def biasTable (y : S8x128x384.Idx) : EReal := biasAt (y 0).val (gap (y 2).val (128 + (y 1).val))

theorem bias_canon (y : S8x128x384.Idx) : View.canon biasPieces y = biasTable y := by
  unfold biasPieces biasTable
  canon_tiles x h
  all_goals
    obtain ⟨r, e, hx, e1, e2⟩ := blk3 x
    rw [e1] at h1; rw [e2] at h2; rw [hx, h1, h2]
  case piece0 => exact (bias7 r e).trans (congrArg (biasAt · _) (by omega))
  case piece1 => exact (bias6 r e).trans (congrArg (biasAt · _) (by omega))
  case piece2 => exact (bias5 r e).trans (congrArg (biasAt · _) (by omega))
  case piece3 => exact (bias4 r e).trans (congrArg (biasAt · _) (by omega))
  case piece4 => exact (bias3 r e).trans (congrArg (biasAt · _) (by omega))
  case piece5 => exact (bias2 r e).trans (congrArg (biasAt · _) (by omega))
  case piece6 => exact (bias1 r e).trans (congrArg (biasAt · _) (by omega))
  case piece7 => exact (bias0 r e).trans (congrArg (biasAt · _) (by omega))

/-- One head's slab of a table, at an entry. -/
theorem slab_read (T : Vec Ideal S8x128x384 .f32) (hT : ∀ y, T y = biasTable y) (h : ℕ) (inb) (r : Fin 128) (x : Fin 384) :
    View.ld (Val := Elt Ideal) (e' := .f32) T (Rect.unit (s := S8x128x384) ![h, 0, 0] ![1, 128, 384] inb) (ix3 0 r x)
      = biasAt h (gap x.val (128 + r.val)) := by
  rw [View.ld_apply, hT]
  unfold biasTable
  rw [Rect.idx_unit_val, Rect.idx_unit_val, Rect.idx_unit_val]
  exact congrArg₂ biasAt (Nat.add_zero h) (congrArg₂ (fun a b => gap a (128 + b)) (Nat.zero_add _) (Nat.zero_add _))

theorem slab_canon (h : ℕ) (inb) (r : Fin 128) (x : Fin 384) :
    (View.whole cc0_scratch2).readCov (Val := Elt Ideal) biasPieces
      (Rect.unit (s := S8x128x384) ![h, 0, 0] ![1, 128, 384] inb).toLoadRect (ix3 0 r x)
      = biasAt h (gap x.val (128 + r.val)) := by
  rw [View.readCov_eq_canon']
  exact slab_read _ bias_canon h inb r x

variable (m : (ℓ : Loc nD τ sig) → Buf (Elt Ideal) ℓ)

/-- The table every grid point finds in scratch or builds there. -/
theorem table (c : Dev nD) (n : ℕ) (hn : n < cfg0.N) (y : S8x128x384.Idx) : (outsAt0 m c n hn).2 y = biasTable y := by
  induction n with
  | zero =>
    have e := outsAt0_A m c ⟨0, hn⟩ (Nat.zero_mod 32)
    dsimp only at e
    rw [e]
    frame_out
    exact bias_canon y
  | succ n ih =>
    by_cases h : (n + 1) % 32 = 0
    · have e := outsAt0_A m c ⟨n + 1, hn⟩ h
      dsimp only at e
      rw [e]
      frame_out
      exact bias_canon y
    · have e := outsAt0_B m c ⟨n + 1, hn⟩ h
      dsimp only at e
      rw [e]
      unfold sout0_B_2
      simp only [Nat.add_sub_cancel]
      exact ih _

end Cert.AttnIdeal.Hand
end
-- ==== Proof.AttnTile.lean ====
/-
  The attention call at one grid point: one block of 128 queries, entry by entry.
-/
module
public import proofs.«01_k».proof.Proof.AttnBias
@[expose] public section
set_option maxRecDepth 16384
open Idealize.ShloMosaic Idealize.ShloMosaic.TcCoe
noncomputable section
namespace Cert.AttnIdeal.Hand
open Cert.AttnIdeal Cert.AttnIdeal.Gen Cert.Rows

/-- What masks the keys in view that lie before the first position or after the last: the grid point is the `i`-th of its
    sequence, whose grid points end with the `last`-th, the block of queries the `j`-th of the point. -/
def penalty (last i : ℕ) (j : Fin 4) (x : Fin 384) : EReal :=
  if (i = 0 ∧ j.val = 0 ∧ x.val < 128) ∨ (i = last ∧ j.val = 3 ∧ 256 ≤ x.val) then ⊥ else 0

/-- The entry of query `r` of block `j`, lane `c`. -/
def pointAt (x0 : Vec Ideal S8 .f32) (x1 : Vec Ideal S1x512x512 .bf16) (x2 : Vec Ideal S1x128x256 .bf16)
    (x3 : Vec Ideal S1x512x256 .bf16) (x4 : Vec Ideal S1x128x256 .bf16) (x5 : Vec Ideal S1x512 .f32) (last i : ℕ)
    (j : Fin 4) (r : Fin 128) (c : Fin 512) : EReal :=
  normRow (headsRow (fun h d => x1 (ix3 0 ⟨128 * j.val + r.val, by omega⟩ ⟨64 * h.val + d.val, by omega⟩))
    (fun g x d => seen x2 x3 x4 ⟨128 * j.val + x.val, by omega⟩ ⟨64 * g.val + d.val, by omega⟩)
    (fun g x d => seen x2 x3 x4 ⟨128 * j.val + x.val, by omega⟩ ⟨128 + (64 * g.val + d.val), by omega⟩)
    (fun h x => biasAt h.val (gap x.val (128 + r.val))) (penalty last i j) (fun h => x0 (ix1 h))) (x5 (ix2 0 c)) c

theorem pay60_apply (i : Fin 4) : k0_pay60 (F := Ideal) (BitVec.ofNat 32 i.val) = if i.val = 0 then ⊥ else 0 := by
  unfold k0_pay60
  show Scalar.select (Scalar.cmpi CmpIPredicate.eq (BitVec.ofNat 32 i.val) 0#32) (Named.named κ "neg" 4048155338#32 : Ideal .f32)
    (Ideal.ofBits .f32 0#32) = _
  rw [named_neg]
  fin_cases i <;> simp [Scalar.select, Scalar.cmpi, IntOp.cmpi, Ideal.ofBits, Ideal.ieee]

theorem pay61_apply (i : Fin 4) : k0_pay61 (F := Ideal) (BitVec.ofNat 32 i.val) = if i.val = 3 then ⊥ else 0 := by
  unfold k0_pay61
  show Scalar.select (Scalar.cmpi CmpIPredicate.eq (BitVec.ofNat 32 i.val) 3#32) (Named.named κ "neg" 4048155338#32 : Ideal .f32)
    (Ideal.ofBits .f32 0#32) = _
  rw [named_neg]
  fin_cases i <;> simp [Scalar.select, Scalar.cmpi, IntOp.cmpi, Ideal.ofBits, Ideal.ieee]

theorem penLo_apply (p : Ideal .f32) (last i : ℕ) (hp : p = if i = 0 then ⊥ else 0) (l : FVec Ideal S128x384 .f32) (r : Fin 128) (x : Fin 384) :
    addf l (penLo p) (ix2 r x) = l (ix2 r x) + penalty last i 0 x := by
  have hc : IntOp.cmpi CmpIPredicate.slt (BitVec.ofNat 32 x.val) 128#32 = if x.val < 128 then 1#1 else 0#1 := by
    revert x; decide +kernel
  pointwise [penLo]
  rw [hp, hc]
  unfold penalty
  congr 1
  by_cases h : x.val < 128 <;> by_cases h' : i = 0 <;> simp [h, h', Scalar.select]

theorem penHi_apply (p : Ideal .f32) (last i : ℕ) (hp : p = if i = last then ⊥ else 0) (l : FVec Ideal S128x384 .f32) (r : Fin 128) (x : Fin 384) :
    addf l (penHi p) (ix2 r x) = l (ix2 r x) + penalty last i 3 x := by
  have hc : IntOp.cmpi CmpIPredicate.sge (BitVec.ofNat 32 x.val) 256#32 = if 256 ≤ x.val then 1#1 else 0#1 := by
    revert x; decide +kernel
  pointwise [penHi]
  rw [hp, hc]
  unfold penalty
  congr 1
  by_cases h : 256 ≤ x.val <;> by_cases h' : i = last <;> simp [h, h', Scalar.select]

theorem noPen_apply (last i : ℕ) (j : Fin 4) (hj : j.val = 1 ∨ j.val = 2) (l : FVec Ideal S128x384 .f32) (r : Fin 128) (x : Fin 384) :
    l (ix2 r x) = l (ix2 r x) + penalty last i j x := by
  unfold penalty
  rw [if_neg (by omega), add_zero]

/-- A box of the queries' block, at an entry. -/
theorem query_read (x1 : Vec Ideal S1x512x512 .bf16) (o l : ℕ) (inb) (ho : o + 128 ≤ 512) (hl : l + 128 ≤ 512) (r d : Fin 128) :
    View.ld (Val := Elt Ideal) (e' := .bf16) x1 (Rect.unit (s := S1x512x512) ![0, o, l] ![1, 128, 128] inb) (ix3 0 r d)
      = x1 (ix3 0 ⟨o + r.val, by omega⟩ ⟨l + d.val, by omega⟩) :=
  View.ld_unit_apply_of _ _ _ inb _ _ fun a => by fin_cases a <;> rfl

/-- A sink's score. -/
theorem sink_read (x0 : Vec Ideal S8 .f32) (h : Fin 8) (inb) (i) :
    View.ld (Val := Elt Ideal) (e' := .f32) x0 (Rect.unit (s := S8) ![h.val] ![1] inb) i = x0 (ix1 h) :=
  View.ld_unit_apply_of _ _ _ inb _ _ fun a => by
    fin_cases a
    have : (i 0).val < 1 := (i 0).isLt
    show h.val = h.val + (i 0).val
    omega

variable (x0 : Vec Ideal S8 .f32) (x1 : Vec Ideal S1x512x512 .bf16) (x2 : Vec Ideal S1x128x256 .bf16)
  (x3 : Vec Ideal S1x512x256 .bf16) (x4 : Vec Ideal S1x128x256 .bf16) (x5 : Vec Ideal S1x512 .f32)

/-- A block of 128 queries at an entry, from what its operands hold. -/
theorem tile (last i : ℕ) (j : Fin 4) (r : Fin 128) (c : Fin 512) (pen : FVec Ideal S128x384 .f32 → FVec Ideal S128x384 .f32)
    (q0 q1 q2 q3 : Vec Ideal S1x128x128 .bf16) (k0 k1 k2 k3 v0 v1 v2 v3 : Vec Ideal S1x384x128 .bf16)
    (b0 b1 b2 b3 b4 b5 b6 b7 : Vec Ideal S1x128x384 .f32) (s0 s1 s2 s3 s4 s5 s6 s7 : Ideal .f32)
    (hpen : ∀ l x, pen l (ix2 r x) = l (ix2 r x) + penalty last i j x)
    (hq0 : ∀ d : Fin 128, q0 (ix3 0 r d) = x1 (ix3 0 ⟨128 * j.val + r.val, by omega⟩ ⟨0 + d.val, by omega⟩))
    (hq1 : ∀ d : Fin 128, q1 (ix3 0 r d) = x1 (ix3 0 ⟨128 * j.val + r.val, by omega⟩ ⟨128 + d.val, by omega⟩))
    (hq2 : ∀ d : Fin 128, q2 (ix3 0 r d) = x1 (ix3 0 ⟨128 * j.val + r.val, by omega⟩ ⟨256 + d.val, by omega⟩))
    (hq3 : ∀ d : Fin 128, q3 (ix3 0 r d) = x1 (ix3 0 ⟨128 * j.val + r.val, by omega⟩ ⟨384 + d.val, by omega⟩))
    (hk0 : ∀ x d, k0 (ix3 0 x d) = slotAt 0 x2 x3 x4 0 ⟨128 * j.val + x.val, by omega⟩ d)
    (hk1 : ∀ x d, k1 (ix3 0 x d) = slotAt 0 x2 x3 x4 1 ⟨128 * j.val + x.val, by omega⟩ d)
    (hk2 : ∀ x d, k2 (ix3 0 x d) = slotAt 0 x2 x3 x4 2 ⟨128 * j.val + x.val, by omega⟩ d)
    (hk3 : ∀ x d, k3 (ix3 0 x d) = slotAt 0 x2 x3 x4 3 ⟨128 * j.val + x.val, by omega⟩ d)
    (hv0 : ∀ x d, v0 (ix3 0 x d) = slotAt 1 x2 x3 x4 0 ⟨128 * j.val + x.val, by omega⟩ d)
    (hv1 : ∀ x d, v1 (ix3 0 x d) = slotAt 1 x2 x3 x4 1 ⟨128 * j.val + x.val, by omega⟩ d)
    (hv2 : ∀ x d, v2 (ix3 0 x d) = slotAt 1 x2 x3 x4 2 ⟨128 * j.val + x.val, by omega⟩ d)
    (hv3 : ∀ x d, v3 (ix3 0 x d) = slotAt 1 x2 x3 x4 3 ⟨128 * j.val + x.val, by omega⟩ d)
    (hb0 : ∀ x : Fin 384, b0 (ix3 0 r x) = biasAt 0 (gap x.val (128 + r.val)))
    (hb1 : ∀ x : Fin 384, b1 (ix3 0 r x) = biasAt 1 (gap x.val (128 + r.val)))
    (hb2 : ∀ x : Fin 384, b2 (ix3 0 r x) = biasAt 2 (gap x.val (128 + r.val)))
    (hb3 : ∀ x : Fin 384, b3 (ix3 0 r x) = biasAt 3 (gap x.val (128 + r.val)))
    (hb4 : ∀ x : Fin 384, b4 (ix3 0 r x) = biasAt 4 (gap x.val (128 + r.val)))
    (hb5 : ∀ x : Fin 384, b5 (ix3 0 r x) = biasAt 5 (gap x.val (128 + r.val)))
    (hb6 : ∀ x : Fin 384, b6 (ix3 0 r x) = biasAt 6 (gap x.val (128 + r.val)))
    (hb7 : ∀ x : Fin 384, b7 (ix3 0 r x) = biasAt 7 (gap x.val (128 + r.val)))
    (hs0 : s0 = x0 (ix1 0))
    (hs1 : s1 = x0 (ix1 1))
    (hs2 : s2 = x0 (ix1 2))
    (hs3 : s3 = x0 (ix1 3))
    (hs4 : s4 = x0 (ix1 4))
    (hs5 : s5 = x0 (ix1 5))
    (hs6 : s6 = x0 (ix1 6))
    (hs7 : s7 = x0 (ix1 7)) :
    block pen q0 q1 q2 q3 k0 k1 k2 k3 v0 v1 v2 v3 b0 b1 b2 b3 b4 b5 b6 b7 s0 s1 s2 s3 s4 s5 s6 s7 x5 (ix3 0 r c)
      = pointAt x0 x1 x2 x3 x4 x5 last i j r c := by
  subst hs0 hs1 hs2 hs3 hs4 hs5 hs6 hs7
  unfold pointAt
  have lane : ∀ (h p d : ℕ) (H : h < 8) (P : p < 64) (D : d < 512), d = 64 * h + p →
      x1 (ix3 0 ⟨128 * j.val + r.val, by omega⟩ ⟨d, D⟩) = x1 (ix3 0 ⟨128 * j.val + r.val, by omega⟩ ⟨64 * h + p, by omega⟩) :=
    fun h p d H P D e => congrArg (fun z => x1 (ix3 0 _ z)) (Fin.ext e)
  have slot : ∀ (o : Fin 2) (g : Fin 2) (s : Fin 4) (x : Fin 384) (d : Fin 128), s.val = 2 * g.val →
      slotAt o x2 x3 x4 s ⟨128 * j.val + x.val, by omega⟩ d
        = lowLanes (fun e => seen x2 x3 x4 ⟨128 * j.val + x.val, by omega⟩ ⟨128 * o.val + (64 * g.val + e.val), by omega⟩) d := by
    intro o g s x d e
    unfold slotAt
    rw [if_pos (by omega)]
    exact congrArg (lowLanes · d) (funext fun z => congrArg _ (Fin.ext (by dsimp only; omega)))
  have slot' : ∀ (o : Fin 2) (g : Fin 2) (s : Fin 4) (x : Fin 384) (d : Fin 128), s.val = 2 * g.val + 1 →
      slotAt o x2 x3 x4 s ⟨128 * j.val + x.val, by omega⟩ d
        = highLanes (fun e => seen x2 x3 x4 ⟨128 * j.val + x.val, by omega⟩ ⟨128 * o.val + (64 * g.val + e.val), by omega⟩) d := by
    intro o g s x d e
    unfold slotAt
    rw [if_neg (by omega)]
    exact congrArg (highLanes · d) (funext fun z => congrArg _ (Fin.ext (by dsimp only; omega)))
  have key : ∀ (g : Fin 2) (x : Fin 384) (e : Fin 64),
      seen x2 x3 x4 ⟨128 * j.val + x.val, by omega⟩ ⟨128 * (0 : Fin 2).val + (64 * g.val + e.val), by omega⟩
        = seen x2 x3 x4 ⟨128 * j.val + x.val, by omega⟩ ⟨64 * g.val + e.val, by omega⟩ := fun g x e =>
    congrArg _ (Fin.ext (by show 128 * 0 + (64 * g.val + e.val) = 64 * g.val + e.val; omega))
  refine block_apply pen q0 q1 q2 q3 k0 k1 k2 k3 v0 v1 v2 v3 b0 b1 b2 b3 b4 b5 b6 b7 x5 _ _ _ _ _ (fun h => x0 (ix1 h)) r
    ?_ ?_ ?_ ?_ ?_ ?_ ?_ ?_ ?_ ?_ ?_ ?_ hb0 hb1 hb2 hb3 hb4 hb5 hb6 hb7 hpen c
  · exact fun d => (hq0 d).trans (lane _ _ _ (by omega) (by omega) (by omega) (by dsimp only; omega))
  · exact fun d => (hq1 d).trans (lane _ _ _ (by omega) (by omega) (by omega) (by dsimp only; omega))
  · exact fun d => (hq2 d).trans (lane _ _ _ (by omega) (by omega) (by omega) (by dsimp only; omega))
  · exact fun d => (hq3 d).trans (lane _ _ _ (by omega) (by omega) (by omega) (by dsimp only; omega))
  · exact fun x d => (hk0 x d).trans ((slot 0 0 0 x d rfl).trans (congrArg (lowLanes · d) (funext fun e => key 0 x e)))
  · exact fun x d => (hk1 x d).trans ((slot' 0 0 1 x d rfl).trans (congrArg (highLanes · d) (funext fun e => key 0 x e)))
  · exact fun x d => (hk2 x d).trans ((slot 0 1 2 x d rfl).trans (congrArg (lowLanes · d) (funext fun e => key 1 x e)))
  · exact fun x d => (hk3 x d).trans ((slot' 0 1 3 x d rfl).trans (congrArg (highLanes · d) (funext fun e => key 1 x e)))
  · exact fun x d => (hv0 x d).trans (slot 1 0 0 x d rfl)
  · exact fun x d => (hv1 x d).trans (slot' 1 0 1 x d rfl)
  · exact fun x d => (hv2 x d).trans (slot 1 1 2 x d rfl)
  · exact fun x d => (hv3 x d).trans (slot' 1 1 3 x d rfl)

end Cert.AttnIdeal.Hand
end
-- ==== Proof.Attention.lean ====
/-
  The attention over a sequence: every query against every key within 128 positions of it.
-/
module
public import proofs.«01_k».proof.Proof.AttnRow
public import proofs.«01_k».proof.Proof.Words
@[expose] public section
open Idealize.ShloMosaic
noncomputable section
namespace Cert.Rows

/-- The score of head `h` of a query at position `T` against the key at position `s`: its inner product less the head's
    slope times the distance, minus infinity beyond a distance of 128. Four heads share a key head. -/
def score {n : ℕ} (q : Fin 512 → EReal) (kv : Fin n → Fin 256 → EReal) (T : Fin n) (h : Fin 8) (s : Fin n) : EReal :=
  ∑ d : Fin 64, q ⟨64 * h.val + d.val, by omega⟩ * kv s ⟨64 * (h.val / 4) + d.val, by omega⟩ + biasAt h.val (gap s.val T.val)

/-- The heads' means of the values over all the keys, side by side. -/
def heads {n : ℕ} (sink : Fin 8 → EReal) (q : Fin 512 → EReal) (kv : Fin n → Fin 256 → EReal) (T : Fin n) (c : Fin 512) : EReal :=
  headAt (score q kv T ⟨c.val / 64, by omega⟩) (sink ⟨c.val / 64, by omega⟩)
    (fun s => kv s ⟨128 + (64 * (c.val / 256) + c.val % 64), by omega⟩)

theorem score_far {n : ℕ} (q : Fin 512 → EReal) (kv : Fin n → Fin 256 → EReal) (T : Fin n) (h : Fin 8) (s : Fin n)
    (hg : ¬ gap s.val T.val ≤ 128) : score q kv T h s = ⊥ := by
  unfold score biasAt; rw [if_neg hg, EReal.add_bot]

end Cert.Rows
end
-- ==== Proof.AttnWindow.lean ====
/-
  A block of queries with its window of 384 keys computes the attention over the whole sequence.
-/
module
public import proofs.«01_k».proof.Proof.AttnTile
public import proofs.«01_k».proof.Proof.Attention
@[expose] public section
open Idealize.ShloMosaic
noncomputable section
namespace Cert.Rows

/-- A score by the key's position counted from 128 before the sequence. -/
def scoreFrom {n : ℕ} (q : Fin 512 → EReal) (kv : Fin n → Fin 256 → EReal) (T : Fin n) (h : Fin 8) (p : ℕ) : EReal :=
  if H : 128 ≤ p ∧ p < 128 + n then score q kv T h ⟨p - 128, by omega⟩ else ⊥

open Cert.AttnIdeal.Hand

/-- A row of a block with its window of keys computes the attention over the whole sequence. -/
theorem heads_window {n : ℕ} (last i : ℕ) (hn : n = 512 * (last + 1)) (hi : i ≤ last) (j : Fin 4) (r : Fin 128)
    (T : Fin n) (hT : T.val = 512 * i + (128 * j.val + r.val))
    (q : Fin 512 → EReal) (K V : Fin 2 → Fin 384 → Fin 64 → EReal) (kv : Fin n → Fin 256 → EReal) (sink : Fin 8 → EReal)
    (hK : ∀ (g : Fin 2) (x : Fin 384) (d : Fin 64) (s : Fin n), s.val + 128 = 512 * i + (128 * j.val + x.val) →
      K g x d = kv s ⟨64 * g.val + d.val, by omega⟩)
    (hV : ∀ (g : Fin 2) (x : Fin 384) (d : Fin 64) (s : Fin n), s.val + 128 = 512 * i + (128 * j.val + x.val) →
      V g x d = kv s ⟨128 + (64 * g.val + d.val), by omega⟩) (c : Fin 512) :
    headsRow (fun h d => q ⟨64 * h.val + d.val, by omega⟩) K V (fun h x => biasAt h.val (gap x.val (128 + r.val)))
      (penalty last i j) sink c = heads sink q kv T c := by
  have hs : ∀ (h : Fin 8) (x : Fin 384),
      scoreRow (fun h d => q ⟨64 * h.val + d.val, by omega⟩) K (fun h x => biasAt h.val (gap x.val (128 + r.val)))
        (penalty last i j) h x = scoreFrom q kv T h (512 * i + 128 * j.val + x.val) := by
    intro h x
    unfold scoreRow scoreFrom
    by_cases H : 128 ≤ 512 * i + 128 * j.val + x.val ∧ 512 * i + 128 * j.val + x.val < 128 + n
    · rw [dif_pos H, show penalty last i j x = 0 from if_neg (by omega), add_zero]
      unfold score
      refine congrArg₂ (· + ·) (Finset.sum_congr rfl fun d _ => congrArg (_ * ·) (hK _ x d _ (by dsimp only; omega))) ?_
      exact congrArg (biasAt h.val) (by unfold gap; dsimp only; omega)
    · rw [dif_neg H, show penalty last i j x = ⊥ from if_pos (by omega), EReal.add_bot]
  let W : ℕ → EReal := fun p => if H : 128 ≤ p ∧ p < 128 + n then
    kv ⟨p - 128, by omega⟩ ⟨128 + (64 * (c.val / 256) + c.val % 64), by omega⟩ else 0
  have hL : ∀ p, scoreFrom q kv T ⟨c.val / 64, by omega⟩ p ≠ ⊥ → (512 * i + 128 * j.val ≤ p
      ∧ p < 512 * i + 128 * j.val + 384) ∧ 128 ≤ p ∧ p < 128 + n := by
    intro p hp
    unfold scoreFrom at hp
    by_cases H : 128 ≤ p ∧ p < 128 + n
    · rw [dif_pos H] at hp
      have hg : gap (p - 128) T.val ≤ 128 := by
        by_contra hg
        exact hp (score_far q kv T _ _ hg)
      unfold gap at hg
      omega
    · rw [dif_neg H] at hp; exact absurd rfl hp
  unfold headsRow heads
  refine (headAt_congr (hs _) fun x hx => ?_).trans ((headAt_stretch _ W _ _ 384 128 n hL).trans
    (headAt_congr (fun s => ?_) fun s _ => ?_))
  · obtain ⟨_, H⟩ := hL _ hx
    show _ = if H : _ then _ else _
    rw [dif_pos (by omega)]
    exact hV _ x _ _ (by dsimp only; omega)
  · unfold scoreFrom
    rw [dif_pos (by omega)]
    exact congrArg _ (Fin.ext (by dsimp only; omega))
  · show (if H : _ then _ else _) = _
    rw [dif_pos (by omega)]
    exact congrArg (fun z => kv z _) (Fin.ext (by dsimp only; omega))

end Cert.Rows
end
-- ==== Proof.AttnValue.lean ====
/-
  The attention call's result array: every query's attention over its whole sequence.
-/
module
public import proofs.«01_k».proof.Proof.AttnPoint
public import proofs.«01_k».proof.Proof.AttnWindow
public import proofs.«01_k».proof.Proof.Gen.AttnIdeal.Value
@[expose] public section
set_option maxRecDepth 16384
open Idealize.ShloMosaic Idealize.ShloMosaic.TcCoe
noncomputable section
namespace Cert.AttnIdeal.Hand
open Cert.AttnIdeal Cert.AttnIdeal.Gen Cert.Rows

variable (m : (ℓ : Loc nD τ sig) → Buf (Elt Ideal) ℓ)

/-- The windows' block indices: the grid's point `t` is stretch `t % 4` of sequence `t / 4`; the keys are seen through the
    stretch's own 512 rows and the 128 before and after, at the sequence's ends some 128 rows of it. -/
theorem idx : ∀ t : Fin cfg0.N, win0_0.index t = ![0] ∧ win0_1.index t = ![t.val / 4, t.val % 4, 0]
    ∧ win0_2.index t = ![t.val / 4, 4 * (t.val % 4) - 1, 0] ∧ win0_3.index t = ![t.val / 4, t.val % 4, 0]
    ∧ win0_4.index t = ![t.val / 4, min (4 * (t.val % 4 + 1)) 15, 0] ∧ win0_5.index t = ![0, 0]
    ∧ win0_6.index t = ![t.val / 4, t.val % 4, 0] ∧ (grid0.coords t 1).val = t.val % 4 :=
  (by decide +kernel : ∀ t : Fin grid0.N, _)

/-- The sinks' scores. -/
abbrev sinks (c : Dev nD) : Fin 8 → EReal := fun h => (show FVec Ideal S8 .f32 from m ((c : Thread nD τ).loc main_arg0)) (ix1 h)
/-- The query at a position of a sequence. -/
abbrev query (c : Dev nD) (b : Fin 8) (T : Fin 2048) : Fin 512 → EReal := fun j =>
  (show FVec Ideal S8x2048x512 .bf16 from m ((c : Thread nD τ).loc main_arg1)) (ix3 b T j)
/-- A sequence's keys beside its values. -/
abbrev pairs (c : Dev nD) (b : Fin 8) : Fin 2048 → Fin 256 → EReal := fun s j =>
  (show FVec Ideal S8x2048x256 .bf16 from m ((c : Thread nD τ).loc main_arg2)) (ix3 b s j)
/-- The norm's gain. -/
abbrev gain (c : Dev nD) : Fin 512 → EReal := fun j => (show FVec Ideal S1x512 .f32 from m ((c : Thread nD τ).loc main_arg3)) (ix2 0 j)

theorem iblk0 (c : Dev nD) (t : Fin cfg0.N) (h : Fin 8) :
    (show FVec Ideal S8 .f32 from iblk m c 0 t) (ix1 h) = sinks m c h := by
  blk_ext [iblk, V, idx t]
theorem iblk5 (c : Dev nD) (t : Fin cfg0.N) (j : Fin 512) :
    (show FVec Ideal S1x512 .f32 from iblk m c 5 t) (ix2 0 j) = gain m c j := by
  blk_ext [iblk, V, idx t]
theorem iblk1 (c : Dev nD) (t : Fin cfg0.N) (r : Fin 512) (j : Fin 512) (b : Fin 8) (T : Fin 2048) (hb : b.val = t.val / 4)
    (hT : T.val = t.val % 4 * 512 + r.val) :
    (show FVec Ideal S1x512x512 .bf16 from iblk m c 1 t) (ix3 0 r j) = query m c b T j := by
  blk_ext [iblk, V, idx t, hT, hb]
theorem iblk2 (c : Dev nD) (t : Fin cfg0.N) (r : Fin 128) (j : Fin 256) (b : Fin 8) (s : Fin 2048) (hb : b.val = t.val / 4)
    (hs : s.val = (4 * (t.val % 4) - 1) * 128 + r.val) :
    (show FVec Ideal S1x128x256 .bf16 from iblk m c 2 t) (ix3 0 r j) = pairs m c b s j := by
  blk_ext [iblk, V, idx t, hs, hb]
theorem iblk3 (c : Dev nD) (t : Fin cfg0.N) (r : Fin 512) (j : Fin 256) (b : Fin 8) (s : Fin 2048) (hb : b.val = t.val / 4)
    (hs : s.val = t.val % 4 * 512 + r.val) :
    (show FVec Ideal S1x512x256 .bf16 from iblk m c 3 t) (ix3 0 r j) = pairs m c b s j := by
  blk_ext [iblk, V, idx t, hs, hb]
theorem iblk4 (c : Dev nD) (t : Fin cfg0.N) (r : Fin 128) (j : Fin 256) (b : Fin 8) (s : Fin 2048) (hb : b.val = t.val / 4)
    (hs : s.val = min (4 * (t.val % 4 + 1)) 15 * 128 + r.val) :
    (show FVec Ideal S1x128x256 .bf16 from iblk m c 4 t) (ix3 0 r j) = pairs m c b s j := by
  blk_ext [iblk, V, idx t, hs, hb]

/-- A row in view, where it is a position of the sequence. -/
theorem seen_pairs (c : Dev nD) (t : Fin cfg0.N) (n : Fin 768) (j : Fin 256) (b : Fin 8) (s : Fin 2048) (hb : b.val = t.val / 4)
    (hs : s.val + 128 = 512 * (t.val % 4) + n.val) :
    seen (iblk m c 2 t) (iblk m c 3 t) (iblk m c 4 t) n j = pairs m c b s j := by
  unfold seen
  split_ifs with h h'
  · exact iblk2 m c t _ j b s hb (by dsimp only; omega)
  · exact iblk3 m c t _ j b s hb (by dsimp only; omega)
  · exact iblk4 m c t _ j b s hb (by dsimp only; omega)

/-- The attention call's function: a query's heads over its sequence, divided by their root mean square. -/
def attended (c : Dev nD) (b : Fin 8) (T : Fin 2048) (d : Fin 512) : EReal :=
  normRow (heads (sinks m c) (query m c b T) (pairs m c b) T) (gain m c d) d

theorem left_attended (c : Dev nD) (t : Fin cfg0.N) (R d : Fin 512) (b : Fin 8) (T : Fin 2048) (hb : b.val = t.val / 4)
    (hT : T.val = t.val % 4 * 512 + R.val) : leftAt m c t R d = attended m c b T d := by
  have hi : (grid0.coords t 1).val = t.val % 4 := (idx t).2.2.2.2.2.2.2
  unfold leftAt pointAt attended
  rw [hi]
  refine congrArg₂ (normRow · · d) (funext fun e => ?_) (iblk5 m c t d)
  have H := heads_window 3 (t.val % 4) rfl (by omega) ⟨R.val / 128, by omega⟩ ⟨R.val % 128, by omega⟩ T
    (by dsimp only; omega) (query m c b T)
    (fun g x d => seen (iblk m c 2 t) (iblk m c 3 t) (iblk m c 4 t) ⟨128 * (R.val / 128) + x.val, by omega⟩
      ⟨64 * g.val + d.val, by omega⟩)
    (fun g x d => seen (iblk m c 2 t) (iblk m c 3 t) (iblk m c 4 t) ⟨128 * (R.val / 128) + x.val, by omega⟩
      ⟨128 + (64 * g.val + d.val), by omega⟩)
    (pairs m c b) (sinks m c) (fun g x d s hs => seen_pairs m c t _ _ b s hb hs)
    (fun g x d s hs => seen_pairs m c t _ _ b s hb hs) e
  refine Eq.trans ?_ H
  refine congrArg₂ (fun Q S => headsRow Q _ _ _ _ S e) (funext fun h => funext fun d => ?_) (funext fun h => iblk0 m c t h)
  exact iblk1 m c t _ _ b T hb (by dsimp only; omega)

/-- The result array. -/
theorem final (c : Dev nD) : (dats m 0 c).arrAt 6 (cfgs 0).N =
    fun i : S8x2048x512.Idx => attended m c (i 0) (i 1) (i 2) := by
  refine (dats m 0 c).arrAt_eq_of_covers 6 _ (by decide +kernel) fun t _ y => ?_
  blk_simp
  rw [after0_6]
  have e : ∀ (y : S1x512x512.Idx) (i : S8x2048x512.Idx) (h0 : (i 0).val = t.val / 4) (h1 : (i 1).val = t.val % 4 * 512 + (y 1).val)
      (h2 : (i 2).val = (y 2).val), (outsAt0 m c t t.isLt).1 y = attended m c (i 0) (i 1) (i 2) := by
    intro y i h0 h1 h2
    rw [show i 2 = y 2 from Fin.ext h2]
    refine Eq.trans ?_ (left_attended m c t (y 1) (y 2) (i 0) (i 1) h0 h1)
    by_cases h : t.val % 32 = 0
    · exact left_A m c t h y
    · exact left_B m c t h y
  exact e y _ (by blk_simp [idx t]) (by blk_simp [idx t]) (by blk_simp [idx t])

end Cert.AttnIdeal.Hand
end
-- ==== Proof.RefScore.lean ====
/-
  The attention call, as plain mathematics: the reference's masked scores.
-/
module
public import proofs.«01_k».proof.Proof.Attention
public import proofs.«01_k».proof.Proof.Gen.RefAttnIdeal.Read
@[expose] public section
set_option maxRecDepth 16384
open Idealize.ShloMosaic Idealize.ShloMosaic.TcCoe Idealize.SL.Sem
noncomputable section
namespace Cert.RefAttnIdeal.Hand
open Cert.RefAttnIdeal Cert.RefAttnIdeal.Gen Cert.RefAttnIdeal.Read Cert.Rows

variable (x1 : FVec Ideal S8x2048x512 .bf16) (x2 : FVec Ideal S8x2048x256 .bf16)

theorem lit_two : Ideal.ofBits .f32 1073741824#32 = ((2 : ℝ) : EReal) := by
  simp [Ideal.ofBits, Ideal.ieee]; rw [← EReal.coe_mul]; norm_num
theorem lit_eight : Ideal.ofBits .f32 1090519040#32 = ((8 : ℝ) : EReal) := by
  simp [Ideal.ofBits, Ideal.ieee]; rw [← EReal.coe_mul]; norm_num
theorem lit_minus_eight : Ideal.ofBits .f32 3238002688#32 = ((-8 : ℝ) : EReal) := by
  simp [Ideal.ofBits, Ideal.ieee]; rw [← EReal.coe_mul]; norm_num
theorem lit_bot : Ideal.ofBits .f32 4286578688#32 = ⊥ := by
  simp [Ideal.ofBits, Ideal.ieee]

/-- Two to the power of minus eight eighths of a number is a half to the power of the number. -/
theorem slope_eq (n : ℕ) : Ideal.pow ((2 : ℝ) : EReal) (Ideal.div (((-8 : ℝ) : EReal) * (1 + ((n : ℝ) : EReal))) ((8 : ℝ) : EReal))
    = (((1 / 2) ^ (n + 1) : ℝ) : EReal) := by
  have e : Ideal.div (((-8 : ℝ) : EReal) * (1 + ((n : ℝ) : EReal))) ((8 : ℝ) : EReal) = ((-((n : ℝ) + 1) : ℝ) : EReal) := by
    unfold Ideal.div
    rw [if_neg (by exact_mod_cast (by norm_num : (8 : ℝ) ≠ 0)), ← EReal.coe_inv, ← EReal.coe_one, ← EReal.coe_add, ← EReal.coe_mul,
      ← EReal.coe_mul]
    congr 1; ring
  rw [e]
  show ((Real.rpow 2 _ : ℝ) : EReal) = _
  congr 1
  show (2 : ℝ) ^ (-((n : ℝ) + 1)) = _
  rw [Real.rpow_neg (by norm_num), show ((n : ℝ) + 1) = ((n + 1 : ℕ) : ℝ) by push_cast; rfl, Real.rpow_natCast, one_div, inv_pow]

/-- A head's slope: a half to the power of the head's number, counted from one. -/
theorem v16_apply (h : Fin 8) : val_main_v16 (F := Ideal) (ix1 h) = (((1 / 2) ^ (h.val + 1) : ℝ) : EReal) := by
  pointwise [val_main_v16, val_main_v15, val_main_cst_2, val_main_v14, val_main_v13, val_main_cst_1, val_main_v12,
    val_main_v11, val_main_cst_0, val_main_v10, val_main_v9, val_main_cst, val_main_v8]
  rw [float_word _ (by omega), lit_two, lit_eight, lit_minus_eight]
  exact slope_eq h.val

/-- The distance of two positions, as a word. -/
theorem v21_apply (t s : Fin 2048) : val_main_v21 (F := Ideal) (ix2 t s) = BitVec.ofNat 32 (gap s.val t.val) := by
  pointwise [val_main_v21, val_main_v20, val_main_v19, val_main_v18]
  exact abs_word _ _ (by omega) (by omega)

/-- The inner product of a query with a key. -/
theorem v23_apply (b : Fin 8) (k : Fin 2) (g : Fin 4) (t s : Fin 2048) :
    val_main_v23 (F := Ideal) x1 x2 (ix5 b k g t s) = ∑ d : Fin 64, x1 (ix3 b t ⟨64 * (4 * k.val + g.val) + d.val, by omega⟩)
      * x2 (ix3 b s ⟨64 * ((4 * k.val + g.val) / 4) + d.val, by omega⟩) := by
  pointwise [val_main_v23, val_main_v22, val_main_v4, val_main_v3, val_main_v2, val_main_v1, val_main_v0]
  refine Finset.sum_congr rfl fun d _ => ?_
  rw [mul_comm]
  refine congrArg₂ (· * ·) (congrArg (fun z => x1 (ix3 b t z)) (Fin.ext ?_)) (congrArg (fun z => x2 (ix3 b s z)) (Fin.ext ?_))
  · show k.val * 256 + g.val * 64 + d.val = 64 * (4 * k.val + g.val) + d.val
    omega
  · show k.val * 64 + d.val = 64 * ((4 * k.val + g.val) / 4) + d.val
    omega

theorem gap_lt (s t : Fin 2048) : gap s.val t.val < 2 ^ 31 := by unfold gap; omega

/-- A product less a slope times a distance, minus infinity beyond the window. -/
theorem mask_eq (x : EReal) (h n : ℕ) (hn : n < 2 ^ 31) :
    Scalar.select (IntOp.cmpi CmpIPredicate.sle (BitVec.ofNat 32 n) 128#32)
      (x - (((1 / 2) ^ (h + 1) : ℝ) : EReal) * (FloatOps.sitofp FTy.f32 (BitVec.ofNat 32 n) : Ideal .f32)) (⊥ : EReal)
      = x + biasAt h n := by
  rw [le_word n hn, float_word n hn]
  unfold biasAt
  by_cases hg : n ≤ 128
  · rw [if_pos hg, if_pos hg]
    show x - _ = _
    rw [← EReal.coe_mul, sub_eq_add_neg, ← EReal.coe_neg, neg_mul]
  · rw [if_neg hg, if_neg hg, EReal.add_bot]; rfl

/-- The masked scores. -/
theorem v33_apply (b : Fin 8) (k : Fin 2) (g : Fin 4) (t s : Fin 2048) :
    val_main_v33 (F := Ideal) x1 x2 (ix5 b k g t s) =
      score (fun j => x1 (ix3 b t j)) (fun s j => x2 (ix3 b s j)) t ⟨4 * k.val + g.val, by omega⟩ s := by
  pointwise [val_main_v33, val_main_call0_v1, val_main_v32, val_main_v31, val_main_c, val_main_v30, val_main_v29, val_main_v28,
    val_main_v27, val_main_v26, val_main_v25, val_main_v24, val_main_v17, val_main_call0_v2, val_main_call0_v0, val_main_cst_3,
    v23_apply, v21_apply, v16_apply]
  have hb : (id (constant (F := Ideal) S_ FTy.f32 4286578688#32) ix0 : EReal) = ⊥ := lit_bot
  rw [hb, mul_comm k.val 4]
  exact mask_eq _ (4 * k.val + g.val) _ (gap_lt s t)

end Cert.RefAttnIdeal.Hand
-- ==== Proof.RefAttnValue.lean ====
/-
  The attention call, as plain mathematics: every row of the reference's result is the attention of one query over its sequence.
-/
module
public import proofs.«01_k».proof.Proof.RefScore
@[expose] public section
set_option maxRecDepth 16384
open Idealize.ShloMosaic Idealize.ShloMosaic.TcCoe Idealize.SL.Sem
noncomputable section
namespace Cert.RefAttnIdeal.Hand
open Cert.RefAttnIdeal Cert.RefAttnIdeal.Gen Cert.RefAttnIdeal.Read Cert.Rows

/-- Scores joined with a column, at a position. -/
theorem joined_apply (y : FVec Ideal S8x2x4x2048x2048 .f32) (z : FVec Ideal S8x2x4x2048x1 .f32) (b : Fin 8) (k : Fin 2)
    (g : Fin 4) (t : Fin 2048) (x : Fin 2049) :
    concatenate S8x2x4x2048x2049 4 [⟨S8x2x4x2048x2048, y⟩, ⟨S8x2x4x2048x1, z⟩]
        concatenates_S8x2x4x2048x2048_S8x2x4x2048x1_S8x2x4x2048x2049_d4 (ix5 b k g t x)
      = if h : x.val < 2048 then y (ix5 b k g t ⟨x.val, h⟩) else z (ix5 b k g t 0) := by
  pointwise
  by_cases h : x.val < 2048
  · rw [dif_pos h, dif_pos h]
  · rw [dif_neg h, dif_neg h]
    exact congrArg (fun q => z (ix5 b k g t q)) (Fin.ext (show x.val - 2048 = 0 by omega))

/-- The greatest entry of a joined row. -/
theorem max_apply (y : FVec Ideal S8x2x4x2048x2049 .f32) (b : Fin 8) (k : Fin 2) (g : Fin 4) (t : Fin 2048) :
    Host.reduce (FloatOps.maximumf (φ := .f32) (F := Ideal)) y (val_main_cst_4 (F := Ideal))
        reducesTo_S8x2x4x2048x2049_S8x2x4x2048_d4 h_S_ (ix4 b k g t)
      = Finset.univ.fold max (val_main_cst_4 (F := Ideal) (Shape.Idx.first h_S_)) (fun s : Fin 2049 => y (ix5 b k g t s)) := by
  pointwise

/-- The greatest of a row and one entry more. -/
theorem fold_last {n : ℕ} (f : Fin (n + 1) → EReal) :
    Finset.univ.fold max ⊥ f = max (Finset.univ.fold max ⊥ fun x : Fin n => f x.castSucc) (f (Fin.last n)) := by
  rw [Fin.univ_castSuccEmb, Finset.fold_cons, Finset.fold_map, max_comm]
  rfl

variable (x0 : FVec Ideal S8 .f32) (x1 : FVec Ideal S8x2048x512 .bf16) (x2 : FVec Ideal S8x2048x256 .bf16) (x3 : FVec Ideal S1x512 .f32)

/-- The scores of one head of one query. -/
abbrev scores (b : Fin 8) (k : Fin 2) (g : Fin 4) (t : Fin 2048) : Fin 2048 → EReal :=
  score (fun j => x1 (ix3 b t j)) (fun s j => x2 (ix3 b s j)) t ⟨4 * k.val + g.val, by omega⟩
/-- The head's sink. -/
abbrev sinkAt (k : Fin 2) (g : Fin 4) : EReal := x0 (ix1 ⟨4 * k.val + g.val, by omega⟩)

/-- The sinks' column. -/
theorem v35_apply (b : Fin 8) (k : Fin 2) (g : Fin 4) (t : Fin 2048) :
    val_main_v35 (F := Ideal) x0 (ix5 b k g t 0) = sinkAt x0 k g := by
  pointwise [val_main_v35, val_main_v34]
  exact congrArg (fun z => x0 (ix1 z)) (Fin.ext (show k.val * 4 + g.val = 4 * k.val + g.val by omega))

/-- A joined row's scores. -/
theorem v36_score (b : Fin 8) (k : Fin 2) (g : Fin 4) (t s : Fin 2048) :
    val_main_v36 (F := Ideal) x0 x1 x2 (ix5 b k g t s.castSucc) = scores x1 x2 b k g t s := by
  unfold val_main_v36
  rw [joined_apply, dif_pos (show s.castSucc.val < 2048 from s.isLt)]
  exact v33_apply x1 x2 b k g t s

/-- A joined row's last entry. -/
theorem v36_sink (b : Fin 8) (k : Fin 2) (g : Fin 4) (t : Fin 2048) :
    val_main_v36 (F := Ideal) x0 x1 x2 (ix5 b k g t (Fin.last 2048)) = sinkAt x0 k g := by
  unfold val_main_v36
  rw [joined_apply, dif_neg (show ¬ (Fin.last 2048).val < 2048 from Nat.lt_irrefl 2048)]
  exact v35_apply x0 b k g t

/-- The greatest score, the sink's among them. -/
theorem v39_apply (b : Fin 8) (k : Fin 2) (g : Fin 4) (t : Fin 2048) :
    val_main_v39 (F := Ideal) x0 x1 x2 (ix4 b k g t) = top (scores x1 x2 b k g t) (sinkAt x0 k g) := by
  rw [val_main_v39_apply, val_main_v38_apply, val_main_cst_5_apply]
  unfold val_main_v37
  rw [max_apply, val_main_cst_4_apply]
  show max (Ideal.ofBits .f32 4286578688#32) (Finset.univ.fold max (Ideal.ofBits .f32 4286578688#32) _) = _
  rw [lit_bot, max_eq_right bot_le, fold_last, v36_sink]
  simp only [v36_score]
  rfl

/-- The exponential of a joined row's entry less the greatest. -/
theorem v43_apply (b : Fin 8) (k : Fin 2) (g : Fin 4) (t : Fin 2048) (x : Fin 2049) :
    val_main_v43 (F := Ideal) x0 x1 x2 (ix5 b k g t x)
      = Ideal.exp (val_main_v36 (F := Ideal) x0 x1 x2 (ix5 b k g t x) - top (scores x1 x2 b k g t) (sinkAt x0 k g)) := by
  pointwise [val_main_v43, val_main_v42, val_main_v41, val_main_v40, v39_apply]

/-- The exponentials' total. -/
theorem v44_apply (b : Fin 8) (k : Fin 2) (g : Fin 4) (t : Fin 2048) :
    val_main_v44 (F := Ideal) x0 x1 x2 (ix4 b k g t) = total (scores x1 x2 b k g t) (sinkAt x0 k g) := by
  pointwise [val_main_v44, val_main_cst_6]
  rw [Fin.sum_univ_castSucc]
  simp only [v43_apply, v36_score, v36_sink]
  rfl

/-- The weights: each exponential divided by the total. -/
theorem v48_apply (b : Fin 8) (k : Fin 2) (g : Fin 4) (t s : Fin 2048) :
    val_main_v48 (F := Ideal) x0 x1 x2 (ix5 b k g t s)
      = Ideal.div (wt (scores x1 x2 b k g t) (sinkAt x0 k g) s) (total (scores x1 x2 b k g t) (sinkAt x0 k g)) := by
  rw [← v44_apply]
  unfold wt
  rw [← v36_score x0, ← v43_apply]
  pointwise [val_main_v48, val_main_v47, val_main_v46, val_main_v45]
  rfl

/-- The heads' means of the values. -/
theorem v50_apply (b : Fin 8) (t : Fin 2048) (k : Fin 2) (g : Fin 4) (d : Fin 64) :
    val_main_v50 (F := Ideal) x0 x1 x2 (ix5 b t k g d)
      = headRef (scores x1 x2 b k g t) (sinkAt x0 k g) (fun s => x2 (ix3 b s ⟨128 + (64 * k.val + d.val), by omega⟩)) := by
  pointwise [val_main_v50, val_main_v49, val_main_v7, val_main_v6, val_main_v5, v48_apply]
  simp only [mul_comm k.val 64]
  rfl

/-- The heads side by side. -/
theorem v51_apply (b : Fin 8) (t : Fin 2048) (c : Fin 512) :
    val_main_v51 (F := Ideal) x0 x1 x2 (ix3 b t c)
      = headRef (score (fun j => x1 (ix3 b t j)) (fun s j => x2 (ix3 b s j)) t ⟨c.val / 64, by omega⟩) (x0 (ix1 ⟨c.val / 64, by omega⟩))
          (fun s => x2 (ix3 b s ⟨128 + (64 * (c.val / 256) + c.val % 64), by omega⟩)) := by
  pointwise [val_main_v51, v50_apply]
  have e : (⟨4 * (c.val / 256) + c.val / 64 % 4, by omega⟩ : Fin 8) = ⟨c.val / 64, by omega⟩ :=
    Fin.ext (show 4 * (c.val / 256) + c.val / 64 % 4 = c.val / 64 by omega)
  exact congrArg (fun h : Fin 8 => headRef (score (fun j => x1 (ix3 b t j)) (fun s j => x2 (ix3 b s j)) t h) (x0 (ix1 h))
    fun s => x2 (ix3 b s ⟨128 + (64 * (c.val / 256) + c.val % 64), by omega⟩)) e

/-- The reference's result, row by row. -/
theorem v65_apply (b : Fin 8) (t : Fin 2048) (c : Fin 512) :
    val_main_v65 (F := Ideal) x0 x1 x2 x3 (ix3 b t c)
      = normRow (fun c => val_main_v51 (F := Ideal) x0 x1 x2 (ix3 b t c)) (x3 (ix2 0 c)) c := by
  pointwise [val_main_v65, val_main_v64, val_main_v63, val_main_v62, val_main_v61, val_main_v60, val_main_v59, val_main_v58,
    val_main_v57, val_main_cst_9, val_main_v56, val_main_v55, val_main_cst_8, val_main_v54, val_main_v53, val_main_cst_7,
    val_main_v52]
  rfl

end Cert.RefAttnIdeal.Hand
-- ==== Proof.AttnClaim.lean ====
/-
  The attention call computes its reference's result, over the extended reals, where the sinks, the queries and the keys are
  finite.
-/
module
public import proofs.«01_k».proof.Defs
public import proofs.«01_k».proof.Proof.AttnValue
public import proofs.«01_k».proof.Proof.RefAttnValue
public import proofs.«01_k».proof.Proof.Gen.RefAttnIdeal.Run
public import proofs.«01_k».proof.Proof.Gen.Pre_finite
public import Idealize.ShloMosaic.Lib.ReduceAll
@[expose] public section
set_option maxRecDepth 16384
open Idealize.ShloMosaic Idealize.ShloMosaic.TcCoe Idealize.SL.Sem
noncomputable section
namespace Cert.AttnClaim
open Cert.Rows Cert.AttnIdeal.Hand

theorem lit_top : Ideal.ofBits .f32 2139095040#32 = ⊤ := by
  simp [Ideal.ofBits, Ideal.ieee]

/-- A number whose absolute value is below plus infinity is real. -/
theorem real_of_lt (x : EReal) (h : BitVec.ofBool (decide (max x (-x) < Ideal.ofBits .f32 2139095040#32)) = 1#1) :
    ∃ r : ℝ, x = r := by
  rw [lit_top] at h
  have h' : max x (-x) < ⊤ := by
    by_contra hc
    rw [decide_eq_false hc] at h
    exact absurd h (by decide)
  induction x with
  | bot => exact absurd h' (by simp)
  | top => exact absurd h' (by simp)
  | coe r => exact ⟨r, rfl⟩

section Finite
variable (x0 : FVec Ideal Cert.Pre_finite.S8 .f32) (x1 : FVec Ideal Cert.Pre_finite.S8x2048x512 .bf16)
    (x2 : FVec Ideal Cert.Pre_finite.S8x2048x256 .bf16) (x3 : FVec Ideal Cert.Pre_finite.S1x512 .f32)
    (h : Cert.Pre_finite.fn (F := Ideal) x0 x1 x2 x3 = fun _ => 1#1)
include h

/-- The precondition, read: the sinks, the queries and the keys are real. -/
theorem finite : (∀ i, ∃ r : ℝ, x0 (ix1 i) = r) ∧ (∀ b t j, ∃ r : ℝ, x1 (ix3 b t j) = r)
    ∧ (∀ (b : Fin 8) (s : Fin 2048) (j : Fin 128), ∃ r : ℝ, x2 (ix3 b s ⟨j.val, by omega⟩) = r) := by
  have h0 := congrFun h ix0
  unfold Cert.Pre_finite.fn at h0
  obtain ⟨h12, h3⟩ := IntOp.andi_eq_one.mp h0
  obtain ⟨h1, h2⟩ := IntOp.andi_eq_one.mp h12
  refine ⟨fun i => ?_, fun b t j => ?_, fun b s j => ?_⟩
  · have k := Host.reduce_andi_all _ _ _ _ _ h1 (ix1 i)
    pointwise at k
    exact real_of_lt _ k
  · have k := Host.reduce_andi_all _ _ _ _ _ h2 (ix3 b t j)
    pointwise at k
    exact real_of_lt _ k
  · have k := Host.reduce_andi_all _ _ _ _ _ h3 (ix3 b s j)
    pointwise at k
    exact real_of_lt _ k
end Finite

/-- A sum of reals is real. -/
theorem sum_real {n : ℕ} (f : Fin n → EReal) (h : ∀ i, ∃ r : ℝ, f i = r) : ∃ r : ℝ, ∑ i, f i = r := by
  choose r hr using h
  refine ⟨∑ i, r i, ?_⟩
  rw [Finset.sum_congr rfl fun x _ => hr x]
  exact (map_sum (⟨⟨Real.toEReal, rfl⟩, EReal.coe_add⟩ : ℝ →+ EReal) r Finset.univ).symm

/-- A score of real queries and keys is below plus infinity. -/
theorem score_lt {n : ℕ} (q : Fin 512 → EReal) (kv : Fin n → Fin 256 → EReal) (T : Fin n) (h : Fin 8) (s : Fin n)
    (hq : ∀ j, ∃ r : ℝ, q j = r) (hk : ∀ (s : Fin n) (j : Fin 128), ∃ r : ℝ, kv s ⟨j.val, by omega⟩ = r) :
    score q kv T h s ≠ ⊤ := by
  obtain ⟨r, hr⟩ : ∃ r : ℝ, ∑ d : Fin 64, q ⟨64 * h.val + d.val, by omega⟩ * kv s ⟨64 * (h.val / 4) + d.val, by omega⟩ = r :=
    sum_real (n := 64) _ fun d => by
      obtain ⟨a, ha⟩ := hq ⟨64 * h.val + d.val, (by omega : _ < 512)⟩
      obtain ⟨b, hb⟩ := hk s ⟨64 * (h.val / 4) + d.val, (by omega : _ < 128)⟩
      exact ⟨a * b, by rw [EReal.coe_mul, ← ha]; exact congrArg _ hb⟩
  unfold score biasAt
  rw [hr]
  split_ifs
  · rw [← EReal.coe_add]; exact EReal.coe_ne_top _
  · rw [EReal.add_bot]; exact bot_ne_top

/-- Where the sinks, queries and keys are real, a row of the reference's result is the kernel's: its heads divide the weighted
    sums by the totals. -/
theorem rows (x0 : FVec Ideal Cert.RefAttnIdeal.S8 .f32) (x1 : FVec Ideal Cert.RefAttnIdeal.S8x2048x512 .bf16)
    (x2 : FVec Ideal Cert.RefAttnIdeal.S8x2048x256 .bf16) (x3 : FVec Ideal Cert.RefAttnIdeal.S1x512 .f32)
    (f0 : ∀ i, ∃ r : ℝ, x0 (ix1 i) = r) (f1 : ∀ b t j, ∃ r : ℝ, x1 (ix3 b t j) = r)
    (f2 : ∀ (b : Fin 8) (s : Fin 2048) (j : Fin 128), ∃ r : ℝ, x2 (ix3 b s ⟨j.val, by omega⟩) = r)
    (b : Fin 8) (t : Fin 2048) (d : Fin 512) :
    Cert.RefAttnIdeal.Read.val_main_v65 (F := Ideal) x0 x1 x2 x3 (ix3 b t d)
      = normRow (heads (fun h => x0 (ix1 h)) (fun j => x1 (ix3 b t j)) (fun s j => x2 (ix3 b s j)) t) (x3 (ix2 0 d)) d := by
  rw [Cert.RefAttnIdeal.Hand.v65_apply]
  refine congrArg (fun o => normRow o (x3 (ix2 0 d)) d) (funext fun e => ?_)
  rw [Cert.RefAttnIdeal.Hand.v51_apply]
  obtain ⟨s, hs⟩ := f0 ⟨e.val / 64, by omega⟩
  unfold heads
  have hs' : (fun h : Fin 8 => x0 (ix1 h)) ⟨e.val / 64, by omega⟩ = (s : EReal) := hs
  rw [hs, hs']
  exact (headAt_eq_headRef (score (fun j => x1 (ix3 b t j)) (fun s j => x2 (ix3 b s j)) t ⟨e.val / 64, by omega⟩) s _ fun x => score_lt _ (fun s j => x2 (ix3 b s j)) _ _ _ (f1 b t) (f2 b)).symm

/-- From memories that agree on the arguments, the sinks, queries and keys finite, the kernel's result and the reference's are
    the same array: every query's attention over its sequence, normalised. -/
theorem algebraic : Cert.algebraic_AttnIdeal_RefAttnIdeal_pre_finite := by
  intro m g m' g' hpre hagree
  refine ⟨fun c i => attended m c (i 0) (i 1) (i 2),
    (θ_run _ _ _).mono (fun r h c => ?_) (Cert.AttnIdeal.Value.run_blocks m g),
    (θ_run _ _ _).mono (fun r h c => ?_) (Cert.RefAttnIdeal.Value.run m' g')⟩
  · obtain ⟨h6, ha⟩ := h c
    exact ⟨h6.trans (final m c), ha⟩
  · obtain ⟨h6, ha⟩ := h c
    obtain ⟨e0, e1, e2, e3⟩ := hagree c
    obtain ⟨f0, f1, f2⟩ := finite _ _ _ _ (hpre c)
    have k := h6.trans (Cert.RefAttnIdeal.Read.val_main_v65_eq m' c)
    rw [e0, e1, e2, e3] at k
    refine ⟨k.trans ?_, ha⟩
    funext i
    refine (congrArg _ (eq_ix3 i)).trans (rows _ _ _ _ f0 f1 f2 (i 0) (i 1) (i 2))

end Cert.AttnClaim
-- ==== Proof.AttnSampleVec.lean ====
/-
  The attention call at the second batch's size, one block of 128 queries as vector operations: what a grid point stores is
  what the call stores at the first batch's size.
-/
module
public import proofs.«01_k».proof.Proof.AttnVec
public import proofs.«01_k».proof.Proof.Gen.AttnSampleIdeal.Skeleton
@[expose] public section
set_option maxRecDepth 16384
open Idealize.ShloMosaic Idealize.ShloMosaic.TcCoe
noncomputable section
namespace Cert.AttnSampleIdeal.Hand
open Cert.AttnSampleIdeal Cert.AttnSampleIdeal.Gen

variable (n : BitVec 32) (q0 q1 q2 q3 : Vec Ideal S1x128x128 .bf16)
  (k0 k1 k2 k3 v0 v1 v2 v3 : Vec Ideal S1x384x128 .bf16) (b0 b1 b2 b3 b4 b5 b6 b7 : Vec Ideal S1x128x384 .f32)
  (s0 s1 s2 s3 s4 s5 s6 s7 : Ideal .f32) (gain : Vec Ideal S1x512 .f32)

/-- What a grid point stores for its first block of queries is `block`. -/
theorem stored0 :
      k0_pay108 (k0_pay107 k0_pay62 gain (k0_pay72 k0_pay62 (k0_pay69 (iota Kind.tc S128x384 32 [1] iota_S128x384_d1_w32) (k0_pay60 n) (k0_pay64 q0 q1
      k0) b0 s0) (k0_pay70 (iota Kind.tc S128x384 32 [1] iota_S128x384_d1_w32) (k0_pay60 n) (k0_pay64 q0 q1 k0) b0 s0 v0) (k0_pay71 (iota Kind.tc
      S128x384 32 [1] iota_S128x384_d1_w32) (k0_pay60 n) (k0_pay63 q0 q1) k1 b1) s1 v1) (k0_pay83 k0_pay62 (k0_pay80 (iota Kind.tc S128x384 32 [1]
      iota_S128x384_d1_w32) (k0_pay60 n) (k0_pay65 (k0_pay63 q0 q1) k1) b3 s3) (k0_pay81 (iota Kind.tc S128x384 32 [1] iota_S128x384_d1_w32) (k0_pay60
      n) (k0_pay65 (k0_pay63 q0 q1) k1) (k0_pay75 (iota Kind.tc S128x384 32 [1] iota_S128x384_d1_w32) (k0_pay60 n) (k0_pay64 q0 q1 k0) b2 s2) v0 b3 s3
      v1) (k0_pay82 s2 (k0_pay74 (iota Kind.tc S128x384 32 [1] iota_S128x384_d1_w32) (k0_pay60 n) (k0_pay64 q0 q1 k0) b2 s2) (k0_pay75 (iota Kind.tc
      S128x384 32 [1] iota_S128x384_d1_w32) (k0_pay60 n) (k0_pay64 q0 q1 k0) b2 s2))) (k0_pay97 k0_pay62 (k0_pay93 (iota Kind.tc S128x384 32 [1]
      iota_S128x384_d1_w32) (k0_pay60 n) (k0_pay86 q2 q3 k3) b5 s5) (k0_pay94 (iota Kind.tc S128x384 32 [1] iota_S128x384_d1_w32) (k0_pay60 n)
      (k0_pay86 q2 q3 k3) (k0_pay89 (iota Kind.tc S128x384 32 [1] iota_S128x384_d1_w32) (k0_pay60 n) q2 q3 k2 b4 s4) v2 b5 s5 v3) (k0_pay95 s4
      (k0_pay88 (iota Kind.tc S128x384 32 [1] iota_S128x384_d1_w32) (k0_pay60 n) q2 q3 k2 b4 s4) (k0_pay89 (iota Kind.tc S128x384 32 [1]
      iota_S128x384_d1_w32) (k0_pay60 n) q2 q3 k2 b4 s4)) k0_pay96) (k0_pay101 (iota Kind.tc S128x384 32 [1] iota_S128x384_d1_w32) (k0_pay60 n)
      (k0_pay85 q2 q3 k2) b6 s6) (k0_pay102 (iota Kind.tc S128x384 32 [1] iota_S128x384_d1_w32) (k0_pay60 n) (k0_pay85 q2 q3 k2) b6 s6 v2) (k0_pay103
      (k0_pay86 q2 q3 k3) b7) (k0_pay104 (iota Kind.tc S128x384 32 [1] iota_S128x384_d1_w32)) (k0_pay105 (k0_pay60 n)) k0_pay106 s7 v3)
      = Cert.AttnIdeal.Hand.block (fun l => addf l (Cert.AttnIdeal.Hand.penLo (k0_pay60 n))) q0 q1 q2 q3 k0 k1 k2 k3 v0 v1 v2 v3 b0 b1 b2 b3 b4 b5 b6 b7 s0 s1 s2 s3 s4 s5 s6 s7 gain := rfl

/-- What a grid point stores for its second block of queries is `block`. -/
theorem stored1 :
      k0_pay148 k0_pay62 gain (k0_pay118 k0_pay62 (k0_pay111 q0 q1 k1) (k0_pay115 q0 q1 k0 b0 s0) (k0_pay116 q0 q1 k0 b0 s0) (k0_pay117 v0) (constant
      S128x128 FTy.f32 0#32) b1 s1 v1) (k0_pay128 k0_pay62 (k0_pay125 (k0_pay111 q0 q1 k1) (k0_pay119 (k0_pay110 q0 q1 k0) b2) (k0_pay120 (k0_pay110
      q0 q1 k0) b2 s2) v0 b3 s3 v1) (k0_pay126 (k0_pay119 (k0_pay110 q0 q1 k0) b2) s2 (k0_pay120 (k0_pay110 q0 q1 k0) b2 s2)) (k0_pay127 (k0_pay111 q0
      q1 k1) b3 s3)) (k0_pay137 k0_pay62 (k0_pay131 q2 q3 k3) (k0_pay135 q2 q3 k2 b4 s4) (k0_pay136 q2 q3 k2 b4 s4 v2) b5 s5 v3) (k0_pay145 (k0_pay131
      q2 q3 k3) (k0_pay138 (k0_pay130 q2 q3 k2) b6) (k0_pay140 (k0_pay130 q2 q3 k2) b6 s6) v2 b7 s7 v3) (k0_pay146 (k0_pay138 (k0_pay130 q2 q3 k2) b6)
      s6 (k0_pay139 (k0_pay130 q2 q3 k2) b6 s6) (k0_pay140 (k0_pay130 q2 q3 k2) b6 s6)) (k0_pay147 (k0_pay131 q2 q3 k3) b7 s7)
      = Cert.AttnIdeal.Hand.block (fun l => l) q0 q1 q2 q3 k0 k1 k2 k3 v0 v1 v2 v3 b0 b1 b2 b3 b4 b5 b6 b7 s0 s1 s2 s3 s4 s5 s6 s7 gain := rfl

/-- What a grid point stores for its third block of queries is `block`. -/
theorem stored2 :
      k0_pay196 k0_pay62 gain (k0_pay161 k0_pay62 (k0_pay158 (k0_pay151 q0 q1 k1) b1 s1) (k0_pay159 (k0_pay151 q0 q1 k1) (k0_pay152 q0 q1 k0 b0) s0 v0
      b1 s1 v1) (k0_pay160 (k0_pay152 q0 q1 k0 b0) s0) (FloatOps.ofBits FTy.f32 1065353216#32)) (k0_pay171 k0_pay62 (k0_pay165 (k0_pay150 q0 q1 k0) b2
      s2) (k0_pay166 (k0_pay150 q0 q1 k0) b2 s2 v0) s3 (k0_pay168 (k0_pay151 q0 q1 k1) b3 s3) (k0_pay169 (k0_pay151 q0 q1 k1) b3 s3) (k0_pay170
      (k0_pay151 q0 q1 k1) b3 s3) v1) (k0_pay185 k0_pay62 (k0_pay181 (k0_pay174 q2 q3 k3) b5 s5) (k0_pay182 (k0_pay174 q2 q3 k3) (k0_pay175 q2 q3 k2
      b4) s4 v2 b5 s5 v3) (k0_pay183 (k0_pay175 q2 q3 k2 b4) s4) k0_pay184) (k0_pay189 (k0_pay173 q2 q3 k2) b6 s6) (k0_pay190 (k0_pay173 q2 q3 k2) b6
      s6 v2) (k0_pay192 (k0_pay174 q2 q3 k3) b7 s7) (k0_pay193 (k0_pay174 q2 q3 k3) b7 s7) (k0_pay194 (k0_pay174 q2 q3 k3) b7 s7) (k0_pay195 s7) v3
      = Cert.AttnIdeal.Hand.block (fun l => l) q0 q1 q2 q3 k0 k1 k2 k3 v0 v1 v2 v3 b0 b1 b2 b3 b4 b5 b6 b7 s0 s1 s2 s3 s4 s5 s6 s7 gain := rfl

/-- What a grid point stores for its fourth block of queries is `block`. -/
theorem stored3 :
      k0_pay1 gain (k0_pay240 (iota Kind.tc S128x384 32 [1] iota_S128x384_d1_w32) (k0_pay61 n) k0_pay62 (k0_pay206 (iota Kind.tc S128x384 32 [1]
      iota_S128x384_d1_w32) (k0_pay61 n) k0_pay62 (k0_pay203 (iota Kind.tc S128x384 32 [1] iota_S128x384_d1_w32) (k0_pay61 n) (k0_pay197 q0 q1) k0 b0
      s0) (k0_pay204 (iota Kind.tc S128x384 32 [1] iota_S128x384_d1_w32) (k0_pay61 n) (k0_pay197 q0 q1) k0 b0 s0 v0) (k0_pay205 (k0_pay197 q0 q1) k1
      b1) s1 v1) (k0_pay219 k0_pay62 (k0_pay212 (k0_pay207 (k0_pay198 (k0_pay197 q0 q1) k0) b2) (k0_pay208 (iota Kind.tc S128x384 32 [1]
      iota_S128x384_d1_w32) (k0_pay61 n)) s2) (k0_pay213 (k0_pay207 (k0_pay198 (k0_pay197 q0 q1) k0) b2) (k0_pay208 (iota Kind.tc S128x384 32 [1]
      iota_S128x384_d1_w32) (k0_pay61 n)) s2 v0) (k0_pay217 (iota Kind.tc S128x384 32 [1] iota_S128x384_d1_w32) (k0_pay61 n) (k0_pay199 (k0_pay197 q0
      q1) k1) b3 s3) (k0_pay218 (iota Kind.tc S128x384 32 [1] iota_S128x384_d1_w32) (k0_pay61 n) (k0_pay199 (k0_pay197 q0 q1) k1) b3 s3) v1)
      (k0_pay233 k0_pay62 (k0_pay226 (k0_pay223 (iota Kind.tc S128x384 32 [1] iota_S128x384_d1_w32) (k0_pay61 n) q2 q3 k2 b4) s4) (k0_pay227
      (k0_pay223 (iota Kind.tc S128x384 32 [1] iota_S128x384_d1_w32) (k0_pay61 n) q2 q3 k2 b4) s4 v2) (k0_pay231 (iota Kind.tc S128x384 32 [1]
      iota_S128x384_d1_w32) (k0_pay61 n) (k0_pay222 q2 q3 k3) b5 s5) (k0_pay232 (iota Kind.tc S128x384 32 [1] iota_S128x384_d1_w32) (k0_pay61 n)
      (k0_pay222 q2 q3 k3) b5 s5) v3) (k0_pay237 (iota Kind.tc S128x384 32 [1] iota_S128x384_d1_w32) (k0_pay61 n) (k0_pay221 q2 q3 k2) b6 s6)
      (k0_pay238 (iota Kind.tc S128x384 32 [1] iota_S128x384_d1_w32) (k0_pay61 n) (k0_pay221 q2 q3 k2) b6 s6 v2) (k0_pay239 (k0_pay222 q2 q3 k3)) b7
      s7 v3) (k0_pay241 (iota Kind.tc S128x384 32 [1] iota_S128x384_d1_w32) (k0_pay61 n) k0_pay62 (k0_pay206 (iota Kind.tc S128x384 32 [1]
      iota_S128x384_d1_w32) (k0_pay61 n) k0_pay62 (k0_pay203 (iota Kind.tc S128x384 32 [1] iota_S128x384_d1_w32) (k0_pay61 n) (k0_pay197 q0 q1) k0 b0
      s0) (k0_pay204 (iota Kind.tc S128x384 32 [1] iota_S128x384_d1_w32) (k0_pay61 n) (k0_pay197 q0 q1) k0 b0 s0 v0) (k0_pay205 (k0_pay197 q0 q1) k1
      b1) s1 v1) (k0_pay219 k0_pay62 (k0_pay212 (k0_pay207 (k0_pay198 (k0_pay197 q0 q1) k0) b2) (k0_pay208 (iota Kind.tc S128x384 32 [1]
      iota_S128x384_d1_w32) (k0_pay61 n)) s2) (k0_pay213 (k0_pay207 (k0_pay198 (k0_pay197 q0 q1) k0) b2) (k0_pay208 (iota Kind.tc S128x384 32 [1]
      iota_S128x384_d1_w32) (k0_pay61 n)) s2 v0) (k0_pay217 (iota Kind.tc S128x384 32 [1] iota_S128x384_d1_w32) (k0_pay61 n) (k0_pay199 (k0_pay197 q0
      q1) k1) b3 s3) (k0_pay218 (iota Kind.tc S128x384 32 [1] iota_S128x384_d1_w32) (k0_pay61 n) (k0_pay199 (k0_pay197 q0 q1) k1) b3 s3) v1)
      (k0_pay233 k0_pay62 (k0_pay226 (k0_pay223 (iota Kind.tc S128x384 32 [1] iota_S128x384_d1_w32) (k0_pay61 n) q2 q3 k2 b4) s4) (k0_pay227
      (k0_pay223 (iota Kind.tc S128x384 32 [1] iota_S128x384_d1_w32) (k0_pay61 n) q2 q3 k2 b4) s4 v2) (k0_pay231 (iota Kind.tc S128x384 32 [1]
      iota_S128x384_d1_w32) (k0_pay61 n) (k0_pay222 q2 q3 k3) b5 s5) (k0_pay232 (iota Kind.tc S128x384 32 [1] iota_S128x384_d1_w32) (k0_pay61 n)
      (k0_pay222 q2 q3 k3) b5 s5) v3) (k0_pay237 (iota Kind.tc S128x384 32 [1] iota_S128x384_d1_w32) (k0_pay61 n) (k0_pay221 q2 q3 k2) b6 s6)
      (k0_pay238 (iota Kind.tc S128x384 32 [1] iota_S128x384_d1_w32) (k0_pay61 n) (k0_pay221 q2 q3 k2) b6 s6 v2) (k0_pay239 (k0_pay222 q2 q3 k3)) b7
      s7 v3) k0_pay242
      = Cert.AttnIdeal.Hand.block (fun l => addf l (Cert.AttnIdeal.Hand.penHi (k0_pay61 n))) q0 q1 q2 q3 k0 k1 k2 k3 v0 v1 v2 v3 b0 b1 b2 b3 b4 b5 b6 b7 s0 s1 s2 s3 s4 s5 s6 s7 gain := rfl

end Cert.AttnSampleIdeal.Hand
end
-- ==== Proof.AttnSampleSlots.lean ====
/-
  The attention call at the second batch's size: its working copies of the keys and of the values hold what they hold at the
  first batch's size.
-/
module
public import proofs.«01_k».proof.Proof.AttnSlots
public import proofs.«01_k».proof.Proof.AttnSampleVec
public import proofs.«01_k».proof.Proof.Gen.AttnSampleIdeal.Frame
@[expose] public section
set_option maxRecDepth 16384
open Idealize.ShloMosaic Idealize.ShloMosaic.TcCoe
noncomputable section
namespace Cert.AttnSampleIdeal.Hand
open Cert.AttnSampleIdeal Cert.AttnSampleIdeal.Gen Cert.Rows

/-- The pieces the keys' working copy is written in. -/
def keyPieces (x2 : Vec Ideal S1x128x256 .bf16) (x3 : Vec Ideal S1x512x256 .bf16) (x4 : Vec Ideal S1x128x256 .bf16) :
    List (View.Piece (Elt Ideal) S4x768x128 .bf16) :=
  [⟨Rect.unit ![3, 640, 0] ![1, 128, 128] inb_S4x768x128_S1x128x128_3_640_0, k0_pay53 x4⟩,
    ⟨Rect.unit ![2, 640, 0] ![1, 128, 128] inb_S4x768x128_S1x128x128_2_640_0, k0_pay52 x4⟩,
    ⟨Rect.unit ![1, 640, 0] ![1, 128, 128] inb_S4x768x128_S1x128x128_1_640_0, k0_pay51 x4⟩,
    ⟨Rect.unit ![0, 640, 0] ![1, 128, 128] inb_S4x768x128_S1x128x128_0_640_0, k0_pay50 x4⟩,
    ⟨Rect.unit ![3, 128, 0] ![1, 512, 128] inb_S4x768x128_S1x512x128_3_128_0, k0_pay38 k0_pay29 k0_pay30 (k0_pay31 x3)⟩,
    ⟨Rect.unit ![2, 128, 0] ![1, 512, 128] inb_S4x768x128_S1x512x128_2_128_0, k0_pay37 k0_pay29 k0_pay30 (k0_pay33 x3)⟩,
    ⟨Rect.unit ![1, 128, 0] ![1, 512, 128] inb_S4x768x128_S1x512x128_1_128_0, k0_pay36 (k0_pay35 x3)⟩,
    ⟨Rect.unit ![0, 128, 0] ![1, 512, 128] inb_S4x768x128_S1x512x128_0_128_0, k0_pay34 x3⟩,
    ⟨Rect.unit ![3, 0, 0] ![1, 128, 128] inb_S4x768x128_S1x128x128_3_0_0, k0_pay21 x2⟩,
    ⟨Rect.unit ![2, 0, 0] ![1, 128, 128] inb_S4x768x128_S1x128x128_2_0_0, k0_pay20 x2⟩,
    ⟨Rect.unit ![1, 0, 0] ![1, 128, 128] inb_S4x768x128_S1x128x128_1_0_0, k0_pay19 x2⟩,
    ⟨Rect.unit ![0, 0, 0] ![1, 128, 128] inb_S4x768x128_S1x128x128_0_0_0, k0_pay18 x2⟩]

/-- The pieces the values' working copy is written in. -/
def valuePieces (x2 : Vec Ideal S1x128x256 .bf16) (x3 : Vec Ideal S1x512x256 .bf16) (x4 : Vec Ideal S1x128x256 .bf16) :
    List (View.Piece (Elt Ideal) S4x768x128 .bf16) :=
  [⟨Rect.unit ![3, 640, 0] ![1, 128, 128] inb_S4x768x128_S1x128x128_3_640_0, k0_pay59 k0_pay45 k0_pay46 (k0_pay48 x4)⟩,
    ⟨Rect.unit ![2, 640, 0] ![1, 128, 128] inb_S4x768x128_S1x128x128_2_640_0, k0_pay58 k0_pay45 k0_pay46 (k0_pay54 x4)⟩,
    ⟨Rect.unit ![1, 640, 0] ![1, 128, 128] inb_S4x768x128_S1x128x128_1_640_0, k0_pay57 (k0_pay56 x4)⟩,
    ⟨Rect.unit ![0, 640, 0] ![1, 128, 128] inb_S4x768x128_S1x128x128_0_640_0, k0_pay55 x4⟩,
    ⟨Rect.unit ![3, 128, 0] ![1, 512, 128] inb_S4x768x128_S1x512x128_3_128_0, k0_pay43 k0_pay29 k0_pay30 (k0_pay32 x3)⟩,
    ⟨Rect.unit ![2, 128, 0] ![1, 512, 128] inb_S4x768x128_S1x512x128_2_128_0, k0_pay42 k0_pay29 k0_pay30 (k0_pay32 x3)⟩,
    ⟨Rect.unit ![1, 128, 0] ![1, 512, 128] inb_S4x768x128_S1x512x128_1_128_0, k0_pay41 k0_pay29 k0_pay30 (k0_pay32 x3)⟩,
    ⟨Rect.unit ![0, 128, 0] ![1, 512, 128] inb_S4x768x128_S1x512x128_0_128_0, k0_pay40 k0_pay29 k0_pay30 (k0_pay32 x3)⟩,
    ⟨Rect.unit ![3, 0, 0] ![1, 128, 128] inb_S4x768x128_S1x128x128_3_0_0, k0_pay27 k0_pay13 k0_pay14 (k0_pay16 x2)⟩,
    ⟨Rect.unit ![2, 0, 0] ![1, 128, 128] inb_S4x768x128_S1x128x128_2_0_0, k0_pay26 k0_pay13 k0_pay14 (k0_pay16 x2) (k0_pay22 x2)⟩,
    ⟨Rect.unit ![1, 0, 0] ![1, 128, 128] inb_S4x768x128_S1x128x128_1_0_0, k0_pay25 k0_pay13 k0_pay14 (k0_pay16 x2) (k0_pay22 x2)⟩,
    ⟨Rect.unit ![0, 0, 0] ![1, 128, 128] inb_S4x768x128_S1x128x128_0_0_0, k0_pay24 k0_pay13 k0_pay14 (k0_pay16 x2)⟩]

variable (x2 : Vec Ideal S1x128x256 .bf16) (x3 : Vec Ideal S1x512x256 .bf16) (x4 : Vec Ideal S1x128x256 .bf16)

/-- They are those of the first batch's size. -/
theorem keyPieces_eq : keyPieces x2 x3 x4 = Cert.AttnIdeal.Hand.keyPieces x2 x3 x4 := rfl

/-- 384 rows of a slot of the keys' working copy, at an entry. -/
theorem keys_read (s o : ℕ) (inb) (hs : s < 4) (ho : o + 384 ≤ 768) (x : Fin 384) (d : Fin 128) :
    (View.whole cc0_scratch0).readCov (Val := Elt Ideal) (keyPieces x2 x3 x4)
      (Rect.unit (s := S4x768x128) ![s, o, 0] ![1, 384, 128] inb).toLoadRect (ix3 0 x d)
      = Cert.AttnIdeal.Hand.slotAt 0 x2 x3 x4 ⟨s, hs⟩ ⟨o + x.val, by omega⟩ d := by
  rw [keyPieces_eq, View.readCov_eq_canon']
  exact Cert.AttnIdeal.Hand.keys_at x2 x3 x4 s o inb hs ho x d

/-- They are those of the first batch's size. -/
theorem valuePieces_eq : valuePieces x2 x3 x4 = Cert.AttnIdeal.Hand.valuePieces x2 x3 x4 := rfl

/-- 384 rows of a slot of the values' working copy, at an entry. -/
theorem values_read (s o : ℕ) (inb) (hs : s < 4) (ho : o + 384 ≤ 768) (x : Fin 384) (d : Fin 128) :
    (View.whole cc0_scratch1).readCov (Val := Elt Ideal) (valuePieces x2 x3 x4)
      (Rect.unit (s := S4x768x128) ![s, o, 0] ![1, 384, 128] inb).toLoadRect (ix3 0 x d)
      = Cert.AttnIdeal.Hand.slotAt 1 x2 x3 x4 ⟨s, hs⟩ ⟨o + x.val, by omega⟩ d := by
  rw [valuePieces_eq, View.readCov_eq_canon']
  exact Cert.AttnIdeal.Hand.values_at x2 x3 x4 s o inb hs ho x d

end Cert.AttnSampleIdeal.Hand
end
-- ==== Proof.AttnSampleBias.lean ====
/-
  The attention call at the second batch's size: its bias table holds what it holds at the first batch's size.
-/
module
public import proofs.«01_k».proof.Proof.AttnBias
public import proofs.«01_k».proof.Proof.AttnSampleSlots
@[expose] public section
set_option maxRecDepth 16384
open Idealize.ShloMosaic Idealize.ShloMosaic.TcCoe
noncomputable section
namespace Cert.AttnSampleIdeal.Hand
open Cert.AttnSampleIdeal Cert.AttnSampleIdeal.Gen Cert.Rows

/-- The stand-in for a masked score. -/
theorem named_neg : (Named.named κ "neg" 4048155338#32 : Ideal .f32) = ⊥ :=
  IdealRules.named_const.ideal_named_scalar _ _ _ _ rfl

/-- The pieces the bias table is written in. -/
def biasPieces : List (View.Piece (Elt Ideal) S8x128x384 .f32) :=
  [⟨Rect.unit ![7, 0, 0] ![1, 128, 384] inb_S8x128x384_S1x128x384_7_0_0,
      k0_pay11 (F := Ideal) (k0_pay2 (F := Ideal))⟩,
    ⟨Rect.unit ![6, 0, 0] ![1, 128, 384] inb_S8x128x384_S1x128x384_6_0_0,
      k0_pay10 (F := Ideal) (k0_pay2 (F := Ideal))⟩,
    ⟨Rect.unit ![5, 0, 0] ![1, 128, 384] inb_S8x128x384_S1x128x384_5_0_0,
      k0_pay9 (F := Ideal) (k0_pay2 (F := Ideal))⟩,
    ⟨Rect.unit ![4, 0, 0] ![1, 128, 384] inb_S8x128x384_S1x128x384_4_0_0,
      k0_pay8 (F := Ideal) (k0_pay2 (F := Ideal))⟩,
    ⟨Rect.unit ![3, 0, 0] ![1, 128, 384] inb_S8x128x384_S1x128x384_3_0_0,
      k0_pay7 (F := Ideal) (k0_pay2 (F := Ideal)) (k0_pay6 (F := Ideal)) (FloatOps.ofBits FTy.f32 3179282432#32)⟩,
    ⟨Rect.unit ![2, 0, 0] ![1, 128, 384] inb_S8x128x384_S1x128x384_2_0_0,
      k0_pay5 (F := Ideal)⟩,
    ⟨Rect.unit ![1, 0, 0] ![1, 128, 384] inb_S8x128x384_S1x128x384_1_0_0,
      k0_pay4 (F := Ideal)⟩,
    ⟨Rect.unit ![0, 0, 0] ![1, 128, 384] inb_S8x128x384_S1x128x384_0_0_0,
      k0_pay3 (F := Ideal)⟩]

/-- They are those of the first batch's size. -/
theorem biasPieces_eq : biasPieces = Cert.AttnIdeal.Hand.biasPieces := rfl

/-- One head's slab of the table. -/
theorem slab_canon (h : ℕ) (inb) (r : Fin 128) (x : Fin 384) :
    (View.whole cc0_scratch2).readCov (Val := Elt Ideal) biasPieces
      (Rect.unit (s := S8x128x384) ![h, 0, 0] ![1, 128, 384] inb).toLoadRect (ix3 0 r x)
      = biasAt h (gap x.val (128 + r.val)) := by
  rw [biasPieces_eq, View.readCov_eq_canon']
  exact Cert.AttnIdeal.Hand.slab_read _ Cert.AttnIdeal.Hand.bias_canon h inb r x

variable (m : (ℓ : Loc nD τ sig) → Buf (Elt Ideal) ℓ)

/-- The table every grid point finds in scratch or builds there. -/
theorem table (c : Dev nD) (n : ℕ) (hn : n < cfg0.N) (y : S8x128x384.Idx) : (outsAt0 m c n hn).2 y = Cert.AttnIdeal.Hand.biasTable y := by
  induction n with
  | zero =>
    have e := outsAt0_A m c ⟨0, hn⟩ (Nat.zero_mod 128)
    dsimp only at e
    rw [e]
    frame_out
    exact Cert.AttnIdeal.Hand.bias_canon y
  | succ n ih =>
    by_cases h : (n + 1) % 128 = 0
    · have e := outsAt0_A m c ⟨n + 1, hn⟩ h
      dsimp only at e
      rw [e]
      frame_out
      exact Cert.AttnIdeal.Hand.bias_canon y
    · have e := outsAt0_B m c ⟨n + 1, hn⟩ h
      dsimp only at e
      rw [e]
      unfold sout0_B_2
      simp only [Nat.add_sub_cancel]
      exact ih _

end Cert.AttnSampleIdeal.Hand
end
-- ==== Proof.AttnSamplePoint.lean ====
/-
  The attention call at the second batch's size, at one grid point: what it stores, entry by entry.
-/
module
public import proofs.«01_k».proof.Proof.AttnTile
public import proofs.«01_k».proof.Proof.AttnSampleBias
@[expose] public section
set_option maxRecDepth 16384
open Idealize.ShloMosaic Idealize.ShloMosaic.TcCoe
noncomputable section
namespace Cert.AttnSampleIdeal.Hand
open Cert.AttnSampleIdeal Cert.AttnSampleIdeal.Gen Cert.Rows
open Cert.AttnIdeal.Hand (pointAt tile penLo_apply penHi_apply noPen_apply query_read sink_read slab_read biasTable blk3)

theorem pay60_apply (i : Fin 8) : k0_pay60 (F := Ideal) (BitVec.ofNat 32 i.val) = if i.val = 0 then ⊥ else 0 := by
  unfold k0_pay60
  show Scalar.select (Scalar.cmpi CmpIPredicate.eq (BitVec.ofNat 32 i.val) 0#32) (Named.named κ "neg" 4048155338#32 : Ideal .f32)
    (Ideal.ofBits .f32 0#32) = _
  rw [named_neg]
  fin_cases i <;> simp [Scalar.select, Scalar.cmpi, IntOp.cmpi, Ideal.ofBits, Ideal.ieee]

theorem pay61_apply (i : Fin 8) : k0_pay61 (F := Ideal) (BitVec.ofNat 32 i.val) = if i.val = 7 then ⊥ else 0 := by
  unfold k0_pay61
  show Scalar.select (Scalar.cmpi CmpIPredicate.eq (BitVec.ofNat 32 i.val) 7#32) (Named.named κ "neg" 4048155338#32 : Ideal .f32)
    (Ideal.ofBits .f32 0#32) = _
  rw [named_neg]
  fin_cases i <;> simp [Scalar.select, Scalar.cmpi, IntOp.cmpi, Ideal.ofBits, Ideal.ieee]

variable (m : (ℓ : Loc nD τ sig) → Buf (Elt Ideal) ℓ)

/-- What grid point `t` leaves at query `T` of its 512 and lane `d`. -/
def leftAt (c : Dev nD) (t : Fin cfg0.N) (T : Fin 512) (d : Fin 512) : EReal :=
  pointAt (iblk m c 0 t) (iblk m c 1 t) (iblk m c 2 t) (iblk m c 3 t) (iblk m c 4 t) (iblk m c 5 t) 7
    (grid0.coords t 1).val ⟨T.val / 128, by omega⟩ ⟨T.val % 128, by omega⟩ d

theorem leftAt_of (c : Dev nD) (t : Fin cfg0.N) (T d : Fin 512) (j : Fin 4) (r : Fin 128) (e : Fin 512)
    (hT : T.val = 128 * j.val + r.val) (hd : d.val = e.val) :
    pointAt (iblk m c 0 t) (iblk m c 1 t) (iblk m c 2 t) (iblk m c 3 t) (iblk m c 4 t) (iblk m c 5 t) 7
      (grid0.coords t 1).val j r e = leftAt m c t T d := by
  obtain rfl : d = e := Fin.ext hd
  unfold leftAt
  exact congrArg₂ (fun a b => pointAt _ _ _ _ _ _ _ _ a b _) (Fin.ext (by dsimp only; omega)) (Fin.ext (by dsimp only; omega))

theorem left_A (c : Dev nD) (t : Fin cfg0.N) (h : t.val % 128 = 0) (y : S1x512x512.Idx) :
    (outsAt0 m c t t.isLt).1 y = leftAt m c t (y 1) (y 2) := by
  rw [outsAt0_A m c t h]
  frame_out
  canon_tiles x h
  all_goals
    obtain ⟨r, e, hx, e1, e2⟩ := blk3 x
    rw [e1] at h1; rw [e2] at h2; rw [hx]
  · refine Eq.trans ?_ (leftAt_of m c t (y 1) (y 2) 3 r e (by rw [h1]; rfl) h2)
    refine (congrFun (stored3 _ _ _ _ _ _ _ _ _ _ _ _ _ _ _ _ _ _ _ _ _ _ _ _ _ _ _ _ _ _) _).trans ?_
    exact tile _ _ _ _ _ _ 7 (grid0.coords t 1).val 3 r e _ _ _ _ _ _ _ _ _ _ _ _ _ _ _ _ _ _ _ _ _ _ _ _ _ _ _ _ _
        (fun l x => penHi_apply _ _ _ (pay61_apply (grid0.coords t 1)) l r x)
        (fun d => query_read _ 384 0 _ (by omega) (by omega) r d)
        (fun d => query_read _ 384 128 _ (by omega) (by omega) r d)
        (fun d => query_read _ 384 256 _ (by omega) (by omega) r d)
        (fun d => query_read _ 384 384 _ (by omega) (by omega) r d)
        (fun x d => keys_read _ _ _ 0 384 _ (by omega) (by omega) x d)
        (fun x d => keys_read _ _ _ 1 384 _ (by omega) (by omega) x d)
        (fun x d => keys_read _ _ _ 2 384 _ (by omega) (by omega) x d)
        (fun x d => keys_read _ _ _ 3 384 _ (by omega) (by omega) x d)
        (fun x d => values_read _ _ _ 0 384 _ (by omega) (by omega) x d)
        (fun x d => values_read _ _ _ 1 384 _ (by omega) (by omega) x d)
        (fun x d => values_read _ _ _ 2 384 _ (by omega) (by omega) x d)
        (fun x d => values_read _ _ _ 3 384 _ (by omega) (by omega) x d)
        (fun x => slab_canon 0 _ r x)
        (fun x => slab_canon 1 _ r x)
        (fun x => slab_canon 2 _ r x)
        (fun x => slab_canon 3 _ r x)
        (fun x => slab_canon 4 _ r x)
        (fun x => slab_canon 5 _ r x)
        (fun x => slab_canon 6 _ r x)
        (fun x => slab_canon 7 _ r x)
        (sink_read _ 0 _ _)
        (sink_read _ 1 _ _)
        (sink_read _ 2 _ _)
        (sink_read _ 3 _ _)
        (sink_read _ 4 _ _)
        (sink_read _ 5 _ _)
        (sink_read _ 6 _ _)
        (sink_read _ 7 _ _)
  · refine Eq.trans ?_ (leftAt_of m c t (y 1) (y 2) 2 r e (by rw [h1]; rfl) h2)
    refine (congrFun (stored2 _ _ _ _ _ _ _ _ _ _ _ _ _ _ _ _ _ _ _ _ _ _ _ _ _ _ _ _ _) _).trans ?_
    exact tile _ _ _ _ _ _ 7 (grid0.coords t 1).val 2 r e _ _ _ _ _ _ _ _ _ _ _ _ _ _ _ _ _ _ _ _ _ _ _ _ _ _ _ _ _
        (fun l x => noPen_apply _ _ _ (by decide) l r x)
        (fun d => query_read _ 256 0 _ (by omega) (by omega) r d)
        (fun d => query_read _ 256 128 _ (by omega) (by omega) r d)
        (fun d => query_read _ 256 256 _ (by omega) (by omega) r d)
        (fun d => query_read _ 256 384 _ (by omega) (by omega) r d)
        (fun x d => keys_read _ _ _ 0 256 _ (by omega) (by omega) x d)
        (fun x d => keys_read _ _ _ 1 256 _ (by omega) (by omega) x d)
        (fun x d => keys_read _ _ _ 2 256 _ (by omega) (by omega) x d)
        (fun x d => keys_read _ _ _ 3 256 _ (by omega) (by omega) x d)
        (fun x d => values_read _ _ _ 0 256 _ (by omega) (by omega) x d)
        (fun x d => values_read _ _ _ 1 256 _ (by omega) (by omega) x d)
        (fun x d => values_read _ _ _ 2 256 _ (by omega) (by omega) x d)
        (fun x d => values_read _ _ _ 3 256 _ (by omega) (by omega) x d)
        (fun x => slab_canon 0 _ r x)
        (fun x => slab_canon 1 _ r x)
        (fun x => slab_canon 2 _ r x)
        (fun x => slab_canon 3 _ r x)
        (fun x => slab_canon 4 _ r x)
        (fun x => slab_canon 5 _ r x)
        (fun x => slab_canon 6 _ r x)
        (fun x => slab_canon 7 _ r x)
        (sink_read _ 0 _ _)
        (sink_read _ 1 _ _)
        (sink_read _ 2 _ _)
        (sink_read _ 3 _ _)
        (sink_read _ 4 _ _)
        (sink_read _ 5 _ _)
        (sink_read _ 6 _ _)
        (sink_read _ 7 _ _)
  · refine Eq.trans ?_ (leftAt_of m c t (y 1) (y 2) 1 r e (by rw [h1]; rfl) h2)
    refine (congrFun (stored1 _ _ _ _ _ _ _ _ _ _ _ _ _ _ _ _ _ _ _ _ _ _ _ _ _ _ _ _ _) _).trans ?_
    exact tile _ _ _ _ _ _ 7 (grid0.coords t 1).val 1 r e _ _ _ _ _ _ _ _ _ _ _ _ _ _ _ _ _ _ _ _ _ _ _ _ _ _ _ _ _
        (fun l x => noPen_apply _ _ _ (by decide) l r x)
        (fun d => query_read _ 128 0 _ (by omega) (by omega) r d)
        (fun d => query_read _ 128 128 _ (by omega) (by omega) r d)
        (fun d => query_read _ 128 256 _ (by omega) (by omega) r d)
        (fun d => query_read _ 128 384 _ (by omega) (by omega) r d)
        (fun x d => keys_read _ _ _ 0 128 _ (by omega) (by omega) x d)
        (fun x d => keys_read _ _ _ 1 128 _ (by omega) (by omega) x d)
        (fun x d => keys_read _ _ _ 2 128 _ (by omega) (by omega) x d)
        (fun x d => keys_read _ _ _ 3 128 _ (by omega) (by omega) x d)
        (fun x d => values_read _ _ _ 0 128 _ (by omega) (by omega) x d)
        (fun x d => values_read _ _ _ 1 128 _ (by omega) (by omega) x d)
        (fun x d => values_read _ _ _ 2 128 _ (by omega) (by omega) x d)
        (fun x d => values_read _ _ _ 3 128 _ (by omega) (by omega) x d)
        (fun x => slab_canon 0 _ r x)
        (fun x => slab_canon 1 _ r x)
        (fun x => slab_canon 2 _ r x)
        (fun x => slab_canon 3 _ r x)
        (fun x => slab_canon 4 _ r x)
        (fun x => slab_canon 5 _ r x)
        (fun x => slab_canon 6 _ r x)
        (fun x => slab_canon 7 _ r x)
        (sink_read _ 0 _ _)
        (sink_read _ 1 _ _)
        (sink_read _ 2 _ _)
        (sink_read _ 3 _ _)
        (sink_read _ 4 _ _)
        (sink_read _ 5 _ _)
        (sink_read _ 6 _ _)
        (sink_read _ 7 _ _)
  · refine Eq.trans ?_ (leftAt_of m c t (y 1) (y 2) 0 r e (by rw [h1]; exact (Nat.zero_add _).symm) h2)
    refine (congrFun (stored0 _ _ _ _ _ _ _ _ _ _ _ _ _ _ _ _ _ _ _ _ _ _ _ _ _ _ _ _ _ _) _).trans ?_
    exact tile _ _ _ _ _ _ 7 (grid0.coords t 1).val 0 r e _ _ _ _ _ _ _ _ _ _ _ _ _ _ _ _ _ _ _ _ _ _ _ _ _ _ _ _ _
        (fun l x => penLo_apply _ _ _ (pay60_apply (grid0.coords t 1)) l r x)
        (fun d => query_read _ 0 0 _ (by omega) (by omega) r d)
        (fun d => query_read _ 0 128 _ (by omega) (by omega) r d)
        (fun d => query_read _ 0 256 _ (by omega) (by omega) r d)
        (fun d => query_read _ 0 384 _ (by omega) (by omega) r d)
        (fun x d => keys_read _ _ _ 0 0 _ (by omega) (by omega) x d)
        (fun x d => keys_read _ _ _ 1 0 _ (by omega) (by omega) x d)
        (fun x d => keys_read _ _ _ 2 0 _ (by omega) (by omega) x d)
        (fun x d => keys_read _ _ _ 3 0 _ (by omega) (by omega) x d)
        (fun x d => values_read _ _ _ 0 0 _ (by omega) (by omega) x d)
        (fun x d => values_read _ _ _ 1 0 _ (by omega) (by omega) x d)
        (fun x d => values_read _ _ _ 2 0 _ (by omega) (by omega) x d)
        (fun x d => values_read _ _ _ 3 0 _ (by omega) (by omega) x d)
        (fun x => slab_canon 0 _ r x)
        (fun x => slab_canon 1 _ r x)
        (fun x => slab_canon 2 _ r x)
        (fun x => slab_canon 3 _ r x)
        (fun x => slab_canon 4 _ r x)
        (fun x => slab_canon 5 _ r x)
        (fun x => slab_canon 6 _ r x)
        (fun x => slab_canon 7 _ r x)
        (sink_read _ 0 _ _)
        (sink_read _ 1 _ _)
        (sink_read _ 2 _ _)
        (sink_read _ 3 _ _)
        (sink_read _ 4 _ _)
        (sink_read _ 5 _ _)
        (sink_read _ 6 _ _)
        (sink_read _ 7 _ _)

theorem left_B (c : Dev nD) (t : Fin cfg0.N) (h : ¬t.val % 128 = 0) (y : S1x512x512.Idx) :
    (outsAt0 m c t t.isLt).1 y = leftAt m c t (y 1) (y 2) := by
  rw [outsAt0_B m c t h]
  frame_out
  have hT : ∀ y, View.read (Elt Ideal) (View.whole cc0_scratch2)
      ((Memref.isWhole_whole cc0_scratch2).unread (outsAt0 m c (t.val - 1) (by omega)).2) y = biasTable y := fun y =>
    (congrFun (Memref.IsWhole.read_unread (Memref.isWhole_whole cc0_scratch2) _) y).trans (table m c _ _ y)
  canon_tiles x h
  all_goals
    obtain ⟨r, e, hx, e1, e2⟩ := blk3 x
    rw [e1] at h1; rw [e2] at h2; rw [hx]
  · refine Eq.trans ?_ (leftAt_of m c t (y 1) (y 2) 3 r e (by rw [h1]; rfl) h2)
    refine (congrFun (stored3 _ _ _ _ _ _ _ _ _ _ _ _ _ _ _ _ _ _ _ _ _ _ _ _ _ _ _ _ _ _) _).trans ?_
    exact tile _ _ _ _ _ _ 7 (grid0.coords t 1).val 3 r e _ _ _ _ _ _ _ _ _ _ _ _ _ _ _ _ _ _ _ _ _ _ _ _ _ _ _ _ _
        (fun l x => penHi_apply _ _ _ (pay61_apply (grid0.coords t 1)) l r x)
        (fun d => query_read _ 384 0 _ (by omega) (by omega) r d)
        (fun d => query_read _ 384 128 _ (by omega) (by omega) r d)
        (fun d => query_read _ 384 256 _ (by omega) (by omega) r d)
        (fun d => query_read _ 384 384 _ (by omega) (by omega) r d)
        (fun x d => keys_read _ _ _ 0 384 _ (by omega) (by omega) x d)
        (fun x d => keys_read _ _ _ 1 384 _ (by omega) (by omega) x d)
        (fun x d => keys_read _ _ _ 2 384 _ (by omega) (by omega) x d)
        (fun x d => keys_read _ _ _ 3 384 _ (by omega) (by omega) x d)
        (fun x d => values_read _ _ _ 0 384 _ (by omega) (by omega) x d)
        (fun x d => values_read _ _ _ 1 384 _ (by omega) (by omega) x d)
        (fun x d => values_read _ _ _ 2 384 _ (by omega) (by omega) x d)
        (fun x d => values_read _ _ _ 3 384 _ (by omega) (by omega) x d)
        (fun x => slab_read _ hT 0 _ r x)
        (fun x => slab_read _ hT 1 _ r x)
        (fun x => slab_read _ hT 2 _ r x)
        (fun x => slab_read _ hT 3 _ r x)
        (fun x => slab_read _ hT 4 _ r x)
        (fun x => slab_read _ hT 5 _ r x)
        (fun x => slab_read _ hT 6 _ r x)
        (fun x => slab_read _ hT 7 _ r x)
        (sink_read _ 0 _ _)
        (sink_read _ 1 _ _)
        (sink_read _ 2 _ _)
        (sink_read _ 3 _ _)
        (sink_read _ 4 _ _)
        (sink_read _ 5 _ _)
        (sink_read _ 6 _ _)
        (sink_read _ 7 _ _)
  · refine Eq.trans ?_ (leftAt_of m c t (y 1) (y 2) 2 r e (by rw [h1]; rfl) h2)
    refine (congrFun (stored2 _ _ _ _ _ _ _ _ _ _ _ _ _ _ _ _ _ _ _ _ _ _ _ _ _ _ _ _ _) _).trans ?_
    exact tile _ _ _ _ _ _ 7 (grid0.coords t 1).val 2 r e _ _ _ _ _ _ _ _ _ _ _ _ _ _ _ _ _ _ _ _ _ _ _ _ _ _ _ _ _
        (fun l x => noPen_apply _ _ _ (by decide) l r x)
        (fun d => query_read _ 256 0 _ (by omega) (by omega) r d)
        (fun d => query_read _ 256 128 _ (by omega) (by omega) r d)
        (fun d => query_read _ 256 256 _ (by omega) (by omega) r d)
        (fun d => query_read _ 256 384 _ (by omega) (by omega) r d)
        (fun x d => keys_read _ _ _ 0 256 _ (by omega) (by omega) x d)
        (fun x d => keys_read _ _ _ 1 256 _ (by omega) (by omega) x d)
        (fun x d => keys_read _ _ _ 2 256 _ (by omega) (by omega) x d)
        (fun x d => keys_read _ _ _ 3 256 _ (by omega) (by omega) x d)
        (fun x d => values_read _ _ _ 0 256 _ (by omega) (by omega) x d)
        (fun x d => values_read _ _ _ 1 256 _ (by omega) (by omega) x d)
        (fun x d => values_read _ _ _ 2 256 _ (by omega) (by omega) x d)
        (fun x d => values_read _ _ _ 3 256 _ (by omega) (by omega) x d)
        (fun x => slab_read _ hT 0 _ r x)
        (fun x => slab_read _ hT 1 _ r x)
        (fun x => slab_read _ hT 2 _ r x)
        (fun x => slab_read _ hT 3 _ r x)
        (fun x => slab_read _ hT 4 _ r x)
        (fun x => slab_read _ hT 5 _ r x)
        (fun x => slab_read _ hT 6 _ r x)
        (fun x => slab_read _ hT 7 _ r x)
        (sink_read _ 0 _ _)
        (sink_read _ 1 _ _)
        (sink_read _ 2 _ _)
        (sink_read _ 3 _ _)
        (sink_read _ 4 _ _)
        (sink_read _ 5 _ _)
        (sink_read _ 6 _ _)
        (sink_read _ 7 _ _)
  · refine Eq.trans ?_ (leftAt_of m c t (y 1) (y 2) 1 r e (by rw [h1]; rfl) h2)
    refine (congrFun (stored1 _ _ _ _ _ _ _ _ _ _ _ _ _ _ _ _ _ _ _ _ _ _ _ _ _ _ _ _ _) _).trans ?_
    exact tile _ _ _ _ _ _ 7 (grid0.coords t 1).val 1 r e _ _ _ _ _ _ _ _ _ _ _ _ _ _ _ _ _ _ _ _ _ _ _ _ _ _ _ _ _
        (fun l x => noPen_apply _ _ _ (by decide) l r x)
        (fun d => query_read _ 128 0 _ (by omega) (by omega) r d)
        (fun d => query_read _ 128 128 _ (by omega) (by omega) r d)
        (fun d => query_read _ 128 256 _ (by omega) (by omega) r d)
        (fun d => query_read _ 128 384 _ (by omega) (by omega) r d)
        (fun x d => keys_read _ _ _ 0 128 _ (by omega) (by omega) x d)
        (fun x d => keys_read _ _ _ 1 128 _ (by omega) (by omega) x d)
        (fun x d => keys_read _ _ _ 2 128 _ (by omega) (by omega) x d)
        (fun x d => keys_read _ _ _ 3 128 _ (by omega) (by omega) x d)
        (fun x d => values_read _ _ _ 0 128 _ (by omega) (by omega) x d)
        (fun x d => values_read _ _ _ 1 128 _ (by omega) (by omega) x d)
        (fun x d => values_read _ _ _ 2 128 _ (by omega) (by omega) x d)
        (fun x d => values_read _ _ _ 3 128 _ (by omega) (by omega) x d)
        (fun x => slab_read _ hT 0 _ r x)
        (fun x => slab_read _ hT 1 _ r x)
        (fun x => slab_read _ hT 2 _ r x)
        (fun x => slab_read _ hT 3 _ r x)
        (fun x => slab_read _ hT 4 _ r x)
        (fun x => slab_read _ hT 5 _ r x)
        (fun x => slab_read _ hT 6 _ r x)
        (fun x => slab_read _ hT 7 _ r x)
        (sink_read _ 0 _ _)
        (sink_read _ 1 _ _)
        (sink_read _ 2 _ _)
        (sink_read _ 3 _ _)
        (sink_read _ 4 _ _)
        (sink_read _ 5 _ _)
        (sink_read _ 6 _ _)
        (sink_read _ 7 _ _)
  · refine Eq.trans ?_ (leftAt_of m c t (y 1) (y 2) 0 r e (by rw [h1]; exact (Nat.zero_add _).symm) h2)
    refine (congrFun (stored0 _ _ _ _ _ _ _ _ _ _ _ _ _ _ _ _ _ _ _ _ _ _ _ _ _ _ _ _ _ _) _).trans ?_
    exact tile _ _ _ _ _ _ 7 (grid0.coords t 1).val 0 r e _ _ _ _ _ _ _ _ _ _ _ _ _ _ _ _ _ _ _ _ _ _ _ _ _ _ _ _ _
        (fun l x => penLo_apply _ _ _ (pay60_apply (grid0.coords t 1)) l r x)
        (fun d => query_read _ 0 0 _ (by omega) (by omega) r d)
        (fun d => query_read _ 0 128 _ (by omega) (by omega) r d)
        (fun d => query_read _ 0 256 _ (by omega) (by omega) r d)
        (fun d => query_read _ 0 384 _ (by omega) (by omega) r d)
        (fun x d => keys_read _ _ _ 0 0 _ (by omega) (by omega) x d)
        (fun x d => keys_read _ _ _ 1 0 _ (by omega) (by omega) x d)
        (fun x d => keys_read _ _ _ 2 0 _ (by omega) (by omega) x d)
        (fun x d => keys_read _ _ _ 3 0 _ (by omega) (by omega) x d)
        (fun x d => values_read _ _ _ 0 0 _ (by omega) (by omega) x d)
        (fun x d => values_read _ _ _ 1 0 _ (by omega) (by omega) x d)
        (fun x d => values_read _ _ _ 2 0 _ (by omega) (by omega) x d)
        (fun x d => values_read _ _ _ 3 0 _ (by omega) (by omega) x d)
        (fun x => slab_read _ hT 0 _ r x)
        (fun x => slab_read _ hT 1 _ r x)
        (fun x => slab_read _ hT 2 _ r x)
        (fun x => slab_read _ hT 3 _ r x)
        (fun x => slab_read _ hT 4 _ r x)
        (fun x => slab_read _ hT 5 _ r x)
        (fun x => slab_read _ hT 6 _ r x)
        (fun x => slab_read _ hT 7 _ r x)
        (sink_read _ 0 _ _)
        (sink_read _ 1 _ _)
        (sink_read _ 2 _ _)
        (sink_read _ 3 _ _)
        (sink_read _ 4 _ _)
        (sink_read _ 5 _ _)
        (sink_read _ 6 _ _)
        (sink_read _ 7 _ _)

end Cert.AttnSampleIdeal.Hand
end
-- ==== Proof.AttnSampleValue.lean ====
/-
  The attention call at the second batch's size, its result array: every query's attention over its whole sequence.
-/
module
public import proofs.«01_k».proof.Proof.AttnSamplePoint
public import proofs.«01_k».proof.Proof.AttnWindow
public import proofs.«01_k».proof.Proof.Gen.AttnSampleIdeal.Value
@[expose] public section
set_option maxRecDepth 16384
open Idealize.ShloMosaic Idealize.ShloMosaic.TcCoe
noncomputable section
namespace Cert.AttnSampleIdeal.Hand
open Cert.AttnSampleIdeal Cert.AttnSampleIdeal.Gen Cert.Rows
open Cert.AttnIdeal.Hand (seen pointAt headsRow)

variable (m : (ℓ : Loc nD τ sig) → Buf (Elt Ideal) ℓ)

/-- The windows' block indices: the grid's point `t` is stretch `t % 8` of sequence `t / 8`; the keys are seen through the
    stretch's own 512 rows and the 128 before and after, at the sequence's ends some 128 rows of it. -/
theorem idx : ∀ t : Fin cfg0.N, win0_0.index t = ![0] ∧ win0_1.index t = ![t.val / 8, t.val % 8, 0]
    ∧ win0_2.index t = ![t.val / 8, 4 * (t.val % 8) - 1, 0] ∧ win0_3.index t = ![t.val / 8, t.val % 8, 0]
    ∧ win0_4.index t = ![t.val / 8, min (4 * (t.val % 8 + 1)) 31, 0] ∧ win0_5.index t = ![0, 0]
    ∧ win0_6.index t = ![t.val / 8, t.val % 8, 0] ∧ (grid0.coords t 1).val = t.val % 8 :=
  (by decide +kernel : ∀ t : Fin grid0.N, _)

/-- The sinks' scores. -/
abbrev sinks (c : Dev nD) : Fin 8 → EReal := fun h => (show FVec Ideal S8 .f32 from m ((c : Thread nD τ).loc main_arg0)) (ix1 h)
/-- The query at a position of a sequence. -/
abbrev query (c : Dev nD) (b : Fin 16) (T : Fin 4096) : Fin 512 → EReal := fun j =>
  (show FVec Ideal S16x4096x512 .bf16 from m ((c : Thread nD τ).loc main_arg1)) (ix3 b T j)
/-- A sequence's keys beside its values. -/
abbrev pairs (c : Dev nD) (b : Fin 16) : Fin 4096 → Fin 256 → EReal := fun s j =>
  (show FVec Ideal S16x4096x256 .bf16 from m ((c : Thread nD τ).loc main_arg2)) (ix3 b s j)
/-- The norm's gain. -/
abbrev gain (c : Dev nD) : Fin 512 → EReal := fun j => (show FVec Ideal S1x512 .f32 from m ((c : Thread nD τ).loc main_arg3)) (ix2 0 j)

theorem iblk0 (c : Dev nD) (t : Fin cfg0.N) (h : Fin 8) :
    (show FVec Ideal S8 .f32 from iblk m c 0 t) (ix1 h) = sinks m c h := by
  blk_ext [iblk, V, idx t]
theorem iblk5 (c : Dev nD) (t : Fin cfg0.N) (j : Fin 512) :
    (show FVec Ideal S1x512 .f32 from iblk m c 5 t) (ix2 0 j) = gain m c j := by
  blk_ext [iblk, V, idx t]
theorem iblk1 (c : Dev nD) (t : Fin cfg0.N) (r : Fin 512) (j : Fin 512) (b : Fin 16) (T : Fin 4096) (hb : b.val = t.val / 8)
    (hT : T.val = t.val % 8 * 512 + r.val) :
    (show FVec Ideal S1x512x512 .bf16 from iblk m c 1 t) (ix3 0 r j) = query m c b T j := by
  blk_ext [iblk, V, idx t, hT, hb]
theorem iblk2 (c : Dev nD) (t : Fin cfg0.N) (r : Fin 128) (j : Fin 256) (b : Fin 16) (s : Fin 4096) (hb : b.val = t.val / 8)
    (hs : s.val = (4 * (t.val % 8) - 1) * 128 + r.val) :
    (show FVec Ideal S1x128x256 .bf16 from iblk m c 2 t) (ix3 0 r j) = pairs m c b s j := by
  blk_ext [iblk, V, idx t, hs, hb]
theorem iblk3 (c : Dev nD) (t : Fin cfg0.N) (r : Fin 512) (j : Fin 256) (b : Fin 16) (s : Fin 4096) (hb : b.val = t.val / 8)
    (hs : s.val = t.val % 8 * 512 + r.val) :
    (show FVec Ideal S1x512x256 .bf16 from iblk m c 3 t) (ix3 0 r j) = pairs m c b s j := by
  blk_ext [iblk, V, idx t, hs, hb]
theorem iblk4 (c : Dev nD) (t : Fin cfg0.N) (r : Fin 128) (j : Fin 256) (b : Fin 16) (s : Fin 4096) (hb : b.val = t.val / 8)
    (hs : s.val = min (4 * (t.val % 8 + 1)) 31 * 128 + r.val) :
    (show FVec Ideal S1x128x256 .bf16 from iblk m c 4 t) (ix3 0 r j) = pairs m c b s j := by
  blk_ext [iblk, V, idx t, hs, hb]

/-- A row in view, where it is a position of the sequence. -/
theorem seen_pairs (c : Dev nD) (t : Fin cfg0.N) (n : Fin 768) (j : Fin 256) (b : Fin 16) (s : Fin 4096) (hb : b.val = t.val / 8)
    (hs : s.val + 128 = 512 * (t.val % 8) + n.val) :
    seen (iblk m c 2 t) (iblk m c 3 t) (iblk m c 4 t) n j = pairs m c b s j := by
  unfold seen
  split_ifs with h h'
  · exact iblk2 m c t _ j b s hb (by dsimp only; omega)
  · exact iblk3 m c t _ j b s hb (by dsimp only; omega)
  · exact iblk4 m c t _ j b s hb (by dsimp only; omega)

/-- The attention call's function: a query's heads over its sequence, divided by their root mean square. -/
def attended (c : Dev nD) (b : Fin 16) (T : Fin 4096) (d : Fin 512) : EReal :=
  normRow (heads (sinks m c) (query m c b T) (pairs m c b) T) (gain m c d) d

theorem left_attended (c : Dev nD) (t : Fin cfg0.N) (R d : Fin 512) (b : Fin 16) (T : Fin 4096) (hb : b.val = t.val / 8)
    (hT : T.val = t.val % 8 * 512 + R.val) : leftAt m c t R d = attended m c b T d := by
  have hi : (grid0.coords t 1).val = t.val % 8 := (idx t).2.2.2.2.2.2.2
  unfold leftAt pointAt attended
  rw [hi]
  refine congrArg₂ (normRow · · d) (funext fun e => ?_) (iblk5 m c t d)
  have H := heads_window 7 (t.val % 8) rfl (by omega) ⟨R.val / 128, by omega⟩ ⟨R.val % 128, by omega⟩ T
    (by dsimp only; omega) (query m c b T)
    (fun g x d => seen (iblk m c 2 t) (iblk m c 3 t) (iblk m c 4 t) ⟨128 * (R.val / 128) + x.val, by omega⟩
      ⟨64 * g.val + d.val, by omega⟩)
    (fun g x d => seen (iblk m c 2 t) (iblk m c 3 t) (iblk m c 4 t) ⟨128 * (R.val / 128) + x.val, by omega⟩
      ⟨128 + (64 * g.val + d.val), by omega⟩)
    (pairs m c b) (sinks m c) (fun g x d s hs => seen_pairs m c t _ _ b s hb hs)
    (fun g x d s hs => seen_pairs m c t _ _ b s hb hs) e
  refine Eq.trans ?_ H
  refine congrArg₂ (fun Q S => headsRow Q _ _ _ _ S e) (funext fun h => funext fun d => ?_) (funext fun h => iblk0 m c t h)
  exact iblk1 m c t _ _ b T hb (by dsimp only; omega)

/-- The result array. -/
theorem final (c : Dev nD) : (dats m 0 c).arrAt 6 (cfgs 0).N =
    fun i : S16x4096x512.Idx => attended m c (i 0) (i 1) (i 2) := by
  refine (dats m 0 c).arrAt_eq_of_covers 6 _ (by decide +kernel) fun t _ y => ?_
  blk_simp
  rw [after0_6]
  have e : ∀ (y : S1x512x512.Idx) (i : S16x4096x512.Idx) (h0 : (i 0).val = t.val / 8) (h1 : (i 1).val = t.val % 8 * 512 + (y 1).val)
      (h2 : (i 2).val = (y 2).val), (outsAt0 m c t t.isLt).1 y = attended m c (i 0) (i 1) (i 2) := by
    intro y i h0 h1 h2
    rw [show i 2 = y 2 from Fin.ext h2]
    refine Eq.trans ?_ (left_attended m c t (y 1) (y 2) (i 0) (i 1) h0 h1)
    by_cases h : t.val % 128 = 0
    · exact left_A m c t h y
    · exact left_B m c t h y
  exact e y _ (by blk_simp [idx t]) (by blk_simp [idx t]) (by blk_simp [idx t])

end Cert.AttnSampleIdeal.Hand
end
-- ==== Proof.RefAttnSampleScore.lean ====
/-
  The attention call at the second batch's size, as plain mathematics: the reference's masked scores.
-/
module
public import proofs.«01_k».proof.Proof.RefScore
public import proofs.«01_k».proof.Proof.Gen.RefAttnSampleIdeal.Read
@[expose] public section
set_option maxRecDepth 16384
open Idealize.ShloMosaic Idealize.ShloMosaic.TcCoe Idealize.SL.Sem
noncomputable section
namespace Cert.RefAttnSampleIdeal.Hand
open Cert.RefAttnSampleIdeal Cert.RefAttnSampleIdeal.Gen Cert.RefAttnSampleIdeal.Read Cert.Rows
open Cert.RefAttnIdeal.Hand (lit_two lit_eight lit_minus_eight lit_bot slope_eq mask_eq)

variable (x1 : FVec Ideal S16x4096x512 .bf16) (x2 : FVec Ideal S16x4096x256 .bf16)

/-- A head's slope: a half to the power of the head's number, counted from one. -/
theorem v16_apply (h : Fin 8) : val_main_v16 (F := Ideal) (ix1 h) = (((1 / 2) ^ (h.val + 1) : ℝ) : EReal) := by
  pointwise [val_main_v16, val_main_v15, val_main_cst_2, val_main_v14, val_main_v13, val_main_cst_1, val_main_v12,
    val_main_v11, val_main_cst_0, val_main_v10, val_main_v9, val_main_cst, val_main_v8]
  rw [float_word _ (by omega), lit_two, lit_eight, lit_minus_eight]
  exact slope_eq h.val

/-- The distance of two positions, as a word. -/
theorem v21_apply (t s : Fin 4096) : val_main_v21 (F := Ideal) (ix2 t s) = BitVec.ofNat 32 (gap s.val t.val) := by
  pointwise [val_main_v21, val_main_v20, val_main_v19, val_main_v18]
  exact abs_word _ _ (by omega) (by omega)

/-- The inner product of a query with a key. -/
theorem v23_apply (b : Fin 16) (k : Fin 2) (g : Fin 4) (t s : Fin 4096) :
    val_main_v23 (F := Ideal) x1 x2 (ix5 b k g t s) = ∑ d : Fin 64, x1 (ix3 b t ⟨64 * (4 * k.val + g.val) + d.val, by omega⟩)
      * x2 (ix3 b s ⟨64 * ((4 * k.val + g.val) / 4) + d.val, by omega⟩) := by
  pointwise [val_main_v23, val_main_v22, val_main_v4, val_main_v3, val_main_v2, val_main_v1, val_main_v0]
  refine Finset.sum_congr rfl fun d _ => ?_
  rw [mul_comm]
  refine congrArg₂ (· * ·) (congrArg (fun z => x1 (ix3 b t z)) (Fin.ext ?_)) (congrArg (fun z => x2 (ix3 b s z)) (Fin.ext ?_))
  · show k.val * 256 + g.val * 64 + d.val = 64 * (4 * k.val + g.val) + d.val
    omega
  · show k.val * 64 + d.val = 64 * ((4 * k.val + g.val) / 4) + d.val
    omega

theorem gap_lt (s t : Fin 4096) : gap s.val t.val < 2 ^ 31 := by unfold gap; omega

/-- The masked scores. -/
theorem v33_apply (b : Fin 16) (k : Fin 2) (g : Fin 4) (t s : Fin 4096) :
    val_main_v33 (F := Ideal) x1 x2 (ix5 b k g t s) =
      score (fun j => x1 (ix3 b t j)) (fun s j => x2 (ix3 b s j)) t ⟨4 * k.val + g.val, by omega⟩ s := by
  pointwise [val_main_v33, val_main_call0_v1, val_main_v32, val_main_v31, val_main_c, val_main_v30, val_main_v29, val_main_v28,
    val_main_v27, val_main_v26, val_main_v25, val_main_v24, val_main_v17, val_main_call0_v2, val_main_call0_v0, val_main_cst_3,
    v23_apply, v21_apply, v16_apply]
  have hb : (id (constant (F := Ideal) S_ FTy.f32 4286578688#32) ix0 : EReal) = ⊥ := lit_bot
  rw [hb, mul_comm k.val 4]
  exact mask_eq _ (4 * k.val + g.val) _ (gap_lt s t)

end Cert.RefAttnSampleIdeal.Hand
-- ==== Proof.RefAttnSampleValue.lean ====
/-
  The attention call at the second batch's size, as plain mathematics: every row of the reference's result is the attention of
  one query over its sequence.
-/
module
public import proofs.«01_k».proof.Proof.RefAttnValue
public import proofs.«01_k».proof.Proof.RefAttnSampleScore
@[expose] public section
set_option maxRecDepth 16384
open Idealize.ShloMosaic Idealize.ShloMosaic.TcCoe Idealize.SL.Sem
noncomputable section
namespace Cert.RefAttnSampleIdeal.Hand
open Cert.RefAttnSampleIdeal Cert.RefAttnSampleIdeal.Gen Cert.RefAttnSampleIdeal.Read Cert.Rows
open Cert.RefAttnIdeal.Hand (lit_bot fold_last)

/-- Scores joined with a column, at a position. -/
theorem joined_apply (y : FVec Ideal S16x2x4x4096x4096 .f32) (z : FVec Ideal S16x2x4x4096x1 .f32) (b : Fin 16) (k : Fin 2)
    (g : Fin 4) (t : Fin 4096) (x : Fin 4097) :
    concatenate S16x2x4x4096x4097 4 [⟨S16x2x4x4096x4096, y⟩, ⟨S16x2x4x4096x1, z⟩]
        concatenates_S16x2x4x4096x4096_S16x2x4x4096x1_S16x2x4x4096x4097_d4 (ix5 b k g t x)
      = if h : x.val < 4096 then y (ix5 b k g t ⟨x.val, h⟩) else z (ix5 b k g t 0) := by
  pointwise
  by_cases h : x.val < 4096
  · rw [dif_pos h, dif_pos h]
  · rw [dif_neg h, dif_neg h]
    exact congrArg (fun q => z (ix5 b k g t q)) (Fin.ext (show x.val - 4096 = 0 by omega))

/-- The greatest entry of a joined row. -/
theorem max_apply (y : FVec Ideal S16x2x4x4096x4097 .f32) (b : Fin 16) (k : Fin 2) (g : Fin 4) (t : Fin 4096) :
    Host.reduce (FloatOps.maximumf (φ := .f32) (F := Ideal)) y (val_main_cst_4 (F := Ideal))
        reducesTo_S16x2x4x4096x4097_S16x2x4x4096_d4 h_S_ (ix4 b k g t)
      = Finset.univ.fold max (val_main_cst_4 (F := Ideal) (Shape.Idx.first h_S_)) (fun s : Fin 4097 => y (ix5 b k g t s)) := by
  pointwise

variable (x0 : FVec Ideal S8 .f32) (x1 : FVec Ideal S16x4096x512 .bf16) (x2 : FVec Ideal S16x4096x256 .bf16) (x3 : FVec Ideal S1x512 .f32)

/-- The scores of one head of one query. -/
abbrev scores (b : Fin 16) (k : Fin 2) (g : Fin 4) (t : Fin 4096) : Fin 4096 → EReal :=
  score (fun j => x1 (ix3 b t j)) (fun s j => x2 (ix3 b s j)) t ⟨4 * k.val + g.val, by omega⟩
/-- The head's sink. -/
abbrev sinkAt (k : Fin 2) (g : Fin 4) : EReal := x0 (ix1 ⟨4 * k.val + g.val, by omega⟩)

/-- The sinks' column. -/
theorem v35_apply (b : Fin 16) (k : Fin 2) (g : Fin 4) (t : Fin 4096) :
    val_main_v35 (F := Ideal) x0 (ix5 b k g t 0) = sinkAt x0 k g := by
  pointwise [val_main_v35, val_main_v34]
  exact congrArg (fun z => x0 (ix1 z)) (Fin.ext (show k.val * 4 + g.val = 4 * k.val + g.val by omega))

/-- A joined row's scores. -/
theorem v36_score (b : Fin 16) (k : Fin 2) (g : Fin 4) (t s : Fin 4096) :
    val_main_v36 (F := Ideal) x0 x1 x2 (ix5 b k g t s.castSucc) = scores x1 x2 b k g t s := by
  unfold val_main_v36
  rw [joined_apply, dif_pos (show s.castSucc.val < 4096 from s.isLt)]
  exact v33_apply x1 x2 b k g t s

/-- A joined row's last entry. -/
theorem v36_sink (b : Fin 16) (k : Fin 2) (g : Fin 4) (t : Fin 4096) :
    val_main_v36 (F := Ideal) x0 x1 x2 (ix5 b k g t (Fin.last 4096)) = sinkAt x0 k g := by
  unfold val_main_v36
  rw [joined_apply, dif_neg (show ¬ (Fin.last 4096).val < 4096 from Nat.lt_irrefl 4096)]
  exact v35_apply x0 b k g t

/-- The greatest score, the sink's among them. -/
theorem v39_apply (b : Fin 16) (k : Fin 2) (g : Fin 4) (t : Fin 4096) :
    val_main_v39 (F := Ideal) x0 x1 x2 (ix4 b k g t) = top (scores x1 x2 b k g t) (sinkAt x0 k g) := by
  rw [val_main_v39_apply, val_main_v38_apply, val_main_cst_5_apply]
  unfold val_main_v37
  rw [max_apply, val_main_cst_4_apply]
  show max (Ideal.ofBits .f32 4286578688#32) (Finset.univ.fold max (Ideal.ofBits .f32 4286578688#32) _) = _
  rw [lit_bot, max_eq_right bot_le, fold_last, v36_sink]
  simp only [v36_score]
  rfl

/-- The exponential of a joined row's entry less the greatest. -/
theorem v43_apply (b : Fin 16) (k : Fin 2) (g : Fin 4) (t : Fin 4096) (x : Fin 4097) :
    val_main_v43 (F := Ideal) x0 x1 x2 (ix5 b k g t x)
      = Ideal.exp (val_main_v36 (F := Ideal) x0 x1 x2 (ix5 b k g t x) - top (scores x1 x2 b k g t) (sinkAt x0 k g)) := by
  pointwise [val_main_v43, val_main_v42, val_main_v41, val_main_v40, v39_apply]

/-- The exponentials' total. -/
theorem v44_apply (b : Fin 16) (k : Fin 2) (g : Fin 4) (t : Fin 4096) :
    val_main_v44 (F := Ideal) x0 x1 x2 (ix4 b k g t) = total (scores x1 x2 b k g t) (sinkAt x0 k g) := by
  pointwise [val_main_v44, val_main_cst_6]
  rw [Fin.sum_univ_castSucc]
  simp only [v43_apply, v36_score, v36_sink]
  rfl

/-- The weights: each exponential divided by the total. -/
theorem v48_apply (b : Fin 16) (k : Fin 2) (g : Fin 4) (t s : Fin 4096) :
    val_main_v48 (F := Ideal) x0 x1 x2 (ix5 b k g t s)
      = Ideal.div (wt (scores x1 x2 b k g t) (sinkAt x0 k g) s) (total (scores x1 x2 b k g t) (sinkAt x0 k g)) := by
  rw [← v44_apply]
  unfold wt
  rw [← v36_score x0, ← v43_apply]
  pointwise [val_main_v48, val_main_v47, val_main_v46, val_main_v45]
  rfl

/-- The heads' means of the values. -/
theorem v50_apply (b : Fin 16) (t : Fin 4096) (k : Fin 2) (g : Fin 4) (d : Fin 64) :
    val_main_v50 (F := Ideal) x0 x1 x2 (ix5 b t k g d)
      = headRef (scores x1 x2 b k g t) (sinkAt x0 k g) (fun s => x2 (ix3 b s ⟨128 + (64 * k.val + d.val), by omega⟩)) := by
  pointwise [val_main_v50, val_main_v49, val_main_v7, val_main_v6, val_main_v5, v48_apply]
  simp only [mul_comm k.val 64]
  rfl

/-- The heads side by side. -/
theorem v51_apply (b : Fin 16) (t : Fin 4096) (c : Fin 512) :
    val_main_v51 (F := Ideal) x0 x1 x2 (ix3 b t c)
      = headRef (score (fun j => x1 (ix3 b t j)) (fun s j => x2 (ix3 b s j)) t ⟨c.val / 64, by omega⟩) (x0 (ix1 ⟨c.val / 64, by omega⟩))
          (fun s => x2 (ix3 b s ⟨128 + (64 * (c.val / 256) + c.val % 64), by omega⟩)) := by
  pointwise [val_main_v51, v50_apply]
  have e : (⟨4 * (c.val / 256) + c.val / 64 % 4, by omega⟩ : Fin 8) = ⟨c.val / 64, by omega⟩ :=
    Fin.ext (show 4 * (c.val / 256) + c.val / 64 % 4 = c.val / 64 by omega)
  exact congrArg (fun h : Fin 8 => headRef (score (fun j => x1 (ix3 b t j)) (fun s j => x2 (ix3 b s j)) t h) (x0 (ix1 h))
    fun s => x2 (ix3 b s ⟨128 + (64 * (c.val / 256) + c.val % 64), by omega⟩)) e

/-- The reference's result, row by row. -/
theorem v65_apply (b : Fin 16) (t : Fin 4096) (c : Fin 512) :
    val_main_v65 (F := Ideal) x0 x1 x2 x3 (ix3 b t c)
      = normRow (fun c => val_main_v51 (F := Ideal) x0 x1 x2 (ix3 b t c)) (x3 (ix2 0 c)) c := by
  pointwise [val_main_v65, val_main_v64, val_main_v63, val_main_v62, val_main_v61, val_main_v60, val_main_v59, val_main_v58,
    val_main_v57, val_main_cst_9, val_main_v56, val_main_v55, val_main_cst_8, val_main_v54, val_main_v53, val_main_cst_7,
    val_main_v52]
  rfl

end Cert.RefAttnSampleIdeal.Hand
-- ==== Proof.AttnSampleClaim.lean ====
/-
  The attention call at the second batch's size computes its reference's result, over the extended reals, where the sinks, the
  queries and the keys are finite.
-/
module
public import proofs.«01_k».proof.Defs
public import proofs.«01_k».proof.Proof.AttnClaim
public import proofs.«01_k».proof.Proof.AttnSampleValue
public import proofs.«01_k».proof.Proof.RefAttnSampleValue
public import proofs.«01_k».proof.Proof.Gen.RefAttnSampleIdeal.Run
public import proofs.«01_k».proof.Proof.Gen.Pre_finite_sample
public import Idealize.ShloMosaic.Lib.ReduceAll
@[expose] public section
set_option maxRecDepth 16384
open Idealize.ShloMosaic Idealize.ShloMosaic.TcCoe Idealize.SL.Sem
noncomputable section
namespace Cert.AttnSampleClaim
open Cert.Rows Cert.AttnSampleIdeal.Hand
open Cert.AttnClaim (real_of_lt score_lt)

section Finite
variable (x0 : FVec Ideal Cert.Pre_finite_sample.S8 .f32) (x1 : FVec Ideal Cert.Pre_finite_sample.S16x4096x512 .bf16)
    (x2 : FVec Ideal Cert.Pre_finite_sample.S16x4096x256 .bf16) (x3 : FVec Ideal Cert.Pre_finite_sample.S1x512 .f32)
    (h : Cert.Pre_finite_sample.fn (F := Ideal) x0 x1 x2 x3 = fun _ => 1#1)
include h

/-- The precondition, read: the sinks, the queries and the keys are real. -/
theorem finite : (∀ i, ∃ r : ℝ, x0 (ix1 i) = r) ∧ (∀ b t j, ∃ r : ℝ, x1 (ix3 b t j) = r)
    ∧ (∀ (b : Fin 16) (s : Fin 4096) (j : Fin 128), ∃ r : ℝ, x2 (ix3 b s ⟨j.val, by omega⟩) = r) := by
  have h0 := congrFun h ix0
  unfold Cert.Pre_finite_sample.fn at h0
  obtain ⟨h12, h3⟩ := IntOp.andi_eq_one.mp h0
  obtain ⟨h1, h2⟩ := IntOp.andi_eq_one.mp h12
  refine ⟨fun i => ?_, fun b t j => ?_, fun b s j => ?_⟩
  · have k := Host.reduce_andi_all _ _ _ _ _ h1 (ix1 i)
    pointwise at k
    exact real_of_lt _ k
  · have k := Host.reduce_andi_all _ _ _ _ _ h2 (ix3 b t j)
    pointwise at k
    exact real_of_lt _ k
  · have k := Host.reduce_andi_all _ _ _ _ _ h3 (ix3 b s j)
    pointwise at k
    exact real_of_lt _ k
end Finite

/-- Where the sinks, queries and keys are real, a row of the reference's result is the kernel's: its heads divide the weighted
    sums by the totals. -/
theorem rows (x0 : FVec Ideal Cert.RefAttnSampleIdeal.S8 .f32) (x1 : FVec Ideal Cert.RefAttnSampleIdeal.S16x4096x512 .bf16)
    (x2 : FVec Ideal Cert.RefAttnSampleIdeal.S16x4096x256 .bf16) (x3 : FVec Ideal Cert.RefAttnSampleIdeal.S1x512 .f32)
    (f0 : ∀ i, ∃ r : ℝ, x0 (ix1 i) = r) (f1 : ∀ b t j, ∃ r : ℝ, x1 (ix3 b t j) = r)
    (f2 : ∀ (b : Fin 16) (s : Fin 4096) (j : Fin 128), ∃ r : ℝ, x2 (ix3 b s ⟨j.val, by omega⟩) = r)
    (b : Fin 16) (t : Fin 4096) (d : Fin 512) :
    Cert.RefAttnSampleIdeal.Read.val_main_v65 (F := Ideal) x0 x1 x2 x3 (ix3 b t d)
      = normRow (heads (fun h => x0 (ix1 h)) (fun j => x1 (ix3 b t j)) (fun s j => x2 (ix3 b s j)) t) (x3 (ix2 0 d)) d := by
  rw [Cert.RefAttnSampleIdeal.Hand.v65_apply]
  refine congrArg (fun o => normRow o (x3 (ix2 0 d)) d) (funext fun e => ?_)
  rw [Cert.RefAttnSampleIdeal.Hand.v51_apply]
  obtain ⟨s, hs⟩ := f0 ⟨e.val / 64, by omega⟩
  unfold heads
  have hs' : (fun h : Fin 8 => x0 (ix1 h)) ⟨e.val / 64, by omega⟩ = (s : EReal) := hs
  rw [hs, hs']
  exact (headAt_eq_headRef (score (fun j => x1 (ix3 b t j)) (fun s j => x2 (ix3 b s j)) t ⟨e.val / 64, by omega⟩) s _ fun x => score_lt _ (fun s j => x2 (ix3 b s j)) _ _ _ (f1 b t) (f2 b)).symm

/-- From memories that agree on the arguments, the sinks, queries and keys finite, the kernel's result and the reference's are
    the same array: every query's attention over its sequence, normalised. -/
theorem algebraic : Cert.algebraic_AttnSampleIdeal_RefAttnSampleIdeal_pre_finite_sample := by
  intro m g m' g' hpre hagree
  refine ⟨fun c i => attended m c (i 0) (i 1) (i 2),
    (θ_run _ _ _).mono (fun r h c => ?_) (Cert.AttnSampleIdeal.Value.run_blocks m g),
    (θ_run _ _ _).mono (fun r h c => ?_) (Cert.RefAttnSampleIdeal.Value.run m' g')⟩
  · obtain ⟨h6, ha⟩ := h c
    exact ⟨h6.trans (final m c), ha⟩
  · obtain ⟨h6, ha⟩ := h c
    obtain ⟨e0, e1, e2, e3⟩ := hagree c
    obtain ⟨f0, f1, f2⟩ := finite _ _ _ _ (hpre c)
    have k := h6.trans (Cert.RefAttnSampleIdeal.Read.val_main_v65_eq m' c)
    rw [e0, e1, e2, e3] at k
    refine ⟨k.trans ?_, ha⟩
    funext i
    refine (congrArg _ (eq_ix3 i)).trans (rows _ _ _ _ f0 f1 f2 (i 0) (i 1) (i 2))

end Cert.AttnSampleClaim
-- ==== Proof.lean ====
/-
  The certificate's claim from its parts: the generated facts and frames, the references' frames (RefFrames), and the value
  claims (PreClaim, PostClaim, PreSampleClaim, PostSampleClaim, AttnClaim,
  AttnSampleClaim).
-/
module

public import proofs.«01_k».proof.Defs
public import proofs.«01_k».proof.Proof.Gen.Attn.Frame
public import proofs.«01_k».proof.Proof.Gen.AttnIdeal.Frame
public import proofs.«01_k».proof.Proof.Gen.Pre.Frame
public import proofs.«01_k».proof.Proof.Gen.PreIdeal.Frame
public import proofs.«01_k».proof.Proof.Gen.Post.Frame
public import proofs.«01_k».proof.Proof.Gen.PostIdeal.Frame
public import proofs.«01_k».proof.Proof.Gen.PostSample.Frame
public import proofs.«01_k».proof.Proof.Gen.PostSampleIdeal.Frame
public import proofs.«01_k».proof.Proof.Gen.PreSample.Frame
public import proofs.«01_k».proof.Proof.Gen.PreSampleIdeal.Frame
public import proofs.«01_k».proof.Proof.Gen.AttnSample.Frame
public import proofs.«01_k».proof.Proof.Gen.AttnSampleIdeal.Frame
public import proofs.«01_k».proof.Proof.RefFrames
public import proofs.«01_k».proof.Proof.PreClaim
public import proofs.«01_k».proof.Proof.PostClaim
public import proofs.«01_k».proof.Proof.PostSampleClaim
public import proofs.«01_k».proof.Proof.PreSampleClaim
public import proofs.«01_k».proof.Proof.AttnClaim
public import proofs.«01_k».proof.Proof.AttnSampleClaim
public import proofs.«01_k».proof.Proof.Gen.Pre_finite
public import proofs.«01_k».proof.Proof.Gen.Pre_finite_sample

@[expose] public section

noncomputable section

namespace Cert.Proof

open Idealize.ShloMosaic Idealize.SL.Sem

/-- Everything the certificate claims. -/
theorem claim : Cert.Claim :=
  ⟨Cert.Attn.Gen.facts, Cert.AttnIdeal.Gen.facts, Cert.RefAttnIdeal.Gen.facts, Cert.Pre.Gen.facts, Cert.PreIdeal.Gen.facts,
    Cert.RefPreIdeal.Gen.facts, Cert.Post.Gen.facts, Cert.PostIdeal.Gen.facts, Cert.RefPostIdeal.Gen.facts,
    Cert.PostSample.Gen.facts, Cert.PostSampleIdeal.Gen.facts, Cert.RefPostSampleIdeal.Gen.facts,
    Cert.PreSample.Gen.facts, Cert.PreSampleIdeal.Gen.facts, Cert.RefPreSampleIdeal.Gen.facts,
    Cert.AttnSample.Gen.facts, Cert.AttnSampleIdeal.Gen.facts, Cert.RefAttnSampleIdeal.Gen.facts, Cert.Pre_finite.Gen.facts,
    Cert.Pre_finite_sample.Gen.facts,
    fun m ρ _ => Cert.Attn.Gen.frame m ρ, fun m ρ _ => Cert.AttnIdeal.Gen.frame m ρ,
    fun m ρ _ => Cert.AttnIdeal.Gen.frame m ρ, Cert.RefFrames.attn, fun m ρ _ => Cert.RefFrames.attn m ρ trivial,
    fun m ρ _ => Cert.Pre.Gen.frame m ρ, fun m ρ _ => Cert.PreIdeal.Gen.frame m ρ, Cert.RefFrames.pre,
    fun m ρ _ => Cert.Post.Gen.frame m ρ, fun m ρ _ => Cert.PostIdeal.Gen.frame m ρ, Cert.RefFrames.post,
    fun m ρ _ => Cert.PostSample.Gen.frame m ρ, fun m ρ _ => Cert.PostSampleIdeal.Gen.frame m ρ, Cert.RefFrames.postSample,
    fun m ρ _ => Cert.PreSample.Gen.frame m ρ, fun m ρ _ => Cert.PreSampleIdeal.Gen.frame m ρ, Cert.RefFrames.preSample,
    fun m ρ _ => Cert.AttnSample.Gen.frame m ρ, fun m ρ _ => Cert.AttnSampleIdeal.Gen.frame m ρ,
    fun m ρ _ => Cert.AttnSampleIdeal.Gen.frame m ρ, Cert.RefFrames.attnSample,
    fun m ρ _ => Cert.RefFrames.attnSample m ρ trivial,
    IdealRules.named_const.statement Cert.AttnIdeal.κ "neg" .f32 0xF149F2CA#32 ⊥ rfl,
    Cert.AttnClaim.algebraic, trivial, Cert.PreClaim.algebraic, trivial, Cert.PostClaim.algebraic,
    trivial, Cert.PostSampleClaim.algebraic, trivial, Cert.PreSampleClaim.algebraic,
    IdealRules.named_const.statement Cert.AttnSampleIdeal.κ "neg" .f32 0xF149F2CA#32 ⊥ rfl, Cert.AttnSampleClaim.algebraic⟩

end Cert.Proof

end
